-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S4 : Shape := ⟨1, ![4]⟩
abbrev S_ : Shape := ⟨0, ![]⟩
abbrev S1024x8192 : Shape := ⟨2, ![1024, 8192]⟩
abbrev S1024x1024 : Shape := ⟨2, ![1024, 1024]⟩
abbrev S4x1024x1024 : Shape := ⟨3, ![4, 1024, 1024]⟩
abbrev S3x4 : Shape := ⟨2, ![3, 4]⟩
abbrev S4x4 : Shape := ⟨2, ![4, 4]⟩
abbrev S1x1024x1024 : Shape := ⟨3, ![1, 1024, 1024]⟩
abbrev S1x1 : Shape := ⟨2, ![1, 1]⟩
abbrev S1x256x1024 : Shape := ⟨3, ![1, 256, 1024]⟩
abbrev S256x1024 : Shape := ⟨2, ![256, 1024]⟩

abbrev nBuf : Space → Nat
  | .hbm => 35
  | .vmem => 5
  | .smem => 3
  | _ => 0

abbrev bufTy : (tb : Table) → Fin (tcTables nBuf tb) → BufTy
  | .hbm, ⟨0, _⟩ => ⟨S4096x1024, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S_, .i32⟩
  | .hbm, ⟨22, _⟩ => ⟨S4, .i32⟩
  | .hbm, ⟨23, _⟩ => ⟨S4, .i1⟩
  | .hbm, ⟨24, _⟩ => ⟨S_, .i32⟩
  | .hbm, ⟨25, _⟩ => ⟨S4, .i32⟩
  | .hbm, ⟨26, _⟩ => ⟨S4, .i1⟩
  | .hbm, ⟨27, _⟩ => ⟨S_, .i32⟩
  | .hbm, ⟨28, _⟩ => ⟨S_, .i1⟩
  | .hbm, ⟨29, _⟩ => ⟨S4, .i1⟩
  | .hbm, ⟨30, _⟩ => ⟨S4, .i1⟩
  | .hbm, ⟨31, _⟩ => ⟨S4, .i1⟩
  | .hbm, ⟨32, _⟩ => ⟨S4, .i32⟩
  | .hbm, ⟨33, _⟩ => ⟨S4, .i32⟩
  | .hbm, ⟨34, _⟩ => ⟨S1024x8192, .f32⟩
  | .local _ .vmem, ⟨0, _⟩ => ⟨S4096x1024, .fp8e5m2⟩
  | .local _ .vmem, ⟨1, _⟩ => ⟨S1024x1024, .fp8e5m2⟩
  | .local _ .vmem, ⟨2, _⟩ => ⟨S1024x1024, .fp8e5m2⟩
  | .local _ .vmem, ⟨3, _⟩ => ⟨S1024x8192, .f32⟩
  | .local _ .vmem, ⟨4, _⟩ => ⟨S4x1024x1024, .fp8e5m2⟩
  | .local _ .smem, ⟨0, _⟩ => ⟨S4, .i32⟩
  | .local _ .smem, ⟨1, _⟩ => ⟨S1, .f32⟩
  | .local _ .smem, ⟨2, _⟩ => ⟨S1, .f32⟩
  | _, _ => ⟨S4096x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨1, _⟩ => true
  | .smem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v8 : Ref sig .tc := ⟨.hbm, 34, rfl⟩
abbrev main_v7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev barrier0 : Sem sig := 0

abbrev nD : Nat := 4
abbrev τ : Topo := Topo.v7x

variable {F : FTy → Type} [FloatOps F]

abbrev grid0 : Pipeline.Grid := ⟨2, ![4, 8], ![false, false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v38 : BitVec 32 := Scalar.addi v2 c1_i32_15
  let c4_i32_16 : BitVec 32 := 4#32
  let c0_i32_17 : BitVec 32 := 0#32
  let v39 : BitVec 1 := Scalar.cmpi .eq c4_i32_16 c0_i32_17
  let c1_i32_18 : BitVec 32 := 1#32
  let v40 : BitVec 32 := Scalar.select v39 c1_i32_18 c4_i32_16
  let v41 : BitVec 32 := Scalar.remsi v38 v40
  let c0_i32_20 : BitVec 32 := 0#32
  let v43 : BitVec 1 := Scalar.cmpi .slt v41 c0_i32_20
  let c0_i32_21 : BitVec 32 := 0#32
  let v44 : BitVec 1 := Scalar.cmpi .slt v40 c0_i32_21
  let v45 : BitVec 1 := Scalar.xori v43 v44
  let c0_i32_19 : BitVec 32 := 0#32
  let v42 : BitVec 1 := Scalar.cmpi .ne v41 c0_i32_19
  let v46 : BitVec 1 := Scalar.andi v45 v42
  let v47 : BitVec 32 := Scalar.addi v41 v40
  let v48 : BitVec 32 := Scalar.select v46 v47 v41
  let c1_i32_23 : BitVec 32 := 1#32
  let v49 : BitVec 32 := Scalar.muli v48 c1_i32_23
  let v50 : BitVec 32 := Scalar.addi c0_i32_24 v49
  v50.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_25 : BitVec 32 := 2#32
  let v51 : BitVec 32 := Scalar.addi v2 c2_i32_25
  let c4_i32_26 : BitVec 32 := 4#32
  let c0_i32_27 : BitVec 32 := 0#32
  let v52 : BitVec 1 := Scalar.cmpi .eq c4_i32_26 c0_i32_27
  let c1_i32_28 : BitVec 32 := 1#32
  let v53 : BitVec 32 := Scalar.select v52 c1_i32_28 c4_i32_26
  let v54 : BitVec 32 := Scalar.remsi v51 v53
  let c0_i32_30 : BitVec 32 := 0#32
  let v56 : BitVec 1 := Scalar.cmpi .slt v54 c0_i32_30
  let c0_i32_31 : BitVec 32 := 0#32
  let v57 : BitVec 1 := Scalar.cmpi .slt v53 c0_i32_31
  let v58 : BitVec 1 := Scalar.xori v56 v57
  let c0_i32_29 : BitVec 32 := 0#32
  let v55 : BitVec 1 := Scalar.cmpi .ne v54 c0_i32_29
  let v59 : BitVec 1 := Scalar.andi v58 v55
  let v60 : BitVec 32 := Scalar.addi v54 v53
  let v61 : BitVec 32 := Scalar.select v59 v60 v54
  let c1_i32_33 : BitVec 32 := 1#32
  let v62 : BitVec 32 := Scalar.muli v61 c1_i32_33
  let v63 : BitVec 32 := Scalar.addi c0_i32_34 v62
  v63.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_35 : BitVec 32 := 3#32
  let v64 : BitVec 32 := Scalar.addi v2 c3_i32_35
  let c4_i32_36 : BitVec 32 := 4#32
  let c0_i32_37 : BitVec 32 := 0#32
  let v65 : BitVec 1 := Scalar.cmpi .eq c4_i32_36 c0_i32_37
  let c1_i32_38 : BitVec 32 := 1#32
  let v66 : BitVec 32 := Scalar.select v65 c1_i32_38 c4_i32_36
  let v67 : BitVec 32 := Scalar.remsi v64 v66
  let c0_i32_40 : BitVec 32 := 0#32
  let v69 : BitVec 1 := Scalar.cmpi .slt v67 c0_i32_40
  let c0_i32_41 : BitVec 32 := 0#32
  let v70 : BitVec 1 := Scalar.cmpi .slt v66 c0_i32_41
  let v71 : BitVec 1 := Scalar.xori v69 v70
  let c0_i32_39 : BitVec 32 := 0#32
  let v68 : BitVec 1 := Scalar.cmpi .ne v67 c0_i32_39
  let v72 : BitVec 1 := Scalar.andi v71 v68
  let v73 : BitVec 32 := Scalar.addi v67 v66
  let v74 : BitVec 32 := Scalar.select v72 v73 v67
  let c1_i32_43 : BitVec 32 := 1#32
  let v75 : BitVec 32 := Scalar.muli v74 c1_i32_43
  let v76 : BitVec 32 := Scalar.addi c0_i32_44 v75
  v76.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_46 : BitVec 32 := 1024#32
  let v77 : BitVec 32 := Scalar.muli v2 c1024_i32_46
  let v78 : Index := Scalar.indexCast v77
  let c0_47 : Index := 0#32
  ![v78.toNat, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : Index := Scalar.indexCast v2
  let c0_48 : Index := 0#32
  let c0_49 : Index := 0#32
  ![v81.toNat, 0, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_59 : BitVec 32 := 0#32
  ![v2.toNat, 0]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_64 : BitVec 32 := 0#32
  let c0_i32_65 : BitVec 32 := 0#32
  ![v2.toNat, 0, 0]
def k0_off6 (d0 : Dev nD) (c0_i32_58 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_50 : BitVec 32 := 3#32
  let v85 : BitVec 32 := Scalar.addi v2 c3_i32_50
  let c4_i32_51 : BitVec 32 := 4#32
  let c0_i32_52 : BitVec 32 := 0#32
  let v86 : BitVec 1 := Scalar.cmpi .eq c4_i32_51 c0_i32_52
  let c1_i32_53 : BitVec 32 := 1#32
  let v87 : BitVec 32 := Scalar.select v86 c1_i32_53 c4_i32_51
  let v88 : BitVec 32 := Scalar.remsi v85 v87
  let c0_i32_55 : BitVec 32 := 0#32
  let v90 : BitVec 1 := Scalar.cmpi .slt v88 c0_i32_55
  let c0_i32_56 : BitVec 32 := 0#32
  let v91 : BitVec 1 := Scalar.cmpi .slt v87 c0_i32_56
  let v92 : BitVec 1 := Scalar.xori v90 v91
  let c0_i32_54 : BitVec 32 := 0#32
  let v89 : BitVec 1 := Scalar.cmpi .ne v88 c0_i32_54
  let v93 : BitVec 1 := Scalar.andi v92 v89
  let v94 : BitVec 32 := Scalar.addi v88 v87
  let v95 : BitVec 32 := Scalar.select v93 v94 v88
  let c1024_i32_57 : BitVec 32 := 1024#32
  let v96 : BitVec 32 := Scalar.muli v95 c1024_i32_57
  let v97 : BitVec 32 := Scalar.addi v96 c0_i32_58
  let c0_i32_66 : BitVec 32 := 0#32
  ![v97.toNat, 0]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_50 : BitVec 32 := 3#32
  let v85 : BitVec 32 := Scalar.addi v2 c3_i32_50
  let c4_i32_51 : BitVec 32 := 4#32
  let c0_i32_52 : BitVec 32 := 0#32
  let v86 : BitVec 1 := Scalar.cmpi .eq c4_i32_51 c0_i32_52
  let c1_i32_53 : BitVec 32 := 1#32
  let v87 : BitVec 32 := Scalar.select v86 c1_i32_53 c4_i32_51
  let v88 : BitVec 32 := Scalar.remsi v85 v87
  let c0_i32_55 : BitVec 32 := 0#32
  let v90 : BitVec 1 := Scalar.cmpi .slt v88 c0_i32_55
  let c0_i32_56 : BitVec 32 := 0#32
  let v91 : BitVec 1 := Scalar.cmpi .slt v87 c0_i32_56
  let v92 : BitVec 1 := Scalar.xori v90 v91
  let c0_i32_54 : BitVec 32 := 0#32
  let v89 : BitVec 1 := Scalar.cmpi .ne v88 c0_i32_54
  let v93 : BitVec 1 := Scalar.andi v92 v89
  let v94 : BitVec 32 := Scalar.addi v88 v87
  let v95 : BitVec 32 := Scalar.select v93 v94 v88
  let c1_i32_62 : BitVec 32 := 1#32
  let v98 : BitVec 32 := Scalar.muli v95 c1_i32_62
  let v99 : BitVec 32 := Scalar.addi c0_i32_63 v98
  v99.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_75 : BitVec 32 := 1#32
  ![v2.toNat, 1]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_80 : BitVec 32 := 256#32
  let c0_i32_81 : BitVec 32 := 0#32
  ![v2.toNat, 256, 0]
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_67 : BitVec 32 := 3#32
  let v107 : BitVec 32 := Scalar.addi v2 c3_i32_67
  let c4_i32_68 : BitVec 32 := 4#32
  let c0_i32_69 : BitVec 32 := 0#32
  let v108 : BitVec 1 := Scalar.cmpi .eq c4_i32_68 c0_i32_69
  let c1_i32_70 : BitVec 32 := 1#32
  let v109 : BitVec 32 := Scalar.select v108 c1_i32_70 c4_i32_68
  let v110 : BitVec 32 := Scalar.remsi v107 v109
  let c0_i32_72 : BitVec 32 := 0#32
  let v112 : BitVec 1 := Scalar.cmpi .slt v110 c0_i32_72
  let c0_i32_73 : BitVec 32 := 0#32
  let v113 : BitVec 1 := Scalar.cmpi .slt v109 c0_i32_73
  let v114 : BitVec 1 := Scalar.xori v112 v113
  let c0_i32_71 : BitVec 32 := 0#32
  let v111 : BitVec 1 := Scalar.cmpi .ne v110 c0_i32_71
  let v115 : BitVec 1 := Scalar.andi v114 v111
  let v116 : BitVec 32 := Scalar.addi v110 v109
  let v117 : BitVec 32 := Scalar.select v115 v116 v110
  let c1_i32_78 : BitVec 32 := 1#32
  let v120 : BitVec 32 := Scalar.muli v117 c1_i32_78
  let v121 : BitVec 32 := Scalar.addi c0_i32_79 v120
  v121.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_91 : BitVec 32 := 2#32
  ![v2.toNat, 2]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_96 : BitVec 32 := 512#32
  let c0_i32_97 : BitVec 32 := 0#32
  ![v2.toNat, 512, 0]
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_83 : BitVec 32 := 3#32
  let v129 : BitVec 32 := Scalar.addi v2 c3_i32_83
  let c4_i32_84 : BitVec 32 := 4#32
  let c0_i32_85 : BitVec 32 := 0#32
  let v130 : BitVec 1 := Scalar.cmpi .eq c4_i32_84 c0_i32_85
  let c1_i32_86 : BitVec 32 := 1#32
  let v131 : BitVec 32 := Scalar.select v130 c1_i32_86 c4_i32_84
  let v132 : BitVec 32 := Scalar.remsi v129 v131
  let c0_i32_88 : BitVec 32 := 0#32
  let v134 : BitVec 1 := Scalar.cmpi .slt v132 c0_i32_88
  let c0_i32_89 : BitVec 32 := 0#32
  let v135 : BitVec 1 := Scalar.cmpi .slt v131 c0_i32_89
  let v136 : BitVec 1 := Scalar.xori v134 v135
  let c0_i32_87 : BitVec 32 := 0#32
  let v133 : BitVec 1 := Scalar.cmpi .ne v132 c0_i32_87
  let v137 : BitVec 1 := Scalar.andi v136 v133
  let v138 : BitVec 32 := Scalar.addi v132 v131
  let v139 : BitVec 32 := Scalar.select v137 v138 v132
  let c1_i32_94 : BitVec 32 := 1#32
  let v142 : BitVec 32 := Scalar.muli v139 c1_i32_94
  let v143 : BitVec 32 := Scalar.addi c0_i32_95 v142
  v143.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_107 : BitVec 32 := 3#32
  ![v2.toNat, 3]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_112 : BitVec 32 := 768#32
  let c0_i32_113 : BitVec 32 := 0#32
  ![v2.toNat, 768, 0]
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_99 : BitVec 32 := 3#32
  let v151 : BitVec 32 := Scalar.addi v2 c3_i32_99
  let c4_i32_100 : BitVec 32 := 4#32
  let c0_i32_101 : BitVec 32 := 0#32
  let v152 : BitVec 1 := Scalar.cmpi .eq c4_i32_100 c0_i32_101
  let c1_i32_102 : BitVec 32 := 1#32
  let v153 : BitVec 32 := Scalar.select v152 c1_i32_102 c4_i32_100
  let v154 : BitVec 32 := Scalar.remsi v151 v153
  let c0_i32_104 : BitVec 32 := 0#32
  let v156 : BitVec 1 := Scalar.cmpi .slt v154 c0_i32_104
  let c0_i32_105 : BitVec 32 := 0#32
  let v157 : BitVec 1 := Scalar.cmpi .slt v153 c0_i32_105
  let v158 : BitVec 1 := Scalar.xori v156 v157
  let c0_i32_103 : BitVec 32 := 0#32
  let v155 : BitVec 1 := Scalar.cmpi .ne v154 c0_i32_103
  let v159 : BitVec 1 := Scalar.andi v158 v155
  let v160 : BitVec 32 := Scalar.addi v154 v153
  let v161 : BitVec 32 := Scalar.select v159 v160 v154
  let c1_i32_110 : BitVec 32 := 1#32
  let v164 : BitVec 32 := Scalar.muli v161 c1_i32_110
  let v165 : BitVec 32 := Scalar.addi c0_i32_111 v164
  v165.toNat
def k0_cond2 (i : grid0.Coords) : BitVec 1 :=
  let arg0 : BitVec 32 := BitVec.ofNat 32 (i 0).val
  let c1_i32_2 : BitVec 32 := 1#32
  let v8 : BitVec 1 := Scalar.cmpi .eq arg0 c1_i32_2
  let arg1 : BitVec 32 := BitVec.ofNat 32 (i 1).val
  let c0_i32_3 : BitVec 32 := 0#32
  let v9 : BitVec 1 := Scalar.cmpi .eq arg1 c0_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_24 : BitVec 32 := 0#32
  ![v2.toNat, 0]
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_29 : BitVec 32 := 0#32
  let c0_i32_30 : BitVec 32 := 0#32
  ![v2.toNat, 0, 0]
def k0_off15 (d0 : Dev nD) (c0_i32_23 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v37 : BitVec 32 := Scalar.addi v2 c1_i32_15
  let c4_i32_16 : BitVec 32 := 4#32
  let c0_i32_17 : BitVec 32 := 0#32
  let v38 : BitVec 1 := Scalar.cmpi .eq c4_i32_16 c0_i32_17
  let c1_i32_18 : BitVec 32 := 1#32
  let v39 : BitVec 32 := Scalar.select v38 c1_i32_18 c4_i32_16
  let v40 : BitVec 32 := Scalar.remsi v37 v39
  let c0_i32_20 : BitVec 32 := 0#32
  let v42 : BitVec 1 := Scalar.cmpi .slt v40 c0_i32_20
  let c0_i32_21 : BitVec 32 := 0#32
  let v43 : BitVec 1 := Scalar.cmpi .slt v39 c0_i32_21
  let v44 : BitVec 1 := Scalar.xori v42 v43
  let c0_i32_19 : BitVec 32 := 0#32
  let v41 : BitVec 1 := Scalar.cmpi .ne v40 c0_i32_19
  let v45 : BitVec 1 := Scalar.andi v44 v41
  let v46 : BitVec 32 := Scalar.addi v40 v39
  let v47 : BitVec 32 := Scalar.select v45 v46 v40
  let c1024_i32_22 : BitVec 32 := 1024#32
  let v48 : BitVec 32 := Scalar.muli v47 c1024_i32_22
  let v49 : BitVec 32 := Scalar.addi v48 c0_i32_23
  let c0_i32_31 : BitVec 32 := 0#32
  ![v49.toNat, 0]
def k0_dev8 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v37 : BitVec 32 := Scalar.addi v2 c1_i32_15
  let c4_i32_16 : BitVec 32 := 4#32
  let c0_i32_17 : BitVec 32 := 0#32
  let v38 : BitVec 1 := Scalar.cmpi .eq c4_i32_16 c0_i32_17
  let c1_i32_18 : BitVec 32 := 1#32
  let v39 : BitVec 32 := Scalar.select v38 c1_i32_18 c4_i32_16
  let v40 : BitVec 32 := Scalar.remsi v37 v39
  let c0_i32_20 : BitVec 32 := 0#32
  let v42 : BitVec 1 := Scalar.cmpi .slt v40 c0_i32_20
  let c0_i32_21 : BitVec 32 := 0#32
  let v43 : BitVec 1 := Scalar.cmpi .slt v39 c0_i32_21
  let v44 : BitVec 1 := Scalar.xori v42 v43
  let c0_i32_19 : BitVec 32 := 0#32
  let v41 : BitVec 1 := Scalar.cmpi .ne v40 c0_i32_19
  let v45 : BitVec 1 := Scalar.andi v44 v41
  let v46 : BitVec 32 := Scalar.addi v40 v39
  let v47 : BitVec 32 := Scalar.select v45 v46 v40
  let c1_i32_27 : BitVec 32 := 1#32
  let v50 : BitVec 32 := Scalar.muli v47 c1_i32_27
  let v51 : BitVec 32 := Scalar.addi c0_i32_28 v50
  v51.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  ![v2.toNat, 1]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_45 : BitVec 32 := 256#32
  let c0_i32_46 : BitVec 32 := 0#32
  ![v2.toNat, 256, 0]
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v59 : BitVec 32 := Scalar.addi v2 c1_i32_32
  let c4_i32_33 : BitVec 32 := 4#32
  let c0_i32_34 : BitVec 32 := 0#32
  let v60 : BitVec 1 := Scalar.cmpi .eq c4_i32_33 c0_i32_34
  let c1_i32_35 : BitVec 32 := 1#32
  let v61 : BitVec 32 := Scalar.select v60 c1_i32_35 c4_i32_33
  let v62 : BitVec 32 := Scalar.remsi v59 v61
  let c0_i32_37 : BitVec 32 := 0#32
  let v64 : BitVec 1 := Scalar.cmpi .slt v62 c0_i32_37
  let c0_i32_38 : BitVec 32 := 0#32
  let v65 : BitVec 1 := Scalar.cmpi .slt v61 c0_i32_38
  let v66 : BitVec 1 := Scalar.xori v64 v65
  let c0_i32_36 : BitVec 32 := 0#32
  let v63 : BitVec 1 := Scalar.cmpi .ne v62 c0_i32_36
  let v67 : BitVec 1 := Scalar.andi v66 v63
  let v68 : BitVec 32 := Scalar.addi v62 v61
  let v69 : BitVec 32 := Scalar.select v67 v68 v62
  let c1_i32_43 : BitVec 32 := 1#32
  let v72 : BitVec 32 := Scalar.muli v69 c1_i32_43
  let v73 : BitVec 32 := Scalar.addi c0_i32_44 v72
  v73.toNat
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_56 : BitVec 32 := 2#32
  ![v2.toNat, 2]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_61 : BitVec 32 := 512#32
  let c0_i32_62 : BitVec 32 := 0#32
  ![v2.toNat, 512, 0]
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c1_i32_59 : BitVec 32 := 1#32
  let v94 : BitVec 32 := Scalar.muli v91 c1_i32_59
  let v95 : BitVec 32 := Scalar.addi c0_i32_60 v94
  v95.toNat
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_72 : BitVec 32 := 3#32
  ![v2.toNat, 3]
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_77 : BitVec 32 := 768#32
  let c0_i32_78 : BitVec 32 := 0#32
  ![v2.toNat, 768, 0]
def k0_dev11 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_64 : BitVec 32 := 1#32
  let v103 : BitVec 32 := Scalar.addi v2 c1_i32_64
  let c4_i32_65 : BitVec 32 := 4#32
  let c0_i32_66 : BitVec 32 := 0#32
  let v104 : BitVec 1 := Scalar.cmpi .eq c4_i32_65 c0_i32_66
  let c1_i32_67 : BitVec 32 := 1#32
  let v105 : BitVec 32 := Scalar.select v104 c1_i32_67 c4_i32_65
  let v106 : BitVec 32 := Scalar.remsi v103 v105
  let c0_i32_69 : BitVec 32 := 0#32
  let v108 : BitVec 1 := Scalar.cmpi .slt v106 c0_i32_69
  let c0_i32_70 : BitVec 32 := 0#32
  let v109 : BitVec 1 := Scalar.cmpi .slt v105 c0_i32_70
  let v110 : BitVec 1 := Scalar.xori v108 v109
  let c0_i32_68 : BitVec 32 := 0#32
  let v107 : BitVec 1 := Scalar.cmpi .ne v106 c0_i32_68
  let v111 : BitVec 1 := Scalar.andi v110 v107
  let v112 : BitVec 32 := Scalar.addi v106 v105
  let v113 : BitVec 32 := Scalar.select v111 v112 v106
  let c1_i32_75 : BitVec 32 := 1#32
  let v116 : BitVec 32 := Scalar.muli v113 c1_i32_75
  let v117 : BitVec 32 := Scalar.addi c0_i32_76 v116
  v117.toNat
def k0_cond3 (i : grid0.Coords) : BitVec 1 :=
  let arg0 : BitVec 32 := BitVec.ofNat 32 (i 0).val
  let c2_i32 : BitVec 32 := 2#32
  let v13 : BitVec 1 := Scalar.cmpi .eq arg0 c2_i32
  let arg1 : BitVec 32 := BitVec.ofNat 32 (i 1).val
  let c0_i32_5 : BitVec 32 := 0#32
  let v14 : BitVec 1 := Scalar.cmpi .eq arg1 c0_i32_5
  let v15 : BitVec 1 := Scalar.andi v13 v14
  let v16 : BitVec 32 := Scalar.extui v15
  let c0_i32_6 : BitVec 32 := 0#32
  let v17 : BitVec 1 := Scalar.cmpi .ne v16 c0_i32_6
  v17

def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_24 : BitVec 32 := 0#32
  ![v2.toNat, 0]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_29 : BitVec 32 := 0#32
  let c0_i32_30 : BitVec 32 := 0#32
  ![v2.toNat, 0, 0]
def k0_off24 (d0 : Dev nD) (c0_i32_23 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_15 : BitVec 32 := 2#32
  let v37 : BitVec 32 := Scalar.addi v2 c2_i32_15
  let c4_i32_16 : BitVec 32 := 4#32
  let c0_i32_17 : BitVec 32 := 0#32
  let v38 : BitVec 1 := Scalar.cmpi .eq c4_i32_16 c0_i32_17
  let c1_i32_18 : BitVec 32 := 1#32
  let v39 : BitVec 32 := Scalar.select v38 c1_i32_18 c4_i32_16
  let v40 : BitVec 32 := Scalar.remsi v37 v39
  let c0_i32_20 : BitVec 32 := 0#32
  let v42 : BitVec 1 := Scalar.cmpi .slt v40 c0_i32_20
  let c0_i32_21 : BitVec 32 := 0#32
  let v43 : BitVec 1 := Scalar.cmpi .slt v39 c0_i32_21
  let v44 : BitVec 1 := Scalar.xori v42 v43
  let c0_i32_19 : BitVec 32 := 0#32
  let v41 : BitVec 1 := Scalar.cmpi .ne v40 c0_i32_19
  let v45 : BitVec 1 := Scalar.andi v44 v41
  let v46 : BitVec 32 := Scalar.addi v40 v39
  let v47 : BitVec 32 := Scalar.select v45 v46 v40
  let c1024_i32_22 : BitVec 32 := 1024#32
  let v48 : BitVec 32 := Scalar.muli v47 c1024_i32_22
  let v49 : BitVec 32 := Scalar.addi v48 c0_i32_23
  let c0_i32_31 : BitVec 32 := 0#32
  ![v49.toNat, 0]
def k0_dev12 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_15 : BitVec 32 := 2#32
  let v37 : BitVec 32 := Scalar.addi v2 c2_i32_15
  let c4_i32_16 : BitVec 32 := 4#32
  let c0_i32_17 : BitVec 32 := 0#32
  let v38 : BitVec 1 := Scalar.cmpi .eq c4_i32_16 c0_i32_17
  let c1_i32_18 : BitVec 32 := 1#32
  let v39 : BitVec 32 := Scalar.select v38 c1_i32_18 c4_i32_16
  let v40 : BitVec 32 := Scalar.remsi v37 v39
  let c0_i32_20 : BitVec 32 := 0#32
  let v42 : BitVec 1 := Scalar.cmpi .slt v40 c0_i32_20
  let c0_i32_21 : BitVec 32 := 0#32
  let v43 : BitVec 1 := Scalar.cmpi .slt v39 c0_i32_21
  let v44 : BitVec 1 := Scalar.xori v42 v43
  let c0_i32_19 : BitVec 32 := 0#32
  let v41 : BitVec 1 := Scalar.cmpi .ne v40 c0_i32_19
  let v45 : BitVec 1 := Scalar.andi v44 v41
  let v46 : BitVec 32 := Scalar.addi v40 v39
  let v47 : BitVec 32 := Scalar.select v45 v46 v40
  let c1_i32_27 : BitVec 32 := 1#32
  let v50 : BitVec 32 := Scalar.muli v47 c1_i32_27
  let v51 : BitVec 32 := Scalar.addi c0_i32_28 v50
  v51.toNat
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  ![v2.toNat, 1]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_45 : BitVec 32 := 256#32
  let c0_i32_46 : BitVec 32 := 0#32
  ![v2.toNat, 256, 0]
def k0_dev13 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v59 : BitVec 32 := Scalar.addi v2 c2_i32_32
  let c4_i32_33 : BitVec 32 := 4#32
  let c0_i32_34 : BitVec 32 := 0#32
  let v60 : BitVec 1 := Scalar.cmpi .eq c4_i32_33 c0_i32_34
  let c1_i32_35 : BitVec 32 := 1#32
  let v61 : BitVec 32 := Scalar.select v60 c1_i32_35 c4_i32_33
  let v62 : BitVec 32 := Scalar.remsi v59 v61
  let c0_i32_37 : BitVec 32 := 0#32
  let v64 : BitVec 1 := Scalar.cmpi .slt v62 c0_i32_37
  let c0_i32_38 : BitVec 32 := 0#32
  let v65 : BitVec 1 := Scalar.cmpi .slt v61 c0_i32_38
  let v66 : BitVec 1 := Scalar.xori v64 v65
  let c0_i32_36 : BitVec 32 := 0#32
  let v63 : BitVec 1 := Scalar.cmpi .ne v62 c0_i32_36
  let v67 : BitVec 1 := Scalar.andi v66 v63
  let v68 : BitVec 32 := Scalar.addi v62 v61
  let v69 : BitVec 32 := Scalar.select v67 v68 v62
  let c1_i32_43 : BitVec 32 := 1#32
  let v72 : BitVec 32 := Scalar.muli v69 c1_i32_43
  let v73 : BitVec 32 := Scalar.addi c0_i32_44 v72
  v73.toNat
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_56 : BitVec 32 := 2#32
  ![v2.toNat, 2]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_61 : BitVec 32 := 512#32
  let c0_i32_62 : BitVec 32 := 0#32
  ![v2.toNat, 512, 0]
def k0_dev14 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v81 : BitVec 32 := Scalar.addi v2 c2_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c1_i32_59 : BitVec 32 := 1#32
  let v94 : BitVec 32 := Scalar.muli v91 c1_i32_59
  let v95 : BitVec 32 := Scalar.addi c0_i32_60 v94
  v95.toNat
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_72 : BitVec 32 := 3#32
  ![v2.toNat, 3]
def k0_off30 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_77 : BitVec 32 := 768#32
  let c0_i32_78 : BitVec 32 := 0#32
  ![v2.toNat, 768, 0]
def k0_dev15 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_64 : BitVec 32 := 2#32
  let v103 : BitVec 32 := Scalar.addi v2 c2_i32_64
  let c4_i32_65 : BitVec 32 := 4#32
  let c0_i32_66 : BitVec 32 := 0#32
  let v104 : BitVec 1 := Scalar.cmpi .eq c4_i32_65 c0_i32_66
  let c1_i32_67 : BitVec 32 := 1#32
  let v105 : BitVec 32 := Scalar.select v104 c1_i32_67 c4_i32_65
  let v106 : BitVec 32 := Scalar.remsi v103 v105
  let c0_i32_69 : BitVec 32 := 0#32
  let v108 : BitVec 1 := Scalar.cmpi .slt v106 c0_i32_69
  let c0_i32_70 : BitVec 32 := 0#32
  let v109 : BitVec 1 := Scalar.cmpi .slt v105 c0_i32_70
  let v110 : BitVec 1 := Scalar.xori v108 v109
  let c0_i32_68 : BitVec 32 := 0#32
  let v107 : BitVec 1 := Scalar.cmpi .ne v106 c0_i32_68
  let v111 : BitVec 1 := Scalar.andi v110 v107
  let v112 : BitVec 32 := Scalar.addi v106 v105
  let v113 : BitVec 32 := Scalar.select v111 v112 v106
  let c1_i32_75 : BitVec 32 := 1#32
  let v116 : BitVec 32 := Scalar.muli v113 c1_i32_75
  let v117 : BitVec 32 := Scalar.addi c0_i32_76 v116
  v117.toNat
def k0_off31 (i : grid0.Coords) : Fin 1 → Nat :=
  let arg0 : BitVec 32 := BitVec.ofNat 32 (i 0).val
  let v18 : Index := Scalar.indexCast arg0
  ![v18.toNat]
def k0_cond4 (i : grid0.Coords) : BitVec 1 :=
  let arg1 : BitVec 32 := BitVec.ofNat 32 (i 1).val
  let c0_i32_10 : BitVec 32 := 0#32
  let v26 : BitVec 1 := Scalar.cmpi .eq arg1 c0_i32_10
  let v27 : BitVec 32 := Scalar.extui v26
  let c0_i32_11 : BitVec 32 := 0#32
  let v28 : BitVec 1 := Scalar.cmpi .ne v27 c0_i32_11
  v28

def k0_cond5 (i : grid0.Coords) : BitVec 1 :=
  let arg0 : BitVec 32 := BitVec.ofNat 32 (i 0).val
  let c0_i32_15 : BitVec 32 := 0#32
  let v37 : BitVec 1 := Scalar.cmpi .sgt arg0 c0_i32_15
  let v38 : BitVec 32 := Scalar.extui v37
  let c0_i32_16 : BitVec 32 := 0#32
  let v39 : BitVec 1 := Scalar.cmpi .ne v38 c0_i32_16
  v39

def k0_off32 (v19 : BitVec 32) : Fin 2 → Nat :=
  let c0_i32_59 : BitVec 32 := 0#32
  ![v19.toNat, 0]

def k0_off33 (v19 : BitVec 32) : Fin 3 → Nat :=
  let c0_i32_64 : BitVec 32 := 0#32
  let c0_i32_65 : BitVec 32 := 0#32
  ![v19.toNat, 0, 0]
def k0_off34 (v19 : BitVec 32) : Fin 3 → Nat :=
  let v40 : Index := Scalar.indexCast v19
  let c0_17 : Index := 0#32
  let c0_18 : Index := 0#32
  ![v40.toNat, 0, 0]
def k0_cond6 (i : grid0.Coords) : BitVec 1 :=
  let arg0 : BitVec 32 := BitVec.ofNat 32 (i 0).val
  let c0_i32_19 : BitVec 32 := 0#32
  let v44 : BitVec 1 := Scalar.cmpi .eq arg0 c0_i32_19
  let v45 : BitVec 32 := Scalar.extui v44
  let c0_i32_20 : BitVec 32 := 0#32
  let v46 : BitVec 1 := Scalar.cmpi .ne v45 c0_i32_20
  v46

def k0_off35 (i : grid0.Coords) : Fin 2 → Nat :=
  let c0_59 : Index := 0#32
  let arg1 : BitVec 32 := BitVec.ofNat 32 (i 1).val
  let c1024_i32 : BitVec 32 := 1024#32
  let v25 : BitVec 32 := Scalar.muli arg1 c1024_i32
  let v109 : Index := Scalar.indexCast v25
  ![0, v109.toNat]
def k0_cond7 (i : grid0.Coords) : BitVec 1 :=
  let arg0 : BitVec 32 := BitVec.ofNat 32 (i 0).val
  let c0_i32_21 : BitVec 32 := 0#32
  let v47 : BitVec 1 := Scalar.cmpi .sgt arg0 c0_i32_21
  let c3_i32_22 : BitVec 32 := 3#32
  let v48 : BitVec 1 := Scalar.cmpi .slt arg0 c3_i32_22
  let v49 : BitVec 1 := Scalar.andi v47 v48
  let v50 : BitVec 32 := Scalar.extui v49
  let c0_i32_23 : BitVec 32 := 0#32
  let v51 : BitVec 1 := Scalar.cmpi .ne v50 c0_i32_23
  v51

def k0_off36 (i : grid0.Coords) : Fin 2 → Nat :=
  let c0_59 : Index := 0#32
  let arg1 : BitVec 32 := BitVec.ofNat 32 (i 1).val
  let c1024_i32 : BitVec 32 := 1024#32
  let v25 : BitVec 32 := Scalar.muli arg1 c1024_i32
  let v109 : Index := Scalar.indexCast v25
  ![0, v109.toNat]
def k0_cond8 (i : grid0.Coords) : BitVec 1 :=
  let arg0 : BitVec 32 := BitVec.ofNat 32 (i 0).val
  let c3_i32_24 : BitVec 32 := 3#32
  let v52 : BitVec 1 := Scalar.cmpi .eq arg0 c3_i32_24
  let v53 : BitVec 32 := Scalar.extui v52
  let c0_i32_25 : BitVec 32 := 0#32
  let v54 : BitVec 1 := Scalar.cmpi .ne v53 c0_i32_25
  v54

def k0_off37 (i : grid0.Coords) : Fin 2 → Nat :=
  let c0_59 : Index := 0#32
  let arg1 : BitVec 32 := BitVec.ofNat 32 (i 1).val
  let c1024_i32 : BitVec 32 := 1024#32
  let v25 : BitVec 32 := Scalar.muli arg1 c1024_i32
  let v109 : Index := Scalar.indexCast v25
  ![0, v109.toNat]
def k0_cond9 (i : grid0.Coords) : BitVec 1 :=
  let arg0 : BitVec 32 := BitVec.ofNat 32 (i 0).val
  let c0_i32_26 : BitVec 32 := 0#32
  let v55 : BitVec 1 := Scalar.cmpi .sgt arg0 c0_i32_26
  let v56 : BitVec 32 := Scalar.extui v55
  let c0_i32_27 : BitVec 32 := 0#32
  let v57 : BitVec 1 := Scalar.cmpi .ne v56 c0_i32_27
  v57

def k0_off38 (v19 : BitVec 32) : Fin 2 → Nat :=
  let c1_i32_59 : BitVec 32 := 1#32
  ![v19.toNat, 1]
def k0_off39 (v19 : BitVec 32) : Fin 3 → Nat :=
  let c256_i32 : BitVec 32 := 256#32
  let c0_i32_64 : BitVec 32 := 0#32
  ![v19.toNat, 256, 0]
def k0_off40 (v19 : BitVec 32) : Fin 3 → Nat :=
  let v58 : Index := Scalar.indexCast v19
  let c256 : Index := 256#32
  let c0_28 : Index := 0#32
  ![v58.toNat, 256, 0]
def k0_cond10 (i : grid0.Coords) : BitVec 1 :=
  let arg0 : BitVec 32 := BitVec.ofNat 32 (i 0).val
  let c0_i32_30 : BitVec 32 := 0#32
  let v62 : BitVec 1 := Scalar.cmpi .eq arg0 c0_i32_30
  let v63 : BitVec 32 := Scalar.extui v62
  let c0_i32_31 : BitVec 32 := 0#32
  let v64 : BitVec 1 := Scalar.cmpi .ne v63 c0_i32_31
  v64

def k0_off41 (i : grid0.Coords) : Fin 2 → Nat :=
  let c256_59 : Index := 256#32
  let arg1 : BitVec 32 := BitVec.ofNat 32 (i 1).val
  let c1024_i32 : BitVec 32 := 1024#32
  let v25 : BitVec 32 := Scalar.muli arg1 c1024_i32
  let v109 : Index := Scalar.indexCast v25
  ![256, v109.toNat]
def k0_cond11 (i : grid0.Coords) : BitVec 1 :=
  let arg0 : BitVec 32 := BitVec.ofNat 32 (i 0).val
  let c0_i32_32 : BitVec 32 := 0#32
  let v65 : BitVec 1 := Scalar.cmpi .sgt arg0 c0_i32_32
  let c3_i32_33 : BitVec 32 := 3#32
  let v66 : BitVec 1 := Scalar.cmpi .slt arg0 c3_i32_33
  let v67 : BitVec 1 := Scalar.andi v65 v66
  let v68 : BitVec 32 := Scalar.extui v67
  let c0_i32_34 : BitVec 32 := 0#32
  let v69 : BitVec 1 := Scalar.cmpi .ne v68 c0_i32_34
  v69

def k0_off42 (i : grid0.Coords) : Fin 2 → Nat :=
  let c256_59 : Index := 256#32
  let arg1 : BitVec 32 := BitVec.ofNat 32 (i 1).val
  let c1024_i32 : BitVec 32 := 1024#32
  let v25 : BitVec 32 := Scalar.muli arg1 c1024_i32
  let v109 : Index := Scalar.indexCast v25
  ![256, v109.toNat]
def k0_cond12 (i : grid0.Coords) : BitVec 1 :=
  let arg0 : BitVec 32 := BitVec.ofNat 32 (i 0).val
  let c3_i32_35 : BitVec 32 := 3#32
  let v70 : BitVec 1 := Scalar.cmpi .eq arg0 c3_i32_35
  let v71 : BitVec 32 := Scalar.extui v70
  let c0_i32_36 : BitVec 32 := 0#32
  let v72 : BitVec 1 := Scalar.cmpi .ne v71 c0_i32_36
  v72

def k0_off43 (i : grid0.Coords) : Fin 2 → Nat :=
  let c256_59 : Index := 256#32
  let arg1 : BitVec 32 := BitVec.ofNat 32 (i 1).val
  let c1024_i32 : BitVec 32 := 1024#32
  let v25 : BitVec 32 := Scalar.muli arg1 c1024_i32
  let v109 : Index := Scalar.indexCast v25
  ![256, v109.toNat]
def k0_cond13 (i : grid0.Coords) : BitVec 1 :=
  let arg0 : BitVec 32 := BitVec.ofNat 32 (i 0).val
  let c0_i32_37 : BitVec 32 := 0#32
  let v73 : BitVec 1 := Scalar.cmpi .sgt arg0 c0_i32_37
  let v74 : BitVec 32 := Scalar.extui v73
  let c0_i32_38 : BitVec 32 := 0#32
  let v75 : BitVec 1 := Scalar.cmpi .ne v74 c0_i32_38
  v75

def k0_off44 (v19 : BitVec 32) : Fin 2 → Nat :=
  let c2_i32_59 : BitVec 32 := 2#32
  ![v19.toNat, 2]
def k0_off45 (v19 : BitVec 32) : Fin 3 → Nat :=
  let c512_i32 : BitVec 32 := 512#32
  let c0_i32_64 : BitVec 32 := 0#32
  ![v19.toNat, 512, 0]
def k0_off46 (v19 : BitVec 32) : Fin 3 → Nat :=
  let v76 : Index := Scalar.indexCast v19
  let c512 : Index := 512#32
  let c0_39 : Index := 0#32
  ![v76.toNat, 512, 0]
def k0_cond14 (i : grid0.Coords) : BitVec 1 :=
  let arg0 : BitVec 32 := BitVec.ofNat 32 (i 0).val
  let c0_i32_41 : BitVec 32 := 0#32
  let v80 : BitVec 1 := Scalar.cmpi .eq arg0 c0_i32_41
  let v81 : BitVec 32 := Scalar.extui v80
  let c0_i32_42 : BitVec 32 := 0#32
  let v82 : BitVec 1 := Scalar.cmpi .ne v81 c0_i32_42
  v82

def k0_off47 (i : grid0.Coords) : Fin 2 → Nat :=
  let c512_59 : Index := 512#32
  let arg1 : BitVec 32 := BitVec.ofNat 32 (i 1).val
  let c1024_i32 : BitVec 32 := 1024#32
  let v25 : BitVec 32 := Scalar.muli arg1 c1024_i32
  let v109 : Index := Scalar.indexCast v25
  ![512, v109.toNat]
def k0_cond15 (i : grid0.Coords) : BitVec 1 :=
  let arg0 : BitVec 32 := BitVec.ofNat 32 (i 0).val
  let c0_i32_43 : BitVec 32 := 0#32
  let v83 : BitVec 1 := Scalar.cmpi .sgt arg0 c0_i32_43
  let c3_i32_44 : BitVec 32 := 3#32
  let v84 : BitVec 1 := Scalar.cmpi .slt arg0 c3_i32_44
  let v85 : BitVec 1 := Scalar.andi v83 v84
  let v86 : BitVec 32 := Scalar.extui v85
  let c0_i32_45 : BitVec 32 := 0#32
  let v87 : BitVec 1 := Scalar.cmpi .ne v86 c0_i32_45
  v87

def k0_off48 (i : grid0.Coords) : Fin 2 → Nat :=
  let c512_59 : Index := 512#32
  let arg1 : BitVec 32 := BitVec.ofNat 32 (i 1).val
  let c1024_i32 : BitVec 32 := 1024#32
  let v25 : BitVec 32 := Scalar.muli arg1 c1024_i32
  let v109 : Index := Scalar.indexCast v25
  ![512, v109.toNat]
def k0_cond16 (i : grid0.Coords) : BitVec 1 :=
  let arg0 : BitVec 32 := BitVec.ofNat 32 (i 0).val
  let c3_i32_46 : BitVec 32 := 3#32
  let v88 : BitVec 1 := Scalar.cmpi .eq arg0 c3_i32_46
  let v89 : BitVec 32 := Scalar.extui v88
  let c0_i32_47 : BitVec 32 := 0#32
  let v90 : BitVec 1 := Scalar.cmpi .ne v89 c0_i32_47
  v90

def k0_off49 (i : grid0.Coords) : Fin 2 → Nat :=
  let c512_59 : Index := 512#32
  let arg1 : BitVec 32 := BitVec.ofNat 32 (i 1).val
  let c1024_i32 : BitVec 32 := 1024#32
  let v25 : BitVec 32 := Scalar.muli arg1 c1024_i32
  let v109 : Index := Scalar.indexCast v25
  ![512, v109.toNat]
def k0_cond17 (i : grid0.Coords) : BitVec 1 :=
  let arg0 : BitVec 32 := BitVec.ofNat 32 (i 0).val
  let c0_i32_48 : BitVec 32 := 0#32
  let v91 : BitVec 1 := Scalar.cmpi .sgt arg0 c0_i32_48
  let v92 : BitVec 32 := Scalar.extui v91
  let c0_i32_49 : BitVec 32 := 0#32
  let v93 : BitVec 1 := Scalar.cmpi .ne v92 c0_i32_49
  v93

def k0_off50 (v19 : BitVec 32) : Fin 2 → Nat :=
  let c3_i32_59 : BitVec 32 := 3#32
  ![v19.toNat, 3]
def k0_off51 (v19 : BitVec 32) : Fin 3 → Nat :=
  let c768_i32 : BitVec 32 := 768#32
  let c0_i32_64 : BitVec 32 := 0#32
  ![v19.toNat, 768, 0]
def k0_off52 (v19 : BitVec 32) : Fin 3 → Nat :=
  let v94 : Index := Scalar.indexCast v19
  let c768 : Index := 768#32
  let c0_50 : Index := 0#32
  ![v94.toNat, 768, 0]
def k0_cond18 (i : grid0.Coords) : BitVec 1 :=
  let arg0 : BitVec 32 := BitVec.ofNat 32 (i 0).val
  let c0_i32_52 : BitVec 32 := 0#32
  let v98 : BitVec 1 := Scalar.cmpi .eq arg0 c0_i32_52
  let v99 : BitVec 32 := Scalar.extui v98
  let c0_i32_53 : BitVec 32 := 0#32
  let v100 : BitVec 1 := Scalar.cmpi .ne v99 c0_i32_53
  v100

def k0_off53 (i : grid0.Coords) : Fin 2 → Nat :=
  let c768_59 : Index := 768#32
  let arg1 : BitVec 32 := BitVec.ofNat 32 (i 1).val
  let c1024_i32 : BitVec 32 := 1024#32
  let v25 : BitVec 32 := Scalar.muli arg1 c1024_i32
  let v109 : Index := Scalar.indexCast v25
  ![768, v109.toNat]
def k0_cond19 (i : grid0.Coords) : BitVec 1 :=
  let arg0 : BitVec 32 := BitVec.ofNat 32 (i 0).val
  let c0_i32_54 : BitVec 32 := 0#32
  let v101 : BitVec 1 := Scalar.cmpi .sgt arg0 c0_i32_54
  let c3_i32_55 : BitVec 32 := 3#32
  let v102 : BitVec 1 := Scalar.cmpi .slt arg0 c3_i32_55
  let v103 : BitVec 1 := Scalar.andi v101 v102
  let v104 : BitVec 32 := Scalar.extui v103
  let c0_i32_56 : BitVec 32 := 0#32
  let v105 : BitVec 1 := Scalar.cmpi .ne v104 c0_i32_56
  v105

def k0_off54 (i : grid0.Coords) : Fin 2 → Nat :=
  let c768_59 : Index := 768#32
  let arg1 : BitVec 32 := BitVec.ofNat 32 (i 1).val
  let c1024_i32 : BitVec 32 := 1024#32
  let v25 : BitVec 32 := Scalar.muli arg1 c1024_i32
  let v109 : Index := Scalar.indexCast v25
  ![768, v109.toNat]
def k0_cond20 (i : grid0.Coords) : BitVec 1 :=
  let arg0 : BitVec 32 := BitVec.ofNat 32 (i 0).val
  let c3_i32_57 : BitVec 32 := 3#32
  let v106 : BitVec 1 := Scalar.cmpi .eq arg0 c3_i32_57
  let v107 : BitVec 32 := Scalar.extui v106
  let c0_i32_58 : BitVec 32 := 0#32
  let v108 : BitVec 1 := Scalar.cmpi .ne v107 c0_i32_58
  v108

def k0_off55 (i : grid0.Coords) : Fin 2 → Nat :=
  let c768_59 : Index := 768#32
  let arg1 : BitVec 32 := BitVec.ofNat 32 (i 1).val
  let c1024_i32 : BitVec 32 := 1024#32
  let v25 : BitVec 32 := Scalar.muli arg1 c1024_i32
  let v109 : Index := Scalar.indexCast v25
  ![768, v109.toNat]
def k0_cond21 (i : grid0.Coords) : BitVec 1 :=
  let arg1 : BitVec 32 := BitVec.ofNat 32 (i 1).val
  let c0_i32_12 : BitVec 32 := 0#32
  let v29 : BitVec 1 := Scalar.cmpi .sgt arg1 c0_i32_12
  let v30 : BitVec 32 := Scalar.extui v29
  let c0_i32_13 : BitVec 32 := 0#32
  let v31 : BitVec 1 := Scalar.cmpi .ne v30 c0_i32_13
  v31

def k0_off56 (v19 : BitVec 32) : Fin 3 → Nat :=
  let v37 : Index := Scalar.indexCast v19
  let c0_15 : Index := 0#32
  let c0_16 : Index := 0#32
  ![v37.toNat, 0, 0]

def k0_chk1 (i : grid0.Coords) (v19 : BitVec 32) : Prop :=
  (∀ (k0_h4 : k0_cond4 i = 1#1), ∀ (k0_h5 : k0_cond5 i = 1#1), ∀ a, (k0_off32 v19) a + S1x1.size a ≤ S4x4.size a) ∧
  (∀ (k0_h4 : k0_cond4 i = 1#1), ∀ (k0_h5 : k0_cond5 i = 1#1), ∀ a, (k0_off33 v19) a + S1x256x1024.size a ≤ S4x1024x1024.size a) ∧
  (∀ (k0_h4 : k0_cond4 i = 1#1), ∀ (k0_h5 : k0_cond5 i = 1#1), ∀ (hinb : ∀ a, (k0_off33 v19) a + S1x256x1024.size a ≤ S4x1024x1024.size a), (Rect.unit (s := S4x1024x1024) (k0_off33 v19) S1x256x1024.size hinb).WholeWords (EltTy.packing .fp8e5m2)) ∧
  (∀ (k0_h4 : k0_cond4 i = 1#1), ∀ a, (k0_off34 v19) a + S1x256x1024.size a ≤ S4x1024x1024.size a) ∧
  (∀ (k0_h4 : k0_cond4 i = 1#1), ∀ (k0_h9 : k0_cond9 i = 1#1), ∀ a, (k0_off38 v19) a + S1x1.size a ≤ S4x4.size a) ∧
  (∀ (k0_h4 : k0_cond4 i = 1#1), ∀ (k0_h9 : k0_cond9 i = 1#1), ∀ a, (k0_off39 v19) a + S1x256x1024.size a ≤ S4x1024x1024.size a) ∧
  (∀ (k0_h4 : k0_cond4 i = 1#1), ∀ (k0_h9 : k0_cond9 i = 1#1), ∀ (hinb : ∀ a, (k0_off39 v19) a + S1x256x1024.size a ≤ S4x1024x1024.size a), (Rect.unit (s := S4x1024x1024) (k0_off39 v19) S1x256x1024.size hinb).WholeWords (EltTy.packing .fp8e5m2)) ∧
  (∀ (k0_h4 : k0_cond4 i = 1#1), ∀ a, (k0_off40 v19) a + S1x256x1024.size a ≤ S4x1024x1024.size a) ∧
  (∀ (k0_h4 : k0_cond4 i = 1#1), ∀ (k0_h13 : k0_cond13 i = 1#1), ∀ a, (k0_off44 v19) a + S1x1.size a ≤ S4x4.size a) ∧
  (∀ (k0_h4 : k0_cond4 i = 1#1), ∀ (k0_h13 : k0_cond13 i = 1#1), ∀ a, (k0_off45 v19) a + S1x256x1024.size a ≤ S4x1024x1024.size a) ∧
  (∀ (k0_h4 : k0_cond4 i = 1#1), ∀ (k0_h13 : k0_cond13 i = 1#1), ∀ (hinb : ∀ a, (k0_off45 v19) a + S1x256x1024.size a ≤ S4x1024x1024.size a), (Rect.unit (s := S4x1024x1024) (k0_off45 v19) S1x256x1024.size hinb).WholeWords (EltTy.packing .fp8e5m2)) ∧
  (∀ (k0_h4 : k0_cond4 i = 1#1), ∀ a, (k0_off46 v19) a + S1x256x1024.size a ≤ S4x1024x1024.size a) ∧
  (∀ (k0_h4 : k0_cond4 i = 1#1), ∀ (k0_h17 : k0_cond17 i = 1#1), ∀ a, (k0_off50 v19) a + S1x1.size a ≤ S4x4.size a) ∧
  (∀ (k0_h4 : k0_cond4 i = 1#1), ∀ (k0_h17 : k0_cond17 i = 1#1), ∀ a, (k0_off51 v19) a + S1x256x1024.size a ≤ S4x1024x1024.size a) ∧
  (∀ (k0_h4 : k0_cond4 i = 1#1), ∀ (k0_h17 : k0_cond17 i = 1#1), ∀ (hinb : ∀ a, (k0_off51 v19) a + S1x256x1024.size a ≤ S4x1024x1024.size a), (Rect.unit (s := S4x1024x1024) (k0_off51 v19) S1x256x1024.size hinb).WholeWords (EltTy.packing .fp8e5m2)) ∧
  (∀ (k0_h4 : k0_cond4 i = 1#1), ∀ a, (k0_off52 v19) a + S1x256x1024.size a ≤ S4x1024x1024.size a) ∧
  (∀ (k0_h21 : k0_cond21 i = 1#1), ∀ a, (k0_off56 v19) a + S1x1024x1024.size a ≤ S4x1024x1024.size a)
theorem k0_off32_inb : ∀ (i : grid0.Coords) (v19 : BitVec 32) (k0_hw1 : k0_chk1 i v19), ∀ (k0_h4 : k0_cond4 i = 1#1), ∀ (k0_h5 : k0_cond5 i = 1#1), ∀ a, (k0_off32 v19) a + S1x1.size a ≤ S4x4.size a := fun i v19 k0_hw1 k0_h4 k0_h5 => k0_hw1.1 k0_h4 k0_h5
theorem k0_off33_inb : ∀ (i : grid0.Coords) (v19 : BitVec 32) (k0_hw1 : k0_chk1 i v19), ∀ (k0_h4 : k0_cond4 i = 1#1), ∀ (k0_h5 : k0_cond5 i = 1#1), ∀ a, (k0_off33 v19) a + S1x256x1024.size a ≤ S4x1024x1024.size a := fun i v19 k0_hw1 k0_h4 k0_h5 => k0_hw1.2.1 k0_h4 k0_h5
theorem k0_off33_wordsfp8e5m2 : ∀ (i : grid0.Coords) (v19 : BitVec 32) (k0_hw1 : k0_chk1 i v19), ∀ (k0_h4 : k0_cond4 i = 1#1), ∀ (k0_h5 : k0_cond5 i = 1#1), (Rect.unit (s := S4x1024x1024) (k0_off33 v19) S1x256x1024.size (k0_off33_inb i v19 k0_hw1 k0_h4 k0_h5)).WholeWords (EltTy.packing .fp8e5m2) := fun i v19 k0_hw1 k0_h4 k0_h5 => k0_hw1.2.2.1 k0_h4 k0_h5 (k0_off33_inb i v19 k0_hw1 k0_h4 k0_h5)
theorem k0_off34_inb : ∀ (i : grid0.Coords) (v19 : BitVec 32) (k0_hw1 : k0_chk1 i v19), ∀ (k0_h4 : k0_cond4 i = 1#1), ∀ a, (k0_off34 v19) a + S1x256x1024.size a ≤ S4x1024x1024.size a := fun i v19 k0_hw1 k0_h4 => k0_hw1.2.2.2.1 k0_h4
theorem k0_off38_inb : ∀ (i : grid0.Coords) (v19 : BitVec 32) (k0_hw1 : k0_chk1 i v19), ∀ (k0_h4 : k0_cond4 i = 1#1), ∀ (k0_h9 : k0_cond9 i = 1#1), ∀ a, (k0_off38 v19) a + S1x1.size a ≤ S4x4.size a := fun i v19 k0_hw1 k0_h4 k0_h9 => k0_hw1.2.2.2.2.1 k0_h4 k0_h9
theorem k0_off39_inb : ∀ (i : grid0.Coords) (v19 : BitVec 32) (k0_hw1 : k0_chk1 i v19), ∀ (k0_h4 : k0_cond4 i = 1#1), ∀ (k0_h9 : k0_cond9 i = 1#1), ∀ a, (k0_off39 v19) a + S1x256x1024.size a ≤ S4x1024x1024.size a := fun i v19 k0_hw1 k0_h4 k0_h9 => k0_hw1.2.2.2.2.2.1 k0_h4 k0_h9
theorem k0_off39_wordsfp8e5m2 : ∀ (i : grid0.Coords) (v19 : BitVec 32) (k0_hw1 : k0_chk1 i v19), ∀ (k0_h4 : k0_cond4 i = 1#1), ∀ (k0_h9 : k0_cond9 i = 1#1), (Rect.unit (s := S4x1024x1024) (k0_off39 v19) S1x256x1024.size (k0_off39_inb i v19 k0_hw1 k0_h4 k0_h9)).WholeWords (EltTy.packing .fp8e5m2) := fun i v19 k0_hw1 k0_h4 k0_h9 => k0_hw1.2.2.2.2.2.2.1 k0_h4 k0_h9 (k0_off39_inb i v19 k0_hw1 k0_h4 k0_h9)
theorem k0_off40_inb : ∀ (i : grid0.Coords) (v19 : BitVec 32) (k0_hw1 : k0_chk1 i v19), ∀ (k0_h4 : k0_cond4 i = 1#1), ∀ a, (k0_off40 v19) a + S1x256x1024.size a ≤ S4x1024x1024.size a := fun i v19 k0_hw1 k0_h4 => k0_hw1.2.2.2.2.2.2.2.1 k0_h4
theorem k0_off44_inb : ∀ (i : grid0.Coords) (v19 : BitVec 32) (k0_hw1 : k0_chk1 i v19), ∀ (k0_h4 : k0_cond4 i = 1#1), ∀ (k0_h13 : k0_cond13 i = 1#1), ∀ a, (k0_off44 v19) a + S1x1.size a ≤ S4x4.size a := fun i v19 k0_hw1 k0_h4 k0_h13 => k0_hw1.2.2.2.2.2.2.2.2.1 k0_h4 k0_h13
theorem k0_off45_inb : ∀ (i : grid0.Coords) (v19 : BitVec 32) (k0_hw1 : k0_chk1 i v19), ∀ (k0_h4 : k0_cond4 i = 1#1), ∀ (k0_h13 : k0_cond13 i = 1#1), ∀ a, (k0_off45 v19) a + S1x256x1024.size a ≤ S4x1024x1024.size a := fun i v19 k0_hw1 k0_h4 k0_h13 => k0_hw1.2.2.2.2.2.2.2.2.2.1 k0_h4 k0_h13
theorem k0_off45_wordsfp8e5m2 : ∀ (i : grid0.Coords) (v19 : BitVec 32) (k0_hw1 : k0_chk1 i v19), ∀ (k0_h4 : k0_cond4 i = 1#1), ∀ (k0_h13 : k0_cond13 i = 1#1), (Rect.unit (s := S4x1024x1024) (k0_off45 v19) S1x256x1024.size (k0_off45_inb i v19 k0_hw1 k0_h4 k0_h13)).WholeWords (EltTy.packing .fp8e5m2) := fun i v19 k0_hw1 k0_h4 k0_h13 => k0_hw1.2.2.2.2.2.2.2.2.2.2.1 k0_h4 k0_h13 (k0_off45_inb i v19 k0_hw1 k0_h4 k0_h13)
theorem k0_off46_inb : ∀ (i : grid0.Coords) (v19 : BitVec 32) (k0_hw1 : k0_chk1 i v19), ∀ (k0_h4 : k0_cond4 i = 1#1), ∀ a, (k0_off46 v19) a + S1x256x1024.size a ≤ S4x1024x1024.size a := fun i v19 k0_hw1 k0_h4 => k0_hw1.2.2.2.2.2.2.2.2.2.2.2.1 k0_h4
theorem k0_off50_inb : ∀ (i : grid0.Coords) (v19 : BitVec 32) (k0_hw1 : k0_chk1 i v19), ∀ (k0_h4 : k0_cond4 i = 1#1), ∀ (k0_h17 : k0_cond17 i = 1#1), ∀ a, (k0_off50 v19) a + S1x1.size a ≤ S4x4.size a := fun i v19 k0_hw1 k0_h4 k0_h17 => k0_hw1.2.2.2.2.2.2.2.2.2.2.2.2.1 k0_h4 k0_h17
theorem k0_off51_inb : ∀ (i : grid0.Coords) (v19 : BitVec 32) (k0_hw1 : k0_chk1 i v19), ∀ (k0_h4 : k0_cond4 i = 1#1), ∀ (k0_h17 : k0_cond17 i = 1#1), ∀ a, (k0_off51 v19) a + S1x256x1024.size a ≤ S4x1024x1024.size a := fun i v19 k0_hw1 k0_h4 k0_h17 => k0_hw1.2.2.2.2.2.2.2.2.2.2.2.2.2.1 k0_h4 k0_h17
theorem k0_off51_wordsfp8e5m2 : ∀ (i : grid0.Coords) (v19 : BitVec 32) (k0_hw1 : k0_chk1 i v19), ∀ (k0_h4 : k0_cond4 i = 1#1), ∀ (k0_h17 : k0_cond17 i = 1#1), (Rect.unit (s := S4x1024x1024) (k0_off51 v19) S1x256x1024.size (k0_off51_inb i v19 k0_hw1 k0_h4 k0_h17)).WholeWords (EltTy.packing .fp8e5m2) := fun i v19 k0_hw1 k0_h4 k0_h17 => k0_hw1.2.2.2.2.2.2.2.2.2.2.2.2.2.2.1 k0_h4 k0_h17 (k0_off51_inb i v19 k0_hw1 k0_h4 k0_h17)
theorem k0_off52_inb : ∀ (i : grid0.Coords) (v19 : BitVec 32) (k0_hw1 : k0_chk1 i v19), ∀ (k0_h4 : k0_cond4 i = 1#1), ∀ a, (k0_off52 v19) a + S1x256x1024.size a ≤ S4x1024x1024.size a := fun i v19 k0_hw1 k0_h4 => k0_hw1.2.2.2.2.2.2.2.2.2.2.2.2.2.2.2.1 k0_h4
theorem k0_off56_inb : ∀ (i : grid0.Coords) (v19 : BitVec 32) (k0_hw1 : k0_chk1 i v19), ∀ (k0_h21 : k0_cond21 i = 1#1), ∀ a, (k0_off56 v19) a + S1x1024x1024.size a ≤ S4x1024x1024.size a := fun i v19 k0_hw1 k0_h21 => k0_hw1.2.2.2.2.2.2.2.2.2.2.2.2.2.2.2.2 k0_h21

def k0_cond22 (i : grid0.Coords) : BitVec 1 :=
  let arg0 : BitVec 32 := BitVec.ofNat 32 (i 0).val
  let c0_i32_17 : BitVec 32 := 0#32
  let v41 : BitVec 1 := Scalar.cmpi .eq arg0 c0_i32_17
  let v42 : BitVec 32 := Scalar.extui v41
  let c0_i32_18 : BitVec 32 := 0#32
  let v43 : BitVec 1 := Scalar.cmpi .ne v42 c0_i32_18
  v43

def k0_off57 (i : grid0.Coords) : Fin 2 → Nat :=
  let c0_24 : Index := 0#32
  let arg1 : BitVec 32 := BitVec.ofNat 32 (i 1).val
  let c1024_i32 : BitVec 32 := 1024#32
  let v25 : BitVec 32 := Scalar.muli arg1 c1024_i32
  let v52 : Index := Scalar.indexCast v25
  ![0, v52.toNat]
def k0_cond23 (i : grid0.Coords) : BitVec 1 :=
  let arg0 : BitVec 32 := BitVec.ofNat 32 (i 0).val
  let c0_i32_19 : BitVec 32 := 0#32
  let v44 : BitVec 1 := Scalar.cmpi .sgt arg0 c0_i32_19
  let c3_i32_20 : BitVec 32 := 3#32
  let v45 : BitVec 1 := Scalar.cmpi .slt arg0 c3_i32_20
  let v46 : BitVec 1 := Scalar.andi v44 v45
  let v47 : BitVec 32 := Scalar.extui v46
  let c0_i32_21 : BitVec 32 := 0#32
  let v48 : BitVec 1 := Scalar.cmpi .ne v47 c0_i32_21
  v48

def k0_off58 (i : grid0.Coords) : Fin 2 → Nat :=
  let c0_24 : Index := 0#32
  let arg1 : BitVec 32 := BitVec.ofNat 32 (i 1).val
  let c1024_i32 : BitVec 32 := 1024#32
  let v25 : BitVec 32 := Scalar.muli arg1 c1024_i32
  let v52 : Index := Scalar.indexCast v25
  ![0, v52.toNat]
def k0_cond24 (i : grid0.Coords) : BitVec 1 :=
  let arg0 : BitVec 32 := BitVec.ofNat 32 (i 0).val
  let c3_i32_22 : BitVec 32 := 3#32
  let v49 : BitVec 1 := Scalar.cmpi .eq arg0 c3_i32_22
  let v50 : BitVec 32 := Scalar.extui v49
  let c0_i32_23 : BitVec 32 := 0#32
  let v51 : BitVec 1 := Scalar.cmpi .ne v50 c0_i32_23
  v51

def k0_off59 (i : grid0.Coords) : Fin 2 → Nat :=
  let c0_24 : Index := 0#32
  let arg1 : BitVec 32 := BitVec.ofNat 32 (i 1).val
  let c1024_i32 : BitVec 32 := 1024#32
  let v25 : BitVec 32 := Scalar.muli arg1 c1024_i32
  let v52 : Index := Scalar.indexCast v25
  ![0, v52.toNat]
def k0_cond25 (i : grid0.Coords) : BitVec 1 :=
  let arg0 : BitVec 32 := BitVec.ofNat 32 (i 0).val
  let c3_i32 : BitVec 32 := 3#32
  let v32 : BitVec 1 := Scalar.cmpi .eq arg0 c3_i32
  let arg1 : BitVec 32 := BitVec.ofNat 32 (i 1).val
  let c7_i32 : BitVec 32 := 7#32
  let v33 : BitVec 1 := Scalar.cmpi .eq arg1 c7_i32
  let v34 : BitVec 1 := Scalar.andi v32 v33
  let v35 : BitVec 32 := Scalar.extui v34
  let c0_i32_14 : BitVec 32 := 0#32
  let v36 : BitVec 1 := Scalar.cmpi .ne v35 c0_i32_14
  v36

def k0_off60 (d0 : Dev nD) (c3_i32_15 : BitVec 32) (c0_i32_23 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v37 : BitVec 32 := Scalar.addi v2 c3_i32_15
  let c4_i32_16 : BitVec 32 := 4#32
  let c0_i32_17 : BitVec 32 := 0#32
  let v38 : BitVec 1 := Scalar.cmpi .eq c4_i32_16 c0_i32_17
  let c1_i32_18 : BitVec 32 := 1#32
  let v39 : BitVec 32 := Scalar.select v38 c1_i32_18 c4_i32_16
  let v40 : BitVec 32 := Scalar.remsi v37 v39
  let c0_i32_20 : BitVec 32 := 0#32
  let v42 : BitVec 1 := Scalar.cmpi .slt v40 c0_i32_20
  let c0_i32_21 : BitVec 32 := 0#32
  let v43 : BitVec 1 := Scalar.cmpi .slt v39 c0_i32_21
  let v44 : BitVec 1 := Scalar.xori v42 v43
  let c0_i32_19 : BitVec 32 := 0#32
  let v41 : BitVec 1 := Scalar.cmpi .ne v40 c0_i32_19
  let v45 : BitVec 1 := Scalar.andi v44 v41
  let v46 : BitVec 32 := Scalar.addi v40 v39
  let v47 : BitVec 32 := Scalar.select v45 v46 v40
  let c1024_i32_22 : BitVec 32 := 1024#32
  let v48 : BitVec 32 := Scalar.muli v47 c1024_i32_22
  let v49 : BitVec 32 := Scalar.addi v48 c0_i32_23
  let c0_i32_28 : BitVec 32 := 0#32
  ![v49.toNat, 0]
def k0_off61 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_29 : BitVec 32 := 0#32
  let c0_i32_30 : BitVec 32 := 0#32
  ![v2.toNat, 0, 0]
def k0_off62 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_44 : BitVec 32 := 256#32
  let c0_i32_45 : BitVec 32 := 0#32
  ![v2.toNat, 256, 0]
def k0_off63 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_59 : BitVec 32 := 512#32
  let c0_i32_60 : BitVec 32 := 0#32
  ![v2.toNat, 512, 0]
def k0_off64 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_74 : BitVec 32 := 768#32
  let c0_i32_75 : BitVec 32 := 0#32
  ![v2.toNat, 768, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![v1.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Geometry.lean ====
/-
  The places the all-to-all moves data between, as element sets and as contents: a device's comm buffer in four slots of
  four chunks, a device's staged x block in four row blocks (one per peer) of four chunks, the semaphores that go with the
  chunks, and the fact that one transfer writes the chunk it is meant to write.
-/
module

public import proofs.«01_k».proof.Proof.Gen.KernelIdeal
public import proofs.«01_k».proof.Proof.Gen.KernelIdeal.Launch
public import Idealize.ShloMosaic.Lib.Pipeline.Regions
public import Idealize.ShloMosaic.Lib.Pipeline.Kit
public import Idealize.ShloMosaic.Lib.ValueLayout
public import Idealize.ShloMosaic.Lib.Exec.Geometry
public import Idealize.ShloMosaic.Lib.Tactic

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs -/

/-- The comm buffer, the staged x block, the staged result. -/
abbrev cM : Memref sig .tc .vmem S4x1024x1024 .fp8e5m2 := Memref.whole cc0_scratch0
abbrev xM : Memref sig .tc .vmem S4096x1024 .fp8e5m2 := Memref.whole cc0_stg0_0
abbrev oM : Memref sig .tc .vmem S1024x8192 .f32 := Memref.whole cc0_stg4_0

theorem inbC (j k : Fin 4) : ∀ a, (![j.val, 256 * k.val, 0] : Fin 3 → Nat) a + S1x256x1024.size a ≤ S4x1024x1024.size a := by
  revert j k; decide
theorem inbX (j k : Fin 4) : ∀ a, (![1024 * j.val + 256 * k.val, 0] : Fin 2 → Nat) a + S256x1024.size a ≤ S4096x1024.size a := by
  revert j k; decide

/-- Chunk k of comm slot j, as the transfers name it; and of the rows of the x block meant for device j. -/
abbrev cRow (j k : Fin 4) : Memref sig .tc .vmem S256x1024 .fp8e5m2 :=
  (cM.slice (Rect.unit (s := S4x1024x1024) ![j.val, 256 * k.val, 0] S1x256x1024.size (inbC j k)) (fun _ => rfl)).squeeze S256x1024 squeezes_S1x256x1024_S256x1024
abbrev xRow (j k : Fin 4) : Memref sig .tc .vmem S256x1024 .fp8e5m2 :=
  xM.slice (Rect.unit (s := S4096x1024) ![1024 * j.val + 256 * k.val, 0] S256x1024.size (inbX j k)) (fun _ => rfl)

/-- The elements of chunk k of comm slot j; the elements of slot j; the elements of the x block's rows for device j, chunk k. -/
def cChunk (j k : Fin 4) : Finset S4x1024x1024.Idx := Finset.univ.filter fun i => (i 0).val = j.val ∧ (i 1).val / 256 = k.val
def cSlot (j : Fin 4) : Finset S4x1024x1024.Idx := Finset.univ.filter fun i => (i 0).val = j.val
def xChunk (j k : Fin 4) : Finset S4096x1024.Idx := Finset.univ.filter fun i => (i 0).val / 256 = 4 * j.val + k.val
def xSlot (j : Fin 4) : Finset S4096x1024.Idx := Finset.univ.filter fun i => (i 0).val / 1024 = j.val

theorem cRow_set (j k : Fin 4) : (cRow j k).view.set = cChunk j k := by
  rw [Memref.set_view_squeeze]
  show ((View.whole cc0_scratch0).slice _).set = _
  rw [View.set_slice_whole]
  ext i
  unfold cChunk
  simp only [Rect.mem_set_unit, Finset.mem_filter, Finset.mem_univ, true_and]
  have h1 : (i 1).val < 1024 := (i 1).isLt
  have h2 : (i 2).val < 1024 := (i 2).isLt
  constructor
  · intro h
    have a0 := h 0; have a1 := h 1
    simp [S1x256x1024] at a0 a1
    omega
  · rintro ⟨e0, e1⟩ a
    match a with
    | 0 => simp [S1x256x1024]; omega
    | 1 => simp [S1x256x1024]; omega
    | 2 => simp [S1x256x1024]; omega

theorem xRow_set (j k : Fin 4) : (xRow j k).view.set = xChunk j k := by
  show ((View.whole cc0_stg0_0).slice _).set = _
  rw [View.set_slice_whole]
  ext i
  unfold xChunk
  simp only [Rect.mem_set_unit, Finset.mem_filter, Finset.mem_univ, true_and]
  have h1 : (i 1).val < 1024 := (i 1).isLt
  constructor
  · intro h
    have a0 := h 0; have a1 := h 1
    simp [S256x1024] at a0 a1
    omega
  · intro e a
    match a with
    | 0 => simp [S256x1024]; omega
    | 1 => simp [S256x1024]; omega

/-- A slot is its four chunks, the buffer its four slots. -/
theorem cSlot_eq (j : Fin 4) : cSlot j = Finset.univ.biUnion (cChunk j) := by
  ext i
  have h1 : (i 1).val < 1024 := (i 1).isLt
  simp only [cSlot, cChunk, Finset.mem_filter, Finset.mem_univ, true_and, Finset.mem_biUnion]
  constructor
  · intro h; exact ⟨⟨(i 1).val / 256, by omega⟩, h, rfl⟩
  · rintro ⟨_, h, _⟩; exact h
theorem xSlot_eq (j : Fin 4) : xSlot j = Finset.univ.biUnion (xChunk j) := by
  ext i
  have h1 : (i 0).val < 4096 := (i 0).isLt
  simp only [xSlot, xChunk, Finset.mem_filter, Finset.mem_univ, true_and, Finset.mem_biUnion]
  constructor
  · intro h; exact ⟨⟨(i 0).val / 256 % 4, by omega⟩, by show (i 0).val / 256 = 4 * j.val + (i 0).val / 256 % 4; omega⟩
  · rintro ⟨k, h⟩; have := k.isLt; omega
theorem cUniv_eq : (Finset.univ : Finset S4x1024x1024.Idx) = Finset.univ.biUnion cSlot := by
  ext i
  simp only [cSlot, Finset.mem_filter, Finset.mem_univ, true_and, Finset.mem_biUnion, true_iff]
  exact ⟨⟨(i 0).val, (i 0).isLt⟩, rfl⟩
theorem xUniv_eq : (Finset.univ : Finset S4096x1024.Idx) = Finset.univ.biUnion xSlot := by
  ext i
  have h1 : (i 0).val < 4096 := (i 0).isLt
  simp only [xSlot, Finset.mem_filter, Finset.mem_univ, true_and, Finset.mem_biUnion, true_iff]
  exact ⟨⟨(i 0).val / 1024, by omega⟩, rfl⟩

theorem cChunk_disj (j : Fin 4) {k k' : Fin 4} (h : k ≠ k') : Disjoint (cChunk j k) (cChunk j k') := by
  rw [Finset.disjoint_left]; intro i hi hi'
  simp only [cChunk, Finset.mem_filter, Finset.mem_univ, true_and] at hi hi'
  exact h (Fin.ext (hi.2.symm.trans hi'.2))
theorem cSlot_disj {j j' : Fin 4} (h : j ≠ j') : Disjoint (cSlot j) (cSlot j') := by
  rw [Finset.disjoint_left]; intro i hi hi'
  simp only [cSlot, Finset.mem_filter, Finset.mem_univ, true_and] at hi hi'
  exact h (Fin.ext (hi.symm.trans hi'))
theorem xChunk_disj (j : Fin 4) {k k' : Fin 4} (h : k ≠ k') : Disjoint (xChunk j k) (xChunk j k') := by
  rw [Finset.disjoint_left]; intro i hi hi'
  simp only [xChunk, Finset.mem_filter, Finset.mem_univ, true_and] at hi hi'
  exact h (Fin.ext (by omega))
theorem xSlot_disj {j j' : Fin 4} (h : j ≠ j') : Disjoint (xSlot j) (xSlot j') := by
  rw [Finset.disjoint_left]; intro i hi hi'
  simp only [xSlot, Finset.mem_filter, Finset.mem_univ, true_and] at hi hi'
  exact h (Fin.ext (hi.symm.trans hi'))

/-! ## Contents -/

variable (m : (ℓ : Loc nD τ sig) → Buf (Elt F) ℓ)

/-- Device c's x block. -/
def xv (c : Dev nD) : (⟨S4096x1024, .fp8e5m2⟩ : BufTy).Contents (Elt F) := m ((c : Thread nD τ).loc main_arg0)

/-- What device c's comm buffer holds once everything has arrived: slot j the rows of device j's x block meant for c. -/
def commBuf (c : Dev nD) : (⟨S4x1024x1024, .fp8e5m2⟩ : BufTy).Contents (Elt F) :=
  fun i => xv m (i 0) (ix2 (⟨1024 * c.val + (i 1).val, by have := c.isLt; have h : (i 1).val < 1024 := (i 1).isLt; have : nD = 4 := rfl; omega⟩ : Fin 4096) (i 2 : Fin 1024))

theorem cRow_emb (d k : Fin 4) (a : Fin 256) (b : Fin 1024) :
    (cRow d k).view.emb (ix2 a b) = (ix3 (d : Fin 4) (⟨256 * k.val + a.val, by have := k.isLt; have := a.isLt; omega⟩ : Fin 1024) b : S4x1024x1024.Idx) := by
  show (Rect.unit (s := S4x1024x1024) ![d.val, 256 * k.val, 0] S1x256x1024.size (inbC d k)).emb (Shape.reshapeEquiv _ (ix2 a b)) = _
  rw [reshapeEquiv_ix2_1ab]
  funext x
  apply Fin.ext
  match x with
  | 0 => simp [Rect.emb_apply]
  | 1 => simp [Rect.emb_apply]
  | 2 => simp [Rect.emb_apply]
theorem xRow_emb (d k : Fin 4) (a : Fin 256) (b : Fin 1024) :
    (xRow d k).view.emb (ix2 a b) = (ix2 (⟨1024 * d.val + 256 * k.val + a.val, by have := d.isLt; have := k.isLt; have := a.isLt; omega⟩ : Fin 4096) b : S4096x1024.Idx) := by
  show (Rect.unit (s := S4096x1024) ![1024 * d.val + 256 * k.val, 0] S256x1024.size (inbX d k)).emb (ix2 a b) = _
  funext x
  apply Fin.ext
  match x with
  | 0 => simp [Rect.emb_apply]
  | 1 => simp [Rect.emb_apply]

omit [FloatOps F] in
/-- One transfer from device d to device c writes chunk k of c's slot d with what it is to hold. -/
theorem sent_eq (c d : Dev nD) (k : Fin 4) (fd : (⟨S4x1024x1024, .fp8e5m2⟩ : BufTy).Contents (Elt F)) (i : S4x1024x1024.Idx) (hi : i ∈ (cRow d k).view.set) :
    (cRow d k).view.write (Elt F) fd ((xRow c k).view.read (Elt F) (xv m d)) Finset.univ i = commBuf m c i := by
  rw [View.set, Finset.mem_map] at hi
  obtain ⟨y, -, rfl⟩ := hi
  rw [View.write_emb_of_mem _ _ (Finset.mem_univ y)]
  obtain ⟨a, b, rfl⟩ : ∃ (a : Fin 256) (b : Fin 1024), y = ix2 a b := ⟨y 0, y 1, eq_ix2 y⟩
  rw [View.read_apply, cRow_emb, xRow_emb, cast_cast, cast_eq]
  unfold commBuf
  show _ = xv m d (ix2 _ b)
  congr 2
  apply Fin.ext
  show 1024 * c.val + 256 * k.val + a.val = 1024 * c.val + (256 * k.val + a.val)
  omega

end Cert.A2A

end
-- ==== Proof.Protocol.lean ====
/-
  The all-to-all's protocol: its semaphore cells, what each cell hands over when it is paid (the schedule), what a device
  owes at launch and in which order it pays, and the levels that order the waits.

  * The barrier cell of device c is paid one unit by each other device d; with it d hands c the four chunks of d's comm slot c.
  * The receive cell (j, k) of device c is paid by device j's transfer of chunk k; with it c gets chunk k of its own slot j back,
    filled.
  * The send cell (r, k) of device c is paid by c's own transfer to its r-th peer; with it c gets those rows of x back.
-/
module

public import proofs.«01_k».proof.Proof.Geometry

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline library's copy, the protocol's, and the counters of local transfers. -/
abbrev UU : Type := UR sig nD τ × (URounds (GSem nD τ sig) (Fin 4) × Counters)

local notation "𝕄" => MT nD τ sig Unit (Elt F) ℕ UU ℕ

abbrev EP : Emb (UR sig nD τ) (MT nD τ sig Unit (Elt F) ℕ UU ℕ) := embL
def ER : Emb (URounds (GSem nD τ sig) (Fin 4)) (MT nD τ sig Unit (Elt F) ℕ UU ℕ) :=
  (Emb.inl : Emb (URounds (GSem nD τ sig) (Fin 4)) (URounds (GSem nD τ sig) (Fin 4) × Counters)).trans embR
abbrev EC : UEmb Counters (MT nD τ sig Unit (Elt F) ℕ UU ℕ) := countersEmb

instance ER_landsIn : (ER (F := F)).LandsIn (upEmb : UEmb _ 𝕄) := by unfold ER; infer_instance

/-! ## Peers -/

/-- How far ahead of a device its r-th destination is; its r-th source. -/
def ahead : Fin 3 → ℕ := ![3, 1, 2]
def behind : Fin 3 → ℕ := ![1, 3, 2]
set_option backward.proofsInPublic true in
def peer (r : Fin 3) (c : Dev nD) : Dev nD := ⟨(c.val + ahead r) % 4, Nat.mod_lt _ (by decide)⟩
set_option backward.proofsInPublic true in
def src (r : Fin 3) (c : Dev nD) : Dev nD := ⟨(c.val + behind r) % 4, Nat.mod_lt _ (by decide)⟩

theorem src_peer (r : Fin 3) (c : Dev nD) : src r (peer r c) = c := by revert r c; decide
theorem peer_src (r : Fin 3) (c : Dev nD) : peer r (src r c) = c := by revert r c; decide
theorem src_ne (r : Fin 3) (c : Dev nD) : src r c ≠ c := by revert r c; decide
theorem peer_ne (r : Fin 3) (c : Dev nD) : peer r c ≠ c := by revert r c; decide

section
variable {M : Type} [URA M]
/-- One thing per device: this device's and its three sources'; this device's and its three destinations'. -/
theorem bigSep_src (c : Dev nD) (Φ : Dev nD → sProp M) :
    bigSep Finset.univ Φ = iprop(Φ c ∗ Φ (src 0 c) ∗ Φ (src 1 c) ∗ Φ (src 2 c)) :=
  bigSep_univ_eq_bigSepL [c, src 0 c, src 1 c, src 2 c] (by revert c; decide) (by revert c; decide) Φ
theorem bigSep_peer (c : Dev nD) (Φ : Dev nD → sProp M) :
    bigSep Finset.univ Φ = iprop(Φ c ∗ Φ (peer 0 c) ∗ Φ (peer 1 c) ∗ Φ (peer 2 c)) :=
  bigSep_univ_eq_bigSepL [c, peer 0 c, peer 1 c, peer 2 c] (by revert c; decide) (by revert c; decide) Φ
theorem bigSep_ne_peer (c : Dev nD) (Φ : Dev nD → sProp M) :
    bigSep (Finset.univ.erase c) Φ = iprop(Φ (peer 0 c) ∗ Φ (peer 1 c) ∗ Φ (peer 2 c)) := by
  rw [show (Finset.univ.erase c : Finset (Dev nD)) = {peer 0 c, peer 1 c, peer 2 c} from by revert c; decide,
    bigSep_insert (by revert c; decide), bigSep_insert (by revert c; decide), bigSep_singleton]
  rfl
theorem bigSep_four (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_three (Φ : Fin 3 → sProp M) : bigSep Finset.univ Φ = iprop(Φ 0 ∗ Φ 1 ∗ Φ 2) :=
  bigSep_univ_eq_bigSepL [0, 1, 2] (by decide) (by decide) Φ
end

/-! ## Cells -/

abbrev barS : Sem sig := (SemArray.scalar (sig.barrier 0 rfl) : Sems sig S_).sem
set_option backward.proofsInPublic true in
def sendS (r : Fin 3) (k : Fin 4) : DmaSem sig := ⟨6 + 4 * r.val + k.val, by have := r.isLt; have := k.isLt; show _ < 34; omega⟩
set_option backward.proofsInPublic true in
def recvS (j k : Fin 4) : DmaSem sig := ⟨18 + 4 * j.val + k.val, by have := j.isLt; have := k.isLt; show _ < 34; omega⟩

theorem sendS_eq (r : Fin 3) (k : Fin 4) (off : Fin 2 → ℕ) (h : off = ![r.val, k.val]) (inb : ∀ a, off a + S1x1.size a ≤ S3x4.size a) :
    ((cc0_scratch1.slice (Rect.unit (s := S3x4) off S1x1.size inb)).squeeze S_ squeezes_S1x1_S_).sem = sendS r k := by
  subst h; revert r k; decide
theorem recvS_eq (j k : Fin 4) (off : Fin 2 → ℕ) (h : off = ![j.val, k.val]) (inb : ∀ a, off a + S1x1.size a ≤ S4x4.size a) :
    ((cc0_scratch2.slice (Rect.unit (s := S4x4) off S1x1.size inb)).squeeze S_ squeezes_S1x1_S_).sem = recvS j k := by
  subst h; revert j k; decide

abbrev barCell (c : Dev nD) : GSem nD τ sig := ((c : Thread nD τ), .reg barS)
abbrev sendCell (c : Dev nD) (r : Fin 3) (k : Fin 4) : GSem nD τ sig := ((c : Thread nD τ), .dma (sendS r k))
abbrev recvCell (c : Dev nD) (j k : Fin 4) : GSem nD τ sig := ((c : Thread nD τ), .dma (recvS j k))

/-- What a transfer of a chunk credits. -/
abbrev N : ℕ := (cRow 0 0).view.dmaCredit
theorem N_pos : 0 < N := View.dmaCredit_pos _ (by decide)

/-! ## The schedule -/

variable (m : (ℓ : Loc nD τ sig) → Buf (Elt F) ℓ)

abbrev cLoc (c : Dev nD) : Loc nD τ sig := (c : Thread nD τ).loc cc0_scratch0
abbrev xLoc (c : Dev nD) : Loc nD τ sig := (c : Thread nD τ).loc cc0_stg0_0

/-- Chunk k of slot j of device c's comm buffer at contents not chosen; filled; the rows of x for device j. -/
abbrev cAny (c : Dev nD) (j k : Fin 4) : sProp 𝕄 := iprop(∃ f : Buf (Elt F) (cLoc c), cLoc c ↦[cChunk j k]{fullShare} f)
abbrev cFull (c : Dev nD) (j k : Fin 4) : sProp 𝕄 := iprop(cLoc c ↦[cChunk j k]{fullShare} commBuf m c)
abbrev xPc (c : Dev nD) (j k : Fin 4) : sProp 𝕄 := iprop(xLoc c ↦[xChunk j k]{fullShare} xv m c)

def barPay (c d : Dev nD) : sProp 𝕄 := bigSep Finset.univ fun k : Fin 4 => iprop(cAny d c k ∗ reached ER (recvCell d c k) 0)
def recvPay (c : Dev nD) (j k : Fin 4) : sProp 𝕄 := cFull m c j k
def sendPay (c : Dev nD) (r : Fin 3) (k : Fin 4) : sProp 𝕄 := xPc m c (peer r c) k

def dmaDuties (c : Dev nD) (s : ℕ) : Finset (Fin 4) :=
  if s < 6 then ∅ else if s < 18 then {0} else if (s - 18) / 4 = c.val then ∅ else {0}

set_option backward.proofsInPublic true in
def dmaPay (c : Dev nD) (s : ℕ) : sProp 𝕄 :=
  if s < 18 then sendPay m c ⟨(s - 6) / 4 % 3, Nat.mod_lt _ (by decide)⟩ ⟨(s - 6) % 4, Nat.mod_lt _ (by decide)⟩
  else recvPay m c ⟨(s - 18) / 4 % 4, Nat.mod_lt _ (by decide)⟩ ⟨(s - 18) % 4, Nat.mod_lt _ (by decide)⟩

/-- One round, round 0. -/
def rd : Rounds.Schedule (GSem nD τ sig) (Fin 4) 𝕄 where
  duties g r := if r = 0 ∧ g.1.2 = .tc then (match g.2 with | .reg _ => Finset.univ.erase g.1.1 | .dma s => dmaDuties g.1.1 s.val) else ∅
  unitless _ := False
  amount g _ _ := match g.2 with | .reg _ => 1 | .dma _ => N
  payload g _ d := match g.2 with | .reg _ => barPay g.1.1 d | .dma s => dmaPay m g.1.1 s.val
  amount_pos g _ _ _ := by
    cases g.2
    · exact Nat.one_pos
    · exact N_pos

instance rd_payload_storable (g : GSem nD τ sig) (r : ℕ) (d : Fin 4) :
    BI.Storable (upEmb : UEmb _ 𝕄) ((rd (F := F) m).payload g r d) := by
  obtain ⟨t, s⟩ := g
  cases s with
  | reg s => show BI.Storable upEmb (barPay t.1 d); unfold barPay; infer_instance
  | dma s => show BI.Storable upEmb (dmaPay m t.1 s.val); unfold dmaPay sendPay recvPay; split <;> infer_instance

section Sched

variable (c : Dev nD)

omit [FloatOps F] in
theorem duties_bar : (rd (F := F) m).duties (barCell c) 0 = Finset.univ.erase c := by dsimp only [rd]; exact if_pos ⟨rfl, rfl⟩
omit [FloatOps F] in
theorem duties_send (r : Fin 3) (k : Fin 4) : (rd (F := F) m).duties (sendCell c r k) 0 = {0} := by
  dsimp only [rd]; rw [if_pos ⟨rfl, rfl⟩]; revert c r k; decide
omit [FloatOps F] in
theorem duties_recv (j k : Fin 4) (h : j ≠ c) : (rd (F := F) m).duties (recvCell c j k) 0 = {0} := by
  dsimp only [rd]; rw [if_pos ⟨rfl, rfl⟩]; revert c j k; decide
omit [FloatOps F] in
theorem duties_own (k : Fin 4) : (rd (F := F) m).duties (recvCell c c k) 0 = ∅ := by
  dsimp only [rd]; rw [if_pos ⟨rfl, rfl⟩]; revert c k; decide
omit [FloatOps F] in
theorem duties_later (g : GSem nD τ sig) : ∀ r, 1 ≤ r → (rd (F := F) m).duties g r = ∅ :=
  fun r hr => by dsimp only [rd]; exact if_neg fun h => by omega

omit [FloatOps F] in
theorem amount_bar (d : Fin 4) : (rd (F := F) m).amount (barCell c) 0 d = 1 := rfl
omit [FloatOps F] in
theorem amount_send (r : Fin 3) (k d : Fin 4) : (rd (F := F) m).amount (sendCell c r k) 0 d = N := rfl
omit [FloatOps F] in
theorem amount_recv (j k d : Fin 4) : (rd (F := F) m).amount (recvCell c j k) 0 d = N := rfl

omit [FloatOps F] in
theorem expect_bar : (rd (F := F) m).expect (barCell c) 0 = 3 := by
  unfold Schedule.expect Schedule.amountOf; rw [duties_bar, Finset.sum_congr rfl fun d _ => amount_bar m c d]; revert c; decide
omit [FloatOps F] in
theorem expect_send (r : Fin 3) (k : Fin 4) : (rd (F := F) m).expect (sendCell c r k) 0 = N := by
  unfold Schedule.expect Schedule.amountOf; rw [duties_send, Finset.sum_singleton, amount_send]
omit [FloatOps F] in
theorem expect_recv (j k : Fin 4) (h : j ≠ c) : (rd (F := F) m).expect (recvCell c j k) 0 = N := by
  unfold Schedule.expect Schedule.amountOf; rw [duties_recv m c j k h, Finset.sum_singleton, amount_recv]

omit [FloatOps F] in
theorem payload_bar (d : Fin 4) : (rd (F := F) m).payload (barCell c) 0 d = barPay c d := rfl
omit [FloatOps F] in
theorem payload_send (r : Fin 3) (k d : Fin 4) : (rd (F := F) m).payload (sendCell c r k) 0 d = sendPay m c r k := by
  show dmaPay m c (sendS r k).val = _
  have h : (sendS r k).val = 6 + 4 * r.val + k.val := rfl
  have hr := r.isLt; have hk := k.isLt
  unfold dmaPay; rw [if_pos (by omega)]
  congr 1 <;> apply Fin.ext <;> simp only [h] <;> omega
omit [FloatOps F] in
theorem payload_recv (j k d : Fin 4) : (rd (F := F) m).payload (recvCell c j k) 0 d = recvPay m c j k := by
  show dmaPay m c (recvS j k).val = _
  have h : (recvS j k).val = 18 + 4 * j.val + k.val := rfl
  have hr := j.isLt; have hk := k.isLt
  unfold dmaPay; rw [if_neg (by omega)]
  congr 1 <;> apply Fin.ext <;> simp only [h] <;> omega

omit [FloatOps F] in
theorem rest_bar : bigSep ((rd (F := F) m).duties (barCell c) 0 \ ∅) (fun u => (rd (F := F) m).payload (barCell c) 0 u)
    = iprop(barPay c (peer 0 c) ∗ barPay c (peer 1 c) ∗ barPay c (peer 2 c)) := by
  rw [Finset.sdiff_empty, duties_bar, bigSep_ne_peer]; rfl
omit [FloatOps F] in
theorem rest_send (r : Fin 3) (k : Fin 4) : bigSep ((rd (F := F) m).duties (sendCell c r k) 0 \ ∅) (fun u => (rd (F := F) m).payload (sendCell c r k) 0 u) = sendPay m c r k := by
  rw [Finset.sdiff_empty, duties_send, bigSep_singleton, payload_send]
omit [FloatOps F] in
theorem rest_recv (j k : Fin 4) (h : j ≠ c) : bigSep ((rd (F := F) m).duties (recvCell c j k) 0 \ ∅) (fun u => (rd (F := F) m).payload (recvCell c j k) 0 u) = recvPay m c j k := by
  rw [Finset.sdiff_empty, duties_recv m c j k h, bigSep_singleton, payload_recv]

end Sched

/-! ## What a device owes, and the levels -/

/-- What device c's transfer of chunk k to its r-th peer pays. -/
abbrev Oat (c : Dev nD) (r : Fin 3) (k : Fin 4) : CellTallies nD τ sig Unit := tallyAt (recvCell (peer r c) c k) () N
abbrev Obar (c : Dev nD) (r : Fin 3) : CellTallies nD τ sig Unit := tallyAt (barCell (peer r c)) () 1

set_option backward.proofsInPublic true in
/-- What device c owes while its last n transfers are still to be started: row after row, chunk after chunk. -/
def Osend (c : Dev nD) : ℕ → CellTallies nD τ sig Unit
  | 0 => 0
  | n + 1 => Osend c n + Oat c ⟨(11 - n) / 4 % 3, Nat.mod_lt _ (by decide)⟩ ⟨(11 - n) % 4, Nat.mod_lt _ (by decide)⟩

/-- At launch: the twelve transfers and the three barrier signals, paid to the third, second and first device ahead last to first. -/
def O₀ (c : Dev nD) : CellTallies nD τ sig Unit := Osend c 12 + Obar c 0 + Obar c 2 + Obar c 1

def L (g : GSem nD τ sig) : Finset Unit := if g.1.2 = .tc then {()} else ∅
/-- Which of the three rows fills slot j of device c. -/
def phase (c : Dev nD) (j : ℕ) : ℕ := (![0, 1, 2, 0] : Fin 4 → ℕ) ⟨(c.val + 4 - j) % 4, Nat.mod_lt _ (by decide)⟩
/-- Barrier cells at 1, receive cells at 2 and up by the row that pays them, all else at 0. -/
def lv (g : GSem nD τ sig) (_ : Unit) : ℕ := match g.2 with | .reg _ => 1 | .dma s => if s.val < 18 then 0 else 2 + phase g.1.1 ((s.val - 18) / 4)

theorem L_of_ne (g : GSem nD τ sig) (h : g.1.2 ≠ .tc) : L g = ∅ := if_neg h
theorem L_tc (c : Dev nD) (sm : SemLoc sig) : L ((c : Thread nD τ), sm) = {()} := if_pos rfl

theorem lv_recv (r : Fin 3) (c : Dev nD) (k : Fin 4) : lv (recvCell (peer r c) c k) () = 2 + r.val := by revert r c k; decide
theorem lv_src (r : Fin 3) (c : Dev nD) (k : Fin 4) : lv (recvCell c (src r c) k) () = 2 + r.val := by revert r c k; decide

/-- Everything O owes lies on a device's cells above level n. -/
def Above (n : ℕ) (O : CellTallies nD τ sig Unit) : Prop := ∀ g u, 0 < O g u → L g = {()} ∧ n < lv g ()

theorem above_zero (n : ℕ) : Above n 0 := fun g u h => absurd h (by simp)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_at {n k : ℕ} {c : Dev nD} {sm : SemLoc sig} (h : n < lv ((c : Thread nD τ), sm) ()) : Above n (tallyAt ((c : Thread nD τ), sm) () k) := fun g u hg => by
  rw [tallyAt_apply] at hg
  by_cases he : g = ((c : Thread nD τ), sm) ∧ u = ()
  · rw [he.1]; exact ⟨L_tc c sm, h⟩
  · rw [if_neg he] at hg; exact absurd hg (Nat.lt_irrefl 0)

theorem above_send (c : Dev nD) : ∀ n, Above 1 (Osend c n)
  | 0 => above_zero 1
  | n + 1 => above_add (above_send c n) (above_at (by rw [lv_recv]; omega))
/-- The last row's transfers pay cells of level 4. -/
theorem above_last (c : Dev nD) : Above 3 (Osend c 4) :=
  above_add (above_add (above_add (above_add (above_zero 3) (above_at (by rw [lv_recv]; decide))) (above_at (by rw [lv_recv]; decide)))
    (above_at (by rw [lv_recv]; decide))) (above_at (by rw [lv_recv]; decide))
theorem above_mono {n n' : ℕ} {O : CellTallies nD τ sig Unit} (h : n' ≤ n) (hO : Above n O) : Above n' O :=
  fun g u hg => ⟨(hO g u hg).1, Nat.lt_of_le_of_lt h (hO g u hg).2⟩
theorem above_launch (c : Dev nD) : Above 0 (O₀ c) :=
  above_add (above_add (above_add (above_mono (by decide) (above_send c 12)) (above_at Nat.zero_lt_one)) (above_at Nat.zero_lt_one)) (above_at Nat.zero_lt_one)

omit [FloatOps F] in
/-- A wait on a cell at level at most n, owing only above n, is allowed. -/
theorem mayWait {n : ℕ} (c : Dev nD) (sm : SemLoc sig) {O : CellTallies nD τ sig Unit} (hs : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(hO g u hg).1]; exact Finset.mem_singleton_self _)
    (fun p hp => by rw [Finset.mem_singleton.mp hp]; exact hs)
    (fun g u hg => (hO g u hg).2)

end Cert.A2A

end
-- ==== Proof.Steps.lean ====
/-
  One step of the protocol each: the barrier signal and wait, the start of one chunk's transfer, the wait for one chunk's
  arrival and for one chunk's departure.
-/
module

public import proofs.«01_k».proof.Proof.Protocol

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel's variants: none. -/
abbrev 𝒱₀ : Variants := Variants.none

/-- The run of the kernel body's code on device c. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- A device's cells, open to all, and that it is at round 0 of its barrier cell. -/
def ctxAt (κ : GSem nD τ sig → ℕ) (c : Dev nD) : sProp 𝕄 :=
  iprop(cellInv ER (rd m) (κ (barCell c)) (barCell c) ∗ reached ER (barCell c) 0
    ∗ bigSep Finset.univ (fun r : Fin 3 => bigSep Finset.univ fun k : Fin 4 => cellInv ER (rd m) (κ (sendCell c r k)) (sendCell c r k))
    ∗ bigSep Finset.univ (fun j : Fin 4 => bigSep Finset.univ fun k : Fin 4 => cellInv ER (rd m) (κ (recvCell c j k)) (recvCell c j k)))
def Ctx (κ : GSem nD τ sig → ℕ) : sProp 𝕄 := iprop(bigSep Finset.univ (ctxAt m κ) ∗ levAts L lv)

instance ctxAt_persistent (κ : GSem nD τ sig → ℕ) (c : Dev nD) : Persistent (ctxAt m κ c) := by unfold ctxAt; infer_instance
instance Ctx_persistent (κ : GSem nD τ sig → ℕ) : Persistent (Ctx m κ) := by unfold Ctx; infer_instance

omit [FloatOps F] in
theorem ctx_lev (κ : GSem nD τ sig → ℕ) : Ctx m κ ⊢ (levAts L lv : sProp 𝕄) := by unfold Ctx; exact sep_elim_right
omit [FloatOps F] in
theorem ctx_at (κ : GSem nD τ sig → ℕ) (c : Dev nD) : Ctx m κ ⊢ ctxAt m κ c := by
  unfold Ctx; exact sep_elim_left.trans (bigSep_elim (Finset.mem_univ c))
omit [FloatOps F] in
theorem ctx_bar (κ : GSem nD τ sig → ℕ) (c : Dev nD) :
    Ctx m κ ⊢ iprop(cellInv ER (rd m) (κ (barCell c)) (barCell c) ∗ reached ER (barCell c) 0) := by
  refine (ctx_at m κ c).trans ?_
  unfold ctxAt
  iintro ⟨H1, H2, -⟩
  isplitl [H1]; · iexact H1
  iexact H2
omit [FloatOps F] in
theorem ctx_send (κ : GSem nD τ sig → ℕ) (c : Dev nD) (r : Fin 3) (k : Fin 4) :
    Ctx m κ ⊢ cellInv ER (rd m) (κ (sendCell c r k)) (sendCell c r k) := by
  refine (ctx_at m κ c).trans ?_
  unfold ctxAt
  iintro ⟨-, -, H, -⟩
  iapply (show bigSep Finset.univ (fun r : Fin 3 => bigSep Finset.univ fun k : Fin 4 => cellInv ER (rd m) (κ (sendCell c r k)) (sendCell c r k)) ⊢ _ from
    (bigSep_elim (Finset.mem_univ r)).trans (bigSep_elim (Finset.mem_univ k)))
  iexact H
omit [FloatOps F] in
theorem ctx_recv (κ : GSem nD τ sig → ℕ) (c : Dev nD) (j k : Fin 4) :
    Ctx m κ ⊢ cellInv ER (rd m) (κ (recvCell c j k)) (recvCell c j k) := by
  refine (ctx_at m κ c).trans ?_
  unfold ctxAt
  iintro ⟨-, -, -, H⟩
  iapply (show bigSep Finset.univ (fun j : Fin 4 => bigSep Finset.univ fun k : Fin 4 => cellInv ER (rd m) (κ (recvCell c j k)) (recvCell c j k)) ⊢ _ from
    (bigSep_elim (Finset.mem_univ j)).trans (bigSep_elim (Finset.mem_univ k)))
  iexact H

/-- What a device owes, whatever it has waited for. -/
def ow (c : Dev nD) (O : CellTallies nD τ sig Unit) : sProp 𝕄 := iprop(∃ W : Waits sig Unit, owes (c : Thread nD τ) O W)

/-! ## The barrier -/

theorem wp_signal_bar (κ : GSem nD τ sig → ℕ) (c n : Dev nD) (r : Fin 3) (hn : n = peer r c) {O : CellTallies nD τ sig Unit}
    {a : Nat} (ha : a = 1) {s : Sem sig} (hs : s = barS)
    {α : Type} {Q : α → sProp 𝕄} {k : PUnit → Prog (TpuEff nD τ sig (Elt F) Λ₀ .tc) α} :
    iprop(Ctx m κ ∗ ow c (O + Obar c r) ∗ dutyTok ER (barCell (peer r c)) 0 c ∗ barPay (peer r c) c)
      ⊢ iprop((ow c O -∗ WP c (k ⟨⟩) Q) -∗ WP c (.op (.semSignal (Dev.tc n : Thread nD τ) s a) k) Q) := by
  subst hn ha hs
  unfold ow
  iintro ⟨#HC, ⟨%W, HO⟩, Ht, Hp⟩ Hk
  icases (ctx_bar m κ (peer r c)) $$ HC with ⟨#HI, #HR⟩
  iapply (Rounds.wp_signal 𝒱₀ ER (rd m) (c : Thread nD τ) none (dst := ((peer r c : Dev nD) : Thread nD τ)) (κ := κ (barCell (peer r c))) (d := c)
      (by rw [duties_bar]; exact Finset.mem_erase.2 ⟨(peer_ne r c).symm, Finset.mem_univ _⟩) (amount_bar m (peer r c) c) () O rfl)
    $$ [HO Ht Hp]
  · isplitr; · iexact HI
    isplitl [HO]; · iexact HO
    isplitl [Ht]; · iexact Ht
    isplitl [Hp]
    · rw [payload_bar]; iexact Hp
    iexact HR
  iintro HO
  iapply Hk
  iexists W
  iexact HO

theorem wp_wait_bar (κ : GSem nD τ sig → ℕ) (c : Dev nD) {O : CellTallies nD τ sig Unit} (hO : Above 1 O)
    {a : Nat} (ha : a = 3) {s : Sem sig} (hs : s = barS)
    {α : Type} {Q : α → sProp 𝕄} {k : PUnit → Prog (TpuEff nD τ sig (Elt F) Λ₀ .tc) α} :
    iprop(Ctx m κ ∗ ow c O ∗ atPos ER (barCell c) 0 ∅ 0 ∗ cred (tallyAt (barCell c) () 3))
      ⊢ iprop((ow c O ∗ atPos ER (barCell c) 1 ∅ 0 ∗ barPay c (peer 0 c) ∗ barPay c (peer 1 c) ∗ barPay c (peer 2 c) -∗ WP c (k ⟨⟩) Q)
        -∗ WP c (.op (.semWait s a) k) Q) := by
  subst ha hs
  unfold ow
  iintro ⟨#HC, ⟨%W, HO⟩, Ha, Hc⟩ Hk
  icases (ctx_bar m κ c) $$ HC with ⟨#HI, #HR⟩
  iapply (Rounds.wp_wait_rest_token 𝒱₀ ER (rd m) (c : Thread nD τ) none (κ := κ (barCell c))
      (wpE_semWait_eq 𝒱₀ (c : Thread nD τ) none Set.univ) (Set.mem_univ _) () (O := O) (W := W) (R := 0) (m := 0) (T := ∅)
      (by rw [expect_bar])) $$ [Hc HO Ha]
  · isplitr; · iexact HI
    isplitl [Hc]; · iexact Hc
    isplitl [HO]; · iexact HO
    isplitr
    · iapply (mayWait c (.reg barS) (n := 1) (le_refl _) hO); iapply (ctx_lev m κ); iexact HC
    iexact Ha
  iintro ⟨HO, Ha, -, Hp⟩
  ihave Hp := (Entails.of_eq (rest_bar m c)) $$ Hp
  iapply Hk
  isplitl [HO]; · iexists _; iexact HO
  isplitl [Ha]; · iexact Ha
  iexact Hp

/-! ## One chunk -/

/-- What starting chunk k of row r takes: the rows of x, the place they go, and the two duties it pays. -/
def sendItem (c : Dev nD) (r : Fin 3) (k : Fin 4) : sProp 𝕄 :=
  iprop(xPc m c (peer r c) k ∗ cAny (peer r c) c k ∗ dutyTok ER (sendCell c r k) 0 0 ∗ reached ER (sendCell c r k) 0
    ∗ dutyTok ER (recvCell (peer r c) c k) 0 0 ∗ reached ER (recvCell (peer r c) c k) 0)

theorem cRow_credit (j k : Fin 4) : (cRow j k).view.dmaCredit = N := rfl
theorem xRow_credit (j k : Fin 4) : (xRow j k).view.dmaCredit = N := rfl
theorem cRow_amount (j k : Fin 4) (s : DmaSem sig) : (cRow j k).view.amount (.dma s) = N := rfl

theorem wp_send_chunk (κ : GSem nD τ sig → ℕ) (c n : Dev nD) (r : Fin 3) (k : Fin 4) (hn : n = peer r c)
    {xs : Memref sig .tc .vmem S256x1024 .fp8e5m2} (hx : xs = xRow (peer r c) k)
    {cd : Memref sig .tc .vmem S256x1024 .fp8e5m2} (hc : cd = cRow c k)
    {sS sR : DmaSem sig} (hS : sS = sendS r k) (hR : sR = recvS c k)
    {hsc : (cd : Memref sig (Dev.tc n : Thread nD τ).2.kind .vmem S256x1024 .fp8e5m2).view.ref.isScScratch = false}
    {hsrc : xs.view.WordExact} {hdst : cd.view.WordExact}
    {hsem : DmaTarget.Typed .vmem (.dma sR) (.remote (Dev.tc n : Thread nD τ) (cd : Memref sig .tc .vmem S256x1024 .fp8e5m2) (.dma sS) hsc)}
    {O : CellTallies nD τ sig Unit} {α : Type} {Q : α → sProp 𝕄} {K : PUnit → Prog (TpuEff nD τ sig (Elt F) Λ₀ .tc) α} :
    iprop(Ctx m κ ∗ ow c (O + Oat c r k) ∗ sendItem m c r k)
      ⊢ iprop((ow c O ∗ cred (tallyAt (sendCell c r k) () N) -∗ WP c (K ⟨⟩) Q)
        -∗ WP c (.op (.enqueueDma xs (.remote (Dev.tc n : Thread nD τ) cd (.dma sS) hsc) (.dma sR) hsrc hdst hsem) K) Q) := by
  subst hn hx hc hS hR
  unfold ow sendItem
  iintro ⟨#HC, ⟨%W, HO⟩, Hx, ⟨%fd, Hd⟩, Ht1, Hr1, Ht2, Hr2⟩ Hk
  ihave #HI1 := (ctx_send m κ c r k) $$ HC
  ihave #HI2 := (ctx_recv m κ (peer r c) c k) $$ HC
  iapply (Rounds.wp_send_pointsTo 𝒱₀ ER (rd m) (c : Thread nD τ) none (κ₁ := κ (sendCell c r k)) (κ₂ := κ (recvCell (peer r c) c k))
    (r₁ := 0) (r₂ := 0) (d₁ := 0) (d₂ := 0) (fd := fd) (fs := xv m c) (q := fullShare)
    (by rw [duties_send]; exact Finset.mem_singleton_self _) (by rw [duties_recv m _ _ _ (peer_ne r c).symm]; exact Finset.mem_singleton_self _)
    () () N (cRow_amount c k _) (amount_send m c r k 0) (amount_recv m (peer r c) c k 0) O rfl (W := W)
    (by rw [payload_send]; unfold sendPay xPc; rw [xRow_set])
    (by rw [payload_recv]; unfold recvPay cFull; rw [cRow_set]
        exact Entails.of_eq (pointsTo_congr fun i hi => sent_eq m (peer r c) c k fd i (by rw [cRow_set]; exact hi))))
    $$ [HO Hx Hd Ht1 Hr1 Ht2 Hr2]
  · isplitr; · iexact HI1
    isplitr; · iexact HI2
    isplitl [Hx]; · rw [xRow_set]; iexact Hx
    isplitl [Hd]; · rw [cRow_set]; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists W; iexact HO
  iexact Hc

theorem wp_recv_chunk (κ : GSem nD τ sig → ℕ) (c : Dev nD) (j k : Fin 4) (hj : j ≠ c)
    {s : DmaSem sig} (hs : s = recvS j k)
    {sp : Space} {shp : Shape} {φ : EltTy} {xs : Memref sig .tc sp shp φ}
    {cd : Memref sig .tc .vmem S256x1024 .fp8e5m2} (hc : cd = cRow j k)
    {h1 : xs.view.WordExact} {h2 : cd.view.WordExact}
    {O : CellTallies nD τ sig Unit} (hO : Above (lv (recvCell c j k) ()) O)
    {α : Type} {Q : α → sProp 𝕄} {K : PUnit → Prog (TpuEff nD τ sig (Elt F) Λ₀ .tc) α} :
    iprop(Ctx m κ ∗ ow c O ∗ atPos ER (recvCell c j k) 0 ∅ 0 ∗ cred (tallyAt (recvCell c j k) () N))
      ⊢ iprop((ow c O ∗ atPos ER (recvCell c j k) 1 ∅ 0 ∗ cFull m c j k -∗ WP c (K ⟨⟩) Q)
        -∗ WP c (.op (.waitDma2 s xs cd h1 h2) K) Q) := by
  subst hs hc
  unfold ow
  iintro ⟨#HC, ⟨%W, HO⟩, Ha, Hc⟩ Hk
  ihave #HI := (ctx_recv m κ c j k) $$ HC
  iapply (Rounds.wp_wait_rest_token 𝒱₀ ER (rd m) (c : Thread nD τ) none (κ := κ (recvCell c j k))
      (wpE_waitDma2_eq 𝒱₀ (c : Thread nD τ) none Set.univ) (Set.mem_univ _) () (O := O) (W := W) (R := 0) (m := 0) (T := ∅)
      (by rw [Nat.zero_add, expect_recv m c j k hj, cRow_credit])) $$ [Hc HO Ha]
  · isplitr; · iexact HI
    isplitl [Hc]; · iexact Hc
    isplitl [HO]; · iexact HO
    isplitr
    · iapply (mayWait c (.dma (recvS j k)) (le_refl _) hO); iapply (ctx_lev m κ); iexact HC
    iexact Ha
  iintro ⟨HO, Ha, -, Hp⟩
  ihave Hp := (Entails.of_eq ((rest_recv m c j k hj).trans (by unfold recvPay; rfl))) $$ Hp
  iapply Hk
  isplitl [HO]; · iexists _; iexact HO
  isplitl [Ha]; · iexact Ha
  iexact Hp

theorem wp_sent_chunk (κ : GSem nD τ sig → ℕ) (c : Dev nD) (r : Fin 3) (k : Fin 4)
    {s : DmaSem sig} (hs : s = sendS r k)
    {sp : Space} {shp : Shape} {φ : EltTy} {xs : Memref sig .tc sp shp φ}
    {cd : Memref sig .tc .vmem S256x1024 .fp8e5m2}
    {h1 : xs.view.WordExact} {h2 : cd.view.WordExact} (hN : cd.view.dmaCredit = N)
    {α : Type} {Q : α → sProp 𝕄} {K : PUnit → Prog (TpuEff nD τ sig (Elt F) Λ₀ .tc) α} :
    iprop(Ctx m κ ∗ ow c 0 ∗ atPos ER (sendCell c r k) 0 ∅ 0 ∗ cred (tallyAt (sendCell c r k) () N))
      ⊢ iprop((ow c 0 ∗ atPos ER (sendCell c r k) 1 ∅ 0 ∗ xPc m c (peer r c) k -∗ WP c (K ⟨⟩) Q)
        -∗ WP c (.op (.waitDma2 s xs cd h1 h2) K) Q) := by
  subst hs
  unfold ow
  iintro ⟨#HC, ⟨%W, HO⟩, Ha, Hc⟩ Hk
  ihave #HI := (ctx_send m κ c r k) $$ HC
  rw [← hN]
  iapply (Rounds.wp_wait_rest_token 𝒱₀ ER (rd m) (c : Thread nD τ) none (κ := κ (sendCell c r k))
      (wpE_waitDma2_eq 𝒱₀ (c : Thread nD τ) none Set.univ) (Set.mem_univ _) () (O := 0) (W := W) (R := 0) (m := 0) (T := ∅)
      (by rw [Nat.zero_add, expect_send m c r k, hN])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq ((rest_send m c r k).trans (by unfold sendPay; rfl))) $$ Hp
  iapply Hk
  isplitl [HO]; · iexists _; iexact HO
  isplitl [Ha]; · iexact Ha
  iexact Hp

/-! ## The program's names for the places -/

theorem xs_eq (j k : Fin 4) {off : Fin 2 → ℕ} (h : off = ![1024 * j.val + 256 * k.val, 0]) (inb : ∀ a, off a + S256x1024.size a ≤ S4096x1024.size a) :
    xM.slice (Rect.unit (s := S4096x1024) off S256x1024.size inb) (fun _ => rfl) = xRow j k := by subst h; rfl
theorem cs_eq (j k : Fin 4) {off : Fin 3 → ℕ} (h : off = ![j.val, 256 * k.val, 0]) (inb : ∀ a, off a + S1x256x1024.size a ≤ S4x1024x1024.size a) :
    (cM.slice (Rect.unit (s := S4x1024x1024) off S1x256x1024.size inb) (fun _ => rfl)).squeeze S256x1024 squeezes_S1x256x1024_S256x1024 = cRow j k := by subst h; rfl

end Cert.A2A

end
-- ==== Proof.Vals.lean ====
/-
  What one grid point computes: the block of the result that it rewrites, from the comm slot whose turn it is, the block of
  the weights that was fetched and the two scales. And the offsets and conditions of the printed body in closed form.
-/
module

public import proofs.«01_k».proof.Proof.Steps
public import proofs.«01_k».proof.Proof.Gen.KernelIdeal.Skeleton

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Places in the result and in the comm buffer -/

theorem inbO (k : Fin 4) (n : Fin 8) : ∀ a, (![256 * k.val, 1024 * n.val] : Fin 2 → Nat) a + S256x1024.size a ≤ S1024x8192.size a := by
  revert k n; decide
theorem inbB (n : Fin 8) : ∀ a, (![0, 1024 * n.val] : Fin 2 → Nat) a + S1024x1024.size a ≤ S1024x8192.size a := by
  revert n; decide
theorem inbS (j : Fin 4) : ∀ a, (![j.val, 0, 0] : Fin 3 → Nat) a + S1x1024x1024.size a ≤ S4x1024x1024.size a := by
  revert j; decide
theorem inbR (j : Fin 4) : ∀ a, (![1024 * j.val, 0] : Fin 2 → Nat) a + S1024x1024.size a ≤ S4096x1024.size a := by
  revert j; decide

/-- Rows 256 k … of column block n of the result; the whole column block. -/
abbrev oR (k : Fin 4) (n : Fin 8) : Rect S1024x8192 := Rect.unit (s := S1024x8192) ![256 * k.val, 1024 * n.val] S256x1024.size (inbO k n)
abbrev oB (n : Fin 8) : Rect S1024x8192 := Rect.unit (s := S1024x8192) ![0, 1024 * n.val] S1024x1024.size (inbB n)
/-- Chunk k of comm slot j; the whole slot; the rows of the staged x block for device j. -/
abbrev cR (j k : Fin 4) : Rect S4x1024x1024 := Rect.unit (s := S4x1024x1024) ![j.val, 256 * k.val, 0] S1x256x1024.size (inbC j k)
abbrev cS (j : Fin 4) : Rect S4x1024x1024 := Rect.unit (s := S4x1024x1024) ![j.val, 0, 0] S1x1024x1024.size (inbS j)
abbrev xS (j : Fin 4) : Rect S4096x1024 := Rect.unit (s := S4096x1024) ![1024 * j.val, 0] S1024x1024.size (inbR j)

abbrev OBuf (F : FTy → Type) : Type := (⟨S1024x8192, .f32⟩ : BufTy).Contents (Elt F)

/-! ## One grid point -/

/-- The new block from the old one: started, added to, or added to, scaled and cut off below at zero. -/
def accC (kb : Fin 4) (s2 s3 : Elt F .f32) (w : Vec F S1024x1024 .fp8e5m2) (x : Vec F S1x256x1024 .fp8e5m2) (old : Vec F S256x1024 .f32) : FVec F S256x1024 .f32 :=
  if kb = 0 then k0_pay5 (k0_pay15 w) x else if kb = 3 then k0_pay7 (k0_pay15 w) (k0_pay16 s2 s3) x old else k0_pay6 (k0_pay15 w) x old
def accB (kb : Fin 4) (s2 s3 : Elt F .f32) (w : Vec F S1024x1024 .fp8e5m2) (x : Vec F S1x1024x1024 .fp8e5m2) (old : Vec F S1024x1024 .f32) : FVec F S1024x1024 .f32 :=
  if kb = 0 then k0_pay1 (k0_pay15 w) x else if kb = 3 then k0_pay3 (k0_pay15 w) (k0_pay16 s2 s3) x old else k0_pay2 (k0_pay15 w) x old

/-- Chunk k's part of a point of the first column block. -/
def rowStep (kb : Fin 4) (s2 s3 : Elt F .f32) (w : Vec F S1024x1024 .fp8e5m2) (x : Vec F S1x256x1024 .fp8e5m2) (k : Fin 4) (o : OBuf F) : OBuf F :=
  (oM.access (oR k 0)).write (Elt F) o (accC kb s2 s3 w x ((oM.access (oR k 0)).read (Elt F) o)) Finset.univ
/-- A point of another column block. -/
def blkStep (kb : Fin 4) (n : Fin 8) (s2 s3 : Elt F .f32) (w : Vec F S1024x1024 .fp8e5m2) (x : Vec F S1x1024x1024 .fp8e5m2) (o : OBuf F) : OBuf F :=
  (oM.access (oB n)).write (Elt F) o (accB kb s2 s3 w x ((oM.access (oB n)).read (Elt F) o)) Finset.univ

variable (m : (ℓ : Loc nD τ sig) → Buf (Elt F) ℓ)

/-- The device whose rows are multiplied at inner step kb on device c. -/
def jAt (c : Dev nD) : Fin 4 → Dev nD := ![c, src 0 c, src 1 c, src 2 c]

/-- What device c's comm buffer holds in chunk k of slot j, and in the whole slot. -/
def cv (c : Dev nD) (j k : Fin 4) : Vec F S1x256x1024 .fp8e5m2 := (cM.access (cR j k)).read (Elt F) (commBuf m c)
def sv (c : Dev nD) (j : Fin 4) : Vec F S1x1024x1024 .fp8e5m2 := (cM.access (cS j)).read (Elt F) (commBuf m c)

/-- What one grid point makes of the result. -/
def pointStep (c : Dev nD) (kb : Fin 4) (n : Fin 8) (s2 s3 : Elt F .f32) (w : Vec F S1024x1024 .fp8e5m2) (o : OBuf F) : OBuf F :=
  if n = 0 then
    rowStep kb s2 s3 w (cv m c (jAt c kb) 3) 3 (rowStep kb s2 s3 w (cv m c (jAt c kb) 2) 2
      (rowStep kb s2 s3 w (cv m c (jAt c kb) 1) 1 (rowStep kb s2 s3 w (cv m c (jAt c kb) 0) 0 o)))
  else blkStep kb n s2 s3 w (sv m c (jAt c kb)) o

/-! ## The printed offsets -/

section Offs
variable (i : grid0.Coords)

theorem off35_eq : k0_off35 i = ![0, 1024 * (i 1).val] := by revert i; decide
theorem off36_eq : k0_off36 i = ![0, 1024 * (i 1).val] := off35_eq i
theorem off37_eq : k0_off37 i = ![0, 1024 * (i 1).val] := off35_eq i
theorem off41_eq : k0_off41 i = ![256, 1024 * (i 1).val] := by revert i; decide
theorem off42_eq : k0_off42 i = ![256, 1024 * (i 1).val] := off41_eq i
theorem off43_eq : k0_off43 i = ![256, 1024 * (i 1).val] := off41_eq i
theorem off47_eq : k0_off47 i = ![512, 1024 * (i 1).val] := by revert i; decide
theorem off48_eq : k0_off48 i = ![512, 1024 * (i 1).val] := off47_eq i
theorem off49_eq : k0_off49 i = ![512, 1024 * (i 1).val] := off47_eq i
theorem off53_eq : k0_off53 i = ![768, 1024 * (i 1).val] := by revert i; decide
theorem off54_eq : k0_off54 i = ![768, 1024 * (i 1).val] := off53_eq i
theorem off55_eq : k0_off55 i = ![768, 1024 * (i 1).val] := off53_eq i
theorem off57_eq : k0_off57 i = ![0, 1024 * (i 1).val] := off35_eq i
theorem off58_eq : k0_off58 i = ![0, 1024 * (i 1).val] := off35_eq i
theorem off59_eq : k0_off59 i = ![0, 1024 * (i 1).val] := off35_eq i
theorem off31_eq : k0_off31 i = ![(i 0).val] := by revert i; decide
end Offs

section Words
variable (j : Dev nD)
/-- A device as the table names it. -/
abbrev wd (j : Dev nD) : BitVec 32 := BitVec.ofNat 32 j.val

theorem off32_eq : k0_off32 (wd j) = ![j.val, 0] := by revert j; decide
theorem off33_eq : k0_off33 (wd j) = ![j.val, 0, 0] := by revert j; decide
theorem off34_eq : k0_off34 (wd j) = ![j.val, 0, 0] := by revert j; decide
theorem off38_eq : k0_off38 (wd j) = ![j.val, 1] := by revert j; decide
theorem off39_eq : k0_off39 (wd j) = ![j.val, 256, 0] := by revert j; decide
theorem off40_eq : k0_off40 (wd j) = ![j.val, 256, 0] := by revert j; decide
theorem off44_eq : k0_off44 (wd j) = ![j.val, 2] := by revert j; decide
theorem off45_eq : k0_off45 (wd j) = ![j.val, 512, 0] := by revert j; decide
theorem off46_eq : k0_off46 (wd j) = ![j.val, 512, 0] := by revert j; decide
theorem off50_eq : k0_off50 (wd j) = ![j.val, 3] := by revert j; decide
theorem off51_eq : k0_off51 (wd j) = ![j.val, 768, 0] := by revert j; decide
theorem off52_eq : k0_off52 (wd j) = ![j.val, 768, 0] := by revert j; decide
theorem off56_eq : k0_off56 (wd j) = ![j.val, 0, 0] := by revert j; decide

/-- The printed check holds of every device's word. -/
theorem chk_wd (i : grid0.Coords) : k0_chk1 i (wd j) :=
  ⟨fun _ _ => by revert j; decide, fun _ _ => by revert j; decide, fun _ _ => by revert j; decide, fun _ => by revert j; decide,
   fun _ _ => by revert j; decide, fun _ _ => by revert j; decide, fun _ _ => by revert j; decide, fun _ => by revert j; decide,
   fun _ _ => by revert j; decide, fun _ _ => by revert j; decide, fun _ _ => by revert j; decide, fun _ => by revert j; decide,
   fun _ _ => by revert j; decide, fun _ _ => by revert j; decide, fun _ _ => by revert j; decide, fun _ => by revert j; decide,
   fun _ => by revert j; decide⟩
end Words

section Devs
variable (c : Dev nD)
theorem off6_eq (k : Fin 4) : k0_off6 c (BitVec.ofNat 32 (256 * k.val)) = ![1024 * (peer 0 c).val + 256 * k.val, 0] := by revert c k; decide
theorem off15_eq (k : Fin 4) : k0_off15 c (BitVec.ofNat 32 (256 * k.val)) = ![1024 * (peer 1 c).val + 256 * k.val, 0] := by revert c k; decide
theorem off24_eq (k : Fin 4) : k0_off24 c (BitVec.ofNat 32 (256 * k.val)) = ![1024 * (peer 2 c).val + 256 * k.val, 0] := by revert c k; decide
end Devs

/-! ## The printed conditions -/

section Conds
variable {i : grid0.Coords}

theorem cond1_iff : k0_cond1 i = 1#1 ↔ (i 0).val = 0 ∧ (i 1).val = 0 := by revert i; decide
theorem cond2_iff : k0_cond2 i = 1#1 ↔ (i 0).val = 1 ∧ (i 1).val = 0 := by revert i; decide
theorem cond3_iff : k0_cond3 i = 1#1 ↔ (i 0).val = 2 ∧ (i 1).val = 0 := by revert i; decide
theorem cond4_iff : k0_cond4 i = 1#1 ↔ (i 1).val = 0 := by revert i; decide
theorem cond5_iff : k0_cond5 i = 1#1 ↔ (i 0).val ≠ 0 := by revert i; decide
theorem cond9_iff : k0_cond9 i = 1#1 ↔ (i 0).val ≠ 0 := cond5_iff
theorem cond13_iff : k0_cond13 i = 1#1 ↔ (i 0).val ≠ 0 := cond5_iff
theorem cond17_iff : k0_cond17 i = 1#1 ↔ (i 0).val ≠ 0 := cond5_iff
theorem cond6_iff : k0_cond6 i = 1#1 ↔ (i 0).val = 0 := by revert i; decide
theorem cond10_iff : k0_cond10 i = 1#1 ↔ (i 0).val = 0 := cond6_iff
theorem cond14_iff : k0_cond14 i = 1#1 ↔ (i 0).val = 0 := cond6_iff
theorem cond18_iff : k0_cond18 i = 1#1 ↔ (i 0).val = 0 := cond6_iff
theorem cond22_iff : k0_cond22 i = 1#1 ↔ (i 0).val = 0 := cond6_iff
theorem cond7_iff : k0_cond7 i = 1#1 ↔ (i 0).val ≠ 0 ∧ (i 0).val ≠ 3 := by revert i; decide
theorem cond11_iff : k0_cond11 i = 1#1 ↔ (i 0).val ≠ 0 ∧ (i 0).val ≠ 3 := cond7_iff
theorem cond15_iff : k0_cond15 i = 1#1 ↔ (i 0).val ≠ 0 ∧ (i 0).val ≠ 3 := cond7_iff
theorem cond19_iff : k0_cond19 i = 1#1 ↔ (i 0).val ≠ 0 ∧ (i 0).val ≠ 3 := cond7_iff
theorem cond23_iff : k0_cond23 i = 1#1 ↔ (i 0).val ≠ 0 ∧ (i 0).val ≠ 3 := cond7_iff
theorem cond8_iff : k0_cond8 i = 1#1 ↔ (i 0).val = 3 := by revert i; decide
theorem cond12_iff : k0_cond12 i = 1#1 ↔ (i 0).val = 3 := cond8_iff
theorem cond16_iff : k0_cond16 i = 1#1 ↔ (i 0).val = 3 := cond8_iff
theorem cond20_iff : k0_cond20 i = 1#1 ↔ (i 0).val = 3 := cond8_iff
theorem cond24_iff : k0_cond24 i = 1#1 ↔ (i 0).val = 3 := cond8_iff
theorem cond21_iff : k0_cond21 i = 1#1 ↔ (i 1).val ≠ 0 := by revert i; decide
theorem cond25_iff : k0_cond25 i = 1#1 ↔ (i 0).val = 3 ∧ (i 1).val = 7 := by revert i; decide
end Conds

end Cert.A2A

end
-- ==== Proof.Ops.lean ====
/-
  The body's memory operations one by one, at the places it names; then the first column block's multiplications.
-/
module

public import proofs.«01_k».proof.Proof.Vals

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev oLoc (c : Dev nD) : Loc nD τ sig := (c : Thread nD τ).loc cc0_stg4_0
/-- The staged result at contents o. -/
abbrev oPt (c : Dev nD) (o : OBuf F) : sProp 𝕄 := iprop(oLoc c ↦[Finset.univ]{fullShare} o)

theorem cR_set (j k : Fin 4) : (cM.access (cR j k)).set = cChunk j k := by
  rw [← cRow_set, Memref.set_view_squeeze]
theorem cS_set (j : Fin 4) : (cM.access (cS j)).set = cSlot j := by
  show ((View.whole cc0_scratch0).slice _).set = _
  rw [View.set_slice_whole]
  ext i
  unfold cSlot
  simp only [Rect.mem_set_unit, Finset.mem_filter, Finset.mem_univ, true_and]
  have h1 : (i 1).val < 1024 := (i 1).isLt
  have h2 : (i 2).val < 1024 := (i 2).isLt
  constructor
  · intro h
    have a0 := h 0
    simp [S1x1024x1024] at a0
    omega
  · intro e0 a
    match a with
    | 0 => simp [S1x1024x1024]; omega
    | 1 => simp [S1x1024x1024]; omega
    | 2 => simp [S1x1024x1024]; omega
theorem xS_set (j : Fin 4) : (xM.access (xS j)).set = xSlot j := by
  show ((View.whole cc0_stg0_0).slice _).set = _
  rw [View.set_slice_whole]
  ext i
  unfold xSlot
  simp only [Rect.mem_set_unit, Finset.mem_filter, Finset.mem_univ, true_and]
  have h1 : (i 1).val < 1024 := (i 1).isLt
  constructor
  · intro h
    have a0 := h 0
    simp [S1024x1024] at a0
    omega
  · intro e0 a
    match a with
    | 0 => simp [S1024x1024]; omega
    | 1 => simp [S1024x1024]; omega

section Ops
variable (c : Dev nD)

theorem wp_ld_chunk {α : Type} {Q : α → sProp 𝕄} (j k : Fin 4) {S : Finset S4x1024x1024.Idx} (hS : cChunk j k ⊆ S) {off : Fin 3 → ℕ} (h : off = ![j.val, 256 * k.val, 0])
    {inb : ∀ a, off a + S1x256x1024.size a ≤ S4x1024x1024.size a}
    {hl : cM.view.LoadsAt (Rect.unit (s := S4x1024x1024) off S1x256x1024.size inb).toLoadRect} {K : Vec F S1x256x1024 .fp8e5m2 → Prog (TpuEff nD τ sig (Elt F) Λ₀ .tc) α} :
    (cLoc c ↦[S]{fullShare} commBuf m c)
      ⊢ iprop(((cLoc c ↦[S]{fullShare} commBuf m c) -∗ WP c (K (cv m c j k)) Q)
        -∗ WP c (.op (.load cM (Rect.unit (s := S4x1024x1024) off S1x256x1024.size inb).toLoadRect hl) K) Q) := by
  subst h
  exact wp_load_rect (m := cM) (r := cR j k) 𝒱₀ (c : Thread nD τ) none Set.univ (by rw [cR_set]; exact hS)

theorem wp_ld_slot {α : Type} {Q : α → sProp 𝕄} (j : Fin 4) {S : Finset S4x1024x1024.Idx} (hS : cSlot j ⊆ S) {off : Fin 3 → ℕ} (h : off = ![j.val, 0, 0])
    {inb : ∀ a, off a + S1x1024x1024.size a ≤ S4x1024x1024.size a}
    {hl : cM.view.LoadsAt (Rect.unit (s := S4x1024x1024) off S1x1024x1024.size inb).toLoadRect} {f : Buf (Elt F) (cLoc c)} {K : Vec F S1x1024x1024 .fp8e5m2 → Prog (TpuEff nD τ sig (Elt F) Λ₀ .tc) α} :
    (cLoc c ↦[S]{fullShare} f)
      ⊢ iprop(((cLoc c ↦[S]{fullShare} f) -∗ WP c (K ((cM.access (cS j)).read (Elt F) f)) Q)
        -∗ WP c (.op (.load cM (Rect.unit (s := S4x1024x1024) off S1x1024x1024.size inb).toLoadRect hl) K) Q) := by
  subst h
  exact wp_load_rect (m := cM) (r := cS j) 𝒱₀ (c : Thread nD τ) none Set.univ (by rw [cS_set]; exact hS)

theorem wp_ld_row {α : Type} {Q : α → sProp 𝕄} (k : Fin 4) (n : Fin 8) {off : Fin 2 → ℕ} (h : off = ![256 * k.val, 1024 * n.val])
    {inb : ∀ a, off a + S256x1024.size a ≤ S1024x8192.size a}
    {hl : oM.view.LoadsAt (Rect.unit (s := S1024x8192) off S256x1024.size inb).toLoadRect} {o : OBuf F} {K : Vec F S256x1024 .f32 → Prog (TpuEff nD τ sig (Elt F) Λ₀ .tc) α} :
    oPt c o
      ⊢ iprop((oPt c o -∗ WP c (K ((oM.access (oR k n)).read (Elt F) o)) Q)
        -∗ WP c (.op (.load oM (Rect.unit (s := S1024x8192) off S256x1024.size inb).toLoadRect hl) K) Q) := by
  subst h
  exact wp_load_rect (m := oM) (r := oR k n) 𝒱₀ (c : Thread nD τ) none Set.univ (Finset.subset_univ _)

theorem wp_st_row {α : Type} {Q : α → sProp 𝕄} (k : Fin 4) (n : Fin 8) {off : Fin 2 → ℕ} (h : off = ![256 * k.val, 1024 * n.val])
    {inb : ∀ a, off a + S256x1024.size a ≤ S1024x8192.size a} {v : FVec F S256x1024 .f32} {o o' : OBuf F}
    (ho : (oM.access (oR k n)).write (Elt F) o v Finset.univ = o')
    {hx : (oM.access (Rect.unit (s := S1024x8192) off S256x1024.size inb)).Stores Finset.univ} {hm} {K : PUnit → Prog (TpuEff nD τ sig (Elt F) Λ₀ .tc) α} :
    oPt c o
      ⊢ iprop((oPt c o' -∗ WP c (K ⟨⟩) Q)
        -∗ WP c (.op (.store oM (Rect.unit (s := S1024x8192) off S256x1024.size inb) v Finset.univ hx hm) K) Q) := by
  subst h
  have e : oPt c o
      ⊢ iprop((oPt c ((oM.access (oR k n)).write (Elt F) o v Finset.univ) -∗ WP c (K ⟨⟩) Q)
        -∗ WP c (.op (.store oM (oR k n) v Finset.univ hx hm) K) Q) :=
    wp_store (hx := hx) (hm := hm) (k := K) 𝒱₀ (c : Thread nD τ) none Set.univ (Finset.subset_univ _)
  rw [ho] at e
  exact e

theorem wp_ld_blk {α : Type} {Q : α → sProp 𝕄} (n : Fin 8) {off : Fin 2 → ℕ} (h : off = ![0, 1024 * n.val])
    {inb : ∀ a, off a + S1024x1024.size a ≤ S1024x8192.size a}
    {hl : oM.view.LoadsAt (Rect.unit (s := S1024x8192) off S1024x1024.size inb).toLoadRect} {o : OBuf F} {K : Vec F S1024x1024 .f32 → Prog (TpuEff nD τ sig (Elt F) Λ₀ .tc) α} :
    oPt c o
      ⊢ iprop((oPt c o -∗ WP c (K ((oM.access (oB n)).read (Elt F) o)) Q)
        -∗ WP c (.op (.load oM (Rect.unit (s := S1024x8192) off S1024x1024.size inb).toLoadRect hl) K) Q) := by
  subst h
  exact wp_load_rect (m := oM) (r := oB n) 𝒱₀ (c : Thread nD τ) none Set.univ (Finset.subset_univ _)

theorem wp_st_blk {α : Type} {Q : α → sProp 𝕄} (n : Fin 8) {off : Fin 2 → ℕ} (h : off = ![0, 1024 * n.val])
    {inb : ∀ a, off a + S1024x1024.size a ≤ S1024x8192.size a} {v : FVec F S1024x1024 .f32} {o o' : OBuf F}
    (ho : (oM.access (oB n)).write (Elt F) o v Finset.univ = o')
    {hx : (oM.access (Rect.unit (s := S1024x8192) off S1024x1024.size inb)).Stores Finset.univ} {hm} {K : PUnit → Prog (TpuEff nD τ sig (Elt F) Λ₀ .tc) α} :
    oPt c o
      ⊢ iprop((oPt c o' -∗ WP c (K ⟨⟩) Q)
        -∗ WP c (.op (.store oM (Rect.unit (s := S1024x8192) off S1024x1024.size inb) v Finset.univ hx hm) K) Q) := by
  subst h
  have e : oPt c o
      ⊢ iprop((oPt c ((oM.access (oB n)).write (Elt F) o v Finset.univ) -∗ WP c (K ⟨⟩) Q)
        -∗ WP c (.op (.store oM (oB n) v Finset.univ hx hm) K) Q) :=
    wp_store (hx := hx) (hm := hm) (k := K) 𝒱₀ (c : Thread nD τ) none Set.univ (Finset.subset_univ _)
  rw [ho] at e
  exact e
end Ops

end Cert.A2A

end
-- ==== Proof.Chunks.lean ====
/-
  The first column block of an inner step: four chunks, each awaited (from another device) and multiplied. `k0_part9` does
  chunk 0 and starts chunk 1, `k0_part10` does the rest up to the last chunk's product.
-/
module

public import proofs.«01_k».proof.Proof.Ops

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A chunk still to arrive; a chunk that has arrived. -/
def pend (c : Dev nD) (j k : Fin 4) : sProp 𝕄 := iprop(atPos ER (recvCell c j k) 0 ∅ 0 ∗ cred (tallyAt (recvCell c j k) () N))
def got (c : Dev nD) (j k : Fin 4) : sProp 𝕄 := iprop(atPos ER (recvCell c j k) 1 ∅ 0 ∗ cFull m c j k)

theorem wp_get {α : Type} {Q : α → sProp 𝕄} (κ : GSem nD τ sig → ℕ) (c : Dev nD) (r : Fin 3) (k : Fin 4)
    {off : Fin 2 → ℕ} (hs : off = ![(src r c).val, k.val]) {inb : ∀ a, off a + S1x1.size a ≤ S4x4.size a}
    {off' : Fin 3 → ℕ} (hc : off' = ![(src r c).val, 256 * k.val, 0]) {inb' : ∀ a, off' a + S1x256x1024.size a ≤ S4x1024x1024.size a}
    {sp : Space} {shp : Shape} {φ : EltTy} {xs : Memref sig .tc sp shp φ} {h1 : xs.view.WordExact}
    {h2 : ((cM.slice (Rect.unit (s := S4x1024x1024) off' S1x256x1024.size inb') (fun _ => rfl)).squeeze S256x1024 squeezes_S1x256x1024_S256x1024).view.WordExact}
    {O : CellTallies nD τ sig Unit} (hO : Above (2 + r.val) O) {K : PUnit → Prog (TpuEff nD τ sig (Elt F) Λ₀ .tc) α} :
    iprop(Ctx m κ ∗ ow c O ∗ pend c (src r c) k)
      ⊢ iprop((ow c O ∗ got m c (src r c) k -∗ WP c (K ⟨⟩) Q)
        -∗ WP c (.op (.waitDma2 ((cc0_scratch2.slice (Rect.unit (s := S4x4) off S1x1.size inb)).squeeze S_ squeezes_S1x1_S_).sem xs
            ((cM.slice (Rect.unit (s := S4x1024x1024) off' S1x256x1024.size inb') (fun _ => rfl)).squeeze S256x1024 squeezes_S1x256x1024_S256x1024) h1 h2) K) Q) := by
  unfold pend got
  iintro ⟨HC, HO, Ha, Hc⟩ Hk
  iapply (wp_recv_chunk m κ c (src r c) k (src_ne r c) (recvS_eq _ _ _ hs _) (cs_eq _ _ hc _) (by rw [lv_src]; exact hO)) $$ [HC HO Ha Hc]
  · isplitl [HC]; · iexact HC
    isplitl [HO]; · iexact HO
    isplitl [Ha]; · iexact Ha
    iexact Hc
  iintro ⟨HO, Ha, Hf⟩
  iapply Hk
  isplitl [HO]; · iexact HO
  isplitl [Ha]; · iexact Ha
  iexact Hf

theorem wp_ld_got {α : Type} {Q : α → sProp 𝕄} (c : Dev nD) (j k : Fin 4) {off : Fin 3 → ℕ} (h : off = ![j.val, 256 * k.val, 0])
    {inb : ∀ a, off a + S1x256x1024.size a ≤ S4x1024x1024.size a}
    {hl : cM.view.LoadsAt (Rect.unit (s := S4x1024x1024) off S1x256x1024.size inb).toLoadRect} {K : Vec F S1x256x1024 .fp8e5m2 → Prog (TpuEff nD τ sig (Elt F) Λ₀ .tc) α} :
    got m c j k
      ⊢ iprop((got m c j k -∗ WP c (K (cv m c j k)) Q)
        -∗ WP c (.op (.load cM (Rect.unit (s := S4x1024x1024) off S1x256x1024.size inb).toLoadRect hl) K) Q) := by
  unfold got
  iintro ⟨Ha, Hf⟩ Hk
  iapply (wp_ld_chunk m c j k (Finset.Subset.refl _) h) $$ Hf
  iintro Hf
  iapply Hk
  isplitl [Ha]; · iexact Ha
  iexact Hf

theorem wp_done {α : Type} {Q : α → sProp 𝕄} (c : Dev nD) (a : α) : Q a ⊢ WP c (.ret a) Q := by
  show Q a ⊢ wp frame (wpE (defs₀ (F := F)) 𝒱₀ (c : Thread nD τ) none) Set.univ (.ret a) Q
  rw [wp_ret]
  iintro H; imodintro; iexact H

/-- This device's own slot of the communication buffer, holding its own rows. -/
def ownSlot (c : Dev nD) : sProp 𝕄 := (cLoc c) ↦[(cSlot c)]{fullShare} (commBuf m c)

theorem cChunk_sub (j k : Fin 4) : cChunk j k ⊆ cSlot j := by rw [cSlot_eq]; exact Finset.subset_biUnion_of_mem _ (Finset.mem_univ k)

section Parts
variable (κ : GSem nD τ sig → ℕ) (c : Dev nD)

theorem part9_own {Q : (Σ' (v61 : FVec F S256x1024 .f32) (v68 : BitVec 32), BitVec 32) → sProp 𝕄}
    (i : grid0.Coords) (h0 : (i 0).val = 0) (h1 : (i 1).val = 0)
    (wM : Memref sig .tc .vmem S1024x1024 .fp8e5m2) (hwM : wM.IsWhole)
    (a0 v2 v25 : BitVec 32) (hw : k0_chk1 i (wd c)) (w : Vec F S1024x1024 .fp8e5m2) (s2 s3 : Elt F .f32) (h4 : k0_cond4 i = 1#1)
    (o : OBuf F) :
    iprop(ownSlot m c ∗ oPt c o)
      ⊢ iprop((∀ a b, (ownSlot m c ∗ oPt c (rowStep 0 s2 s3 w (cv m c c 1) 1 (rowStep 0 s2 s3 w (cv m c c 0) 0 o)))
            -∗ Q ⟨k0_pay8 (k0_pay15 w) (cv m c c 1), a, b⟩)
        -∗ WP c (k0_part9 i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2
            a0 v2 (wd c) hw (k0_pay15 w) (k0_pay16 s2 s3) v25 h4) Q) := by
  have hn : ∀ {off : Fin 2 → ℕ} {x : ℕ}, off = ![x, 1024 * (i 1).val] → off = ![x, 1024 * (0 : Fin 8).val] := fun h => by rw [h, h1]; rfl
  unfold ownSlot
  have h5 : ¬ k0_cond5 i = 1#1 := fun h => cond5_iff.1 h h0
  have h6 := cond6_iff.2 h0
  have h7 : ¬ k0_cond7 i = 1#1 := fun h => (cond7_iff.1 h).1 h0
  have h8 : ¬ k0_cond8 i = 1#1 := fun h => by have := cond8_iff.1 h; omega
  have h9 : ¬ k0_cond9 i = 1#1 := fun h => cond9_iff.1 h h0
  have h10 := cond10_iff.2 h0
  simp only [k0_part9_eq_skeleton, k0_part9_skel, dif_neg h5, dif_pos h6, dif_neg h7, dif_neg h8, dif_neg h9, dif_pos h10,
    Prog.lift, Prog.bind_op, Prog.bind_ret, Prog.pure_eq_ret]
  iintro ⟨HS, Ho⟩ Hk
  iapply (wp_ld_chunk m c c 0 (cChunk_sub c 0) (off34_eq _)) $$ HS
  iintro HS
  iapply (wp_ld_row c 0 0 (hn (off35_eq i))) $$ Ho
  iintro Ho
  iapply (wp_st_row c 0 0 (hn (off35_eq i)) (o' := rowStep 0 s2 s3 w (cv m c c 0) 0 o) (rfl)) $$ Ho
  iintro Ho
  iapply (wp_ld_chunk m c c 1 (cChunk_sub c 1) (off40_eq _)) $$ HS
  iintro HS
  iapply (wp_ld_row c 1 0 (hn (off41_eq i))) $$ Ho
  iintro Ho
  iapply (wp_st_row c 1 0 (hn (off41_eq i)) (o' := rowStep 0 s2 s3 w (cv m c c 1) 1 (rowStep 0 s2 s3 w (cv m c c 0) 0 o)) (rfl)) $$ Ho
  iintro Ho
  iapply (wp_done c _)
  iapply Hk
  isplitl [HS]; · iexact HS
  iexact Ho

theorem part9_run {Q : (Σ' (v61 : FVec F S256x1024 .f32) (v68 : BitVec 32), BitVec 32) → sProp 𝕄}
    (i : grid0.Coords) (r : Fin 3) (h0 : (i 0).val = r.val + 1) (h1 : (i 1).val = 0)
    (wM : Memref sig .tc .vmem S1024x1024 .fp8e5m2) (hwM : wM.IsWhole)
    (a0 v2 v25 : BitVec 32) (hw : k0_chk1 i (wd (src r c))) (w : Vec F S1024x1024 .fp8e5m2) (s2 s3 : Elt F .f32) (h4 : k0_cond4 i = 1#1)
    {O : CellTallies nD τ sig Unit} (hO : Above (2 + r.val) O) (o : OBuf F) :
    iprop(Ctx m κ ∗ ow c O ∗ pend c (src r c) 0 ∗ pend c (src r c) 1 ∗ oPt c o)
      ⊢ iprop((∀ a b, (ow c O ∗ got m c (src r c) 0 ∗ got m c (src r c) 1 ∗ oPt c (rowStep r.succ s2 s3 w (cv m c (src r c) 0) 0 o))
            -∗ Q ⟨k0_pay8 (k0_pay15 w) (cv m c (src r c) 1), a, b⟩)
        -∗ WP c (k0_part9 i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2
            a0 v2 (wd (src r c)) hw (k0_pay15 w) (k0_pay16 s2 s3) v25 h4) Q) := by
  have n0 : (i 0).val ≠ 0 := by omega
  have hn : ∀ {off : Fin 2 → ℕ} {x : ℕ}, off = ![x, 1024 * (i 1).val] → off = ![x, 1024 * (0 : Fin 8).val] := fun h => by rw [h, h1]; rfl
  by_cases h3 : (i 0).val = 3
  · have h5 := cond5_iff.2 n0
    have h6 : ¬ k0_cond6 i = 1#1 := fun h => n0 (cond6_iff.1 h)
    have h7 : ¬ k0_cond7 i = 1#1 := fun h => (cond7_iff.1 h).2 h3
    have h8 := cond8_iff.2 h3
    have h9 := cond9_iff.2 n0
    have h10 : ¬ k0_cond10 i = 1#1 := fun h => n0 (cond10_iff.1 h)
    have hr : r = 2 := Fin.ext (by show r.val = 2; omega)
    simp only [k0_part9_eq_skeleton, k0_part9_skel, dif_pos h5, dif_neg h6, dif_neg h7, dif_pos h8, dif_pos h9, dif_neg h10,
      Prog.lift, Prog.bind_op, Prog.bind_ret, Prog.pure_eq_ret]
    iintro ⟨#HC, HO, H0, H1, Ho⟩ Hk
    iapply (wp_get m κ c r 0 (off32_eq _) (off33_eq _) hO) $$ [HO H0]
    · isplitr; · iexact HC
      isplitl [HO]; · iexact HO
      iexact H0
    iintro ⟨HO, H0⟩
    iapply (wp_ld_got m c (src r c) 0 (off34_eq _)) $$ H0
    iintro H0
    iapply (wp_ld_row c 0 0 (hn (off37_eq i))) $$ Ho
    iintro Ho
    iapply (wp_ld_row c 0 0 (hn (off37_eq i))) $$ Ho
    iintro Ho
    iapply (wp_st_row c 0 0 (hn (off37_eq i)) (o' := rowStep r.succ s2 s3 w (cv m c (src r c) 0) 0 o) (by subst hr; rfl)) $$ Ho
    iintro Ho
    iapply (wp_get m κ c r 1 (off38_eq _) (off39_eq _) hO) $$ [HO H1]
    · isplitr; · iexact HC
      isplitl [HO]; · iexact HO
      iexact H1
    iintro ⟨HO, H1⟩
    iapply (wp_ld_got m c (src r c) 1 (off40_eq _)) $$ H1
    iintro H1
    iapply (wp_done c _)
    iapply Hk
    isplitl [HO]; · iexact HO
    isplitl [H0]; · iexact H0
    isplitl [H1]; · iexact H1
    iexact Ho
  · have h5 := cond5_iff.2 n0
    have h6 : ¬ k0_cond6 i = 1#1 := fun h => n0 (cond6_iff.1 h)
    have h7 := cond7_iff.2 ⟨n0, h3⟩
    have h8 : ¬ k0_cond8 i = 1#1 := fun h => by have := cond8_iff.1 h; omega
    have h9 := cond9_iff.2 n0
    have h10 : ¬ k0_cond10 i = 1#1 := fun h => n0 (cond10_iff.1 h)
    have hr : r = 0 ∨ r = 1 := by rcases r with ⟨r, hr⟩; simp only [Fin.ext_iff, Fin.val_zero, Fin.val_one] at *; omega
    simp only [k0_part9_eq_skeleton, k0_part9_skel, dif_pos h5, dif_neg h6, dif_pos h7, dif_neg h8, dif_pos h9, dif_neg h10,
      Prog.lift, Prog.bind_op, Prog.bind_ret, Prog.pure_eq_ret]
    iintro ⟨#HC, HO, H0, H1, Ho⟩ Hk
    iapply (wp_get m κ c r 0 (off32_eq _) (off33_eq _) hO) $$ [HO H0]
    · isplitr; · iexact HC
      isplitl [HO]; · iexact HO
      iexact H0
    iintro ⟨HO, H0⟩
    iapply (wp_ld_got m c (src r c) 0 (off34_eq _)) $$ H0
    iintro H0
    iapply (wp_ld_row c 0 0 (hn (off36_eq i))) $$ Ho
    iintro Ho
    iapply (wp_ld_row c 0 0 (hn (off36_eq i))) $$ Ho
    iintro Ho
    iapply (wp_st_row c 0 0 (hn (off36_eq i)) (o' := rowStep r.succ s2 s3 w (cv m c (src r c) 0) 0 o) (by rcases hr with rfl | rfl <;> rfl)) $$ Ho
    iintro Ho
    iapply (wp_get m κ c r 1 (off38_eq _) (off39_eq _) hO) $$ [HO H1]
    · isplitr; · iexact HC
      isplitl [HO]; · iexact HO
      iexact H1
    iintro ⟨HO, H1⟩
    iapply (wp_ld_got m c (src r c) 1 (off40_eq _)) $$ H1
    iintro H1
    iapply (wp_done c _)
    iapply Hk
    isplitl [HO]; · iexact HO
    isplitl [H0]; · iexact H0
    isplitl [H1]; · iexact H1
    iexact Ho

theorem part10_own {Q : FVec F S256x1024 .f32 → sProp 𝕄}
    (i : grid0.Coords) (h0 : (i 0).val = 0) (h1 : (i 1).val = 0)
    (wM : Memref sig .tc .vmem S1024x1024 .fp8e5m2) (hwM : wM.IsWhole)
    (a0 v2 v25 a b : BitVec 32) (hw : k0_chk1 i (wd c)) (w : Vec F S1024x1024 .fp8e5m2) (s2 s3 : Elt F .f32) (h4 : k0_cond4 i = 1#1)
    (o : OBuf F) :
    iprop(ownSlot m c ∗ oPt c o)
      ⊢ iprop(((ownSlot m c ∗ oPt c (rowStep 0 s2 s3 w (cv m c c 2) 2 o)) -∗ Q (k0_pay14 (k0_pay15 w) (cv m c c 3)))
        -∗ WP c (k0_part10 i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2
            a0 v2 (wd c) hw (k0_pay15 w) (k0_pay16 s2 s3) v25 h4 (k0_pay8 (k0_pay15 w) (cv m c c 1)) a b) Q) := by
  have hn : ∀ {off : Fin 2 → ℕ} {x : ℕ}, off = ![x, 1024 * (i 1).val] → off = ![x, 1024 * (0 : Fin 8).val] := fun h => by rw [h, h1]; rfl
  unfold ownSlot
  have h11 : ¬ k0_cond11 i = 1#1 := fun h => (cond11_iff.1 h).1 h0
  have h12 : ¬ k0_cond12 i = 1#1 := fun h => by have := cond12_iff.1 h; omega
  have h13 : ¬ k0_cond13 i = 1#1 := fun h => cond13_iff.1 h h0
  have h14 := cond14_iff.2 h0
  have h15 : ¬ k0_cond15 i = 1#1 := fun h => (cond15_iff.1 h).1 h0
  have h16 : ¬ k0_cond16 i = 1#1 := fun h => by have := cond16_iff.1 h; omega
  have h17 : ¬ k0_cond17 i = 1#1 := fun h => cond17_iff.1 h h0
  simp only [k0_part10_eq_skeleton, k0_part10_skel, dif_neg h11, dif_neg h12, dif_neg h13, dif_pos h14, dif_neg h15, dif_neg h16, dif_neg h17,
    Prog.lift, Prog.bind_op, Prog.bind_ret, Prog.pure_eq_ret]
  iintro ⟨HS, Ho⟩ Hk
  iapply (wp_ld_chunk m c c 2 (cChunk_sub c 2) (off46_eq _)) $$ HS
  iintro HS
  iapply (wp_ld_row c 2 0 (hn (off47_eq i))) $$ Ho
  iintro Ho
  iapply (wp_st_row c 2 0 (hn (off47_eq i)) (o' := rowStep 0 s2 s3 w (cv m c c 2) 2 o) (rfl)) $$ Ho
  iintro Ho
  iapply (wp_ld_chunk m c c 3 (cChunk_sub c 3) (off52_eq _)) $$ HS
  iintro HS
  iapply (wp_done c _)
  iapply Hk
  isplitl [HS]; · iexact HS
  iexact Ho

theorem part10_run {Q : FVec F S256x1024 .f32 → sProp 𝕄}
    (i : grid0.Coords) (r : Fin 3) (h0 : (i 0).val = r.val + 1) (h1 : (i 1).val = 0)
    (wM : Memref sig .tc .vmem S1024x1024 .fp8e5m2) (hwM : wM.IsWhole)
    (a0 v2 v25 a b : BitVec 32) (hw : k0_chk1 i (wd (src r c))) (w : Vec F S1024x1024 .fp8e5m2) (s2 s3 : Elt F .f32) (h4 : k0_cond4 i = 1#1)
    {O : CellTallies nD τ sig Unit} (hO : Above (2 + r.val) O) (o : OBuf F) :
    iprop(Ctx m κ ∗ ow c O ∗ pend c (src r c) 2 ∗ pend c (src r c) 3 ∗ oPt c o)
      ⊢ iprop(((ow c O ∗ got m c (src r c) 2 ∗ got m c (src r c) 3 ∗ oPt c (rowStep r.succ s2 s3 w (cv m c (src r c) 2) 2 (rowStep r.succ s2 s3 w (cv m c (src r c) 1) 1 o)))
            -∗ Q (k0_pay14 (k0_pay15 w) (cv m c (src r c) 3)))
        -∗ WP c (k0_part10 i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2
            a0 v2 (wd (src r c)) hw (k0_pay15 w) (k0_pay16 s2 s3) v25 h4 (k0_pay8 (k0_pay15 w) (cv m c (src r c) 1)) a b) Q) := by
  have n0 : (i 0).val ≠ 0 := by omega
  have hn : ∀ {off : Fin 2 → ℕ} {x : ℕ}, off = ![x, 1024 * (i 1).val] → off = ![x, 1024 * (0 : Fin 8).val] := fun h => by rw [h, h1]; rfl
  by_cases h3 : (i 0).val = 3
  · have h11 : ¬ k0_cond11 i = 1#1 := fun h => (cond11_iff.1 h).2 h3
    have h12 := cond12_iff.2 h3
    have h13 := cond13_iff.2 n0
    have h14 : ¬ k0_cond14 i = 1#1 := fun h => n0 (cond14_iff.1 h)
    have h15 : ¬ k0_cond15 i = 1#1 := fun h => (cond15_iff.1 h).2 h3
    have h16 := cond16_iff.2 h3
    have h17 := cond17_iff.2 n0
    have hr : r = 2 := Fin.ext (by show r.val = 2; omega)
    simp only [k0_part10_eq_skeleton, k0_part10_skel, dif_neg h11, dif_pos h12, dif_pos h13, dif_neg h14, dif_neg h15, dif_pos h16, dif_pos h17,
      Prog.lift, Prog.bind_op, Prog.bind_ret, Prog.pure_eq_ret]
    iintro ⟨#HC, HO, H2, H3, Ho⟩ Hk
    iapply (wp_ld_row c 1 0 (hn (off43_eq i))) $$ Ho
    iintro Ho
    iapply (wp_ld_row c 1 0 (hn (off43_eq i))) $$ Ho
    iintro Ho
    iapply (wp_st_row c 1 0 (hn (off43_eq i)) (o' := rowStep r.succ s2 s3 w (cv m c (src r c) 1) 1 o) (by subst hr; rfl)) $$ Ho
    iintro Ho
    iapply (wp_get m κ c r 2 (off44_eq _) (off45_eq _) hO) $$ [HO H2]
    · isplitr; · iexact HC
      isplitl [HO]; · iexact HO
      iexact H2
    iintro ⟨HO, H2⟩
    iapply (wp_ld_got m c (src r c) 2 (off46_eq _)) $$ H2
    iintro H2
    iapply (wp_ld_row c 2 0 (hn (off49_eq i))) $$ Ho
    iintro Ho
    iapply (wp_ld_row c 2 0 (hn (off49_eq i))) $$ Ho
    iintro Ho
    iapply (wp_st_row c 2 0 (hn (off49_eq i)) (o' := rowStep r.succ s2 s3 w (cv m c (src r c) 2) 2 (rowStep r.succ s2 s3 w (cv m c (src r c) 1) 1 o)) (by subst hr; rfl)) $$ Ho
    iintro Ho
    iapply (wp_get m κ c r 3 (off50_eq _) (off51_eq _) hO) $$ [HO H3]
    · isplitr; · iexact HC
      isplitl [HO]; · iexact HO
      iexact H3
    iintro ⟨HO, H3⟩
    iapply (wp_ld_got m c (src r c) 3 (off52_eq _)) $$ H3
    iintro H3
    iapply (wp_done c _)
    iapply Hk
    isplitl [HO]; · iexact HO
    isplitl [H2]; · iexact H2
    isplitl [H3]; · iexact H3
    iexact Ho
  · have h11 := cond11_iff.2 ⟨n0, h3⟩
    have h12 : ¬ k0_cond12 i = 1#1 := fun h => by have := cond12_iff.1 h; omega
    have h13 := cond13_iff.2 n0
    have h14 : ¬ k0_cond14 i = 1#1 := fun h => n0 (cond14_iff.1 h)
    have h15 := cond15_iff.2 ⟨n0, h3⟩
    have h16 : ¬ k0_cond16 i = 1#1 := fun h => by have := cond16_iff.1 h; omega
    have h17 := cond17_iff.2 n0
    have hr : r = 0 ∨ r = 1 := by rcases r with ⟨r, hr⟩; simp only [Fin.ext_iff, Fin.val_zero, Fin.val_one] at *; omega
    simp only [k0_part10_eq_skeleton, k0_part10_skel, dif_pos h11, dif_neg h12, dif_pos h13, dif_neg h14, dif_pos h15, dif_neg h16, dif_pos h17,
      Prog.lift, Prog.bind_op, Prog.bind_ret, Prog.pure_eq_ret]
    iintro ⟨#HC, HO, H2, H3, Ho⟩ Hk
    iapply (wp_ld_row c 1 0 (hn (off42_eq i))) $$ Ho
    iintro Ho
    iapply (wp_ld_row c 1 0 (hn (off42_eq i))) $$ Ho
    iintro Ho
    iapply (wp_st_row c 1 0 (hn (off42_eq i)) (o' := rowStep r.succ s2 s3 w (cv m c (src r c) 1) 1 o) (by rcases hr with rfl | rfl <;> rfl)) $$ Ho
    iintro Ho
    iapply (wp_get m κ c r 2 (off44_eq _) (off45_eq _) hO) $$ [HO H2]
    · isplitr; · iexact HC
      isplitl [HO]; · iexact HO
      iexact H2
    iintro ⟨HO, H2⟩
    iapply (wp_ld_got m c (src r c) 2 (off46_eq _)) $$ H2
    iintro H2
    iapply (wp_ld_row c 2 0 (hn (off48_eq i))) $$ Ho
    iintro Ho
    iapply (wp_ld_row c 2 0 (hn (off48_eq i))) $$ Ho
    iintro Ho
    iapply (wp_st_row c 2 0 (hn (off48_eq i)) (o' := rowStep r.succ s2 s3 w (cv m c (src r c) 2) 2 (rowStep r.succ s2 s3 w (cv m c (src r c) 1) 1 o)) (by rcases hr with rfl | rfl <;> rfl)) $$ Ho
    iintro Ho
    iapply (wp_get m κ c r 3 (off50_eq _) (off51_eq _) hO) $$ [HO H3]
    · isplitr; · iexact HC
      isplitl [HO]; · iexact HO
      iexact H3
    iintro ⟨HO, H3⟩
    iapply (wp_ld_got m c (src r c) 3 (off52_eq _)) $$ H3
    iintro H3
    iapply (wp_done c _)
    iapply Hk
    isplitl [HO]; · iexact HO
    isplitl [H2]; · iexact H2
    isplitl [H3]; · iexact H3
    iexact Ho

end Parts

end Cert.A2A

end
-- ==== Proof.Heads.lean ====
/-
  The body at each grid point: what it takes and what it hands back, for the four points that open an inner step, for the
  points of the other column blocks, and for the last point, which awaits all the sends.
-/
module

public import proofs.«01_k».proof.Proof.Chunks

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Operations at the head of a program -/

section Heads
variable (c : Dev nD)

theorem wp_seq {α β : Type} {Q : α → sProp 𝕄} (p : Prog (TpuEff nD τ sig (Elt F) Λ₀ .tc) β) (k : β → Prog (TpuEff nD τ sig (Elt F) Λ₀ .tc) α) :
    WP c p (fun a => WP c (k a) Q) ⊢ WP c (p >>= k) Q := by
  show _ ⊢ wp frame (wpE (defs₀ (F := F)) 𝒱₀ (c : Thread nD τ) none) Set.univ (p >>= k) Q
  rw [wp_bind]
theorem wp_dev {α : Type} {Q : α → sProp 𝕄} {K : Dev nD → Prog (TpuEff nD τ sig (Elt F) Λ₀ .tc) α} :
    WP c (K c) Q ⊢ WP c (.op .deviceId K) Q := by
  show _ ⊢ wp frame (wpE (defs₀ (F := F)) 𝒱₀ (c : Thread nD τ) none) Set.univ (.op .deviceId K) Q
  rw [wp_deviceId]
theorem wp_asm {α : Type} {Q : α → sProp 𝕄} {P : Prop} {d : Decidable P} (h : P) {K : PLift P → Prog (TpuEff nD τ sig (Elt F) Λ₀ .tc) α} :
    WP c (K ⟨h⟩) Q ⊢ WP c (.op (.assume P d) K) Q := by
  show _ ⊢ wp frame (wpE (defs₀ (F := F)) 𝒱₀ (c : Thread nD τ) none) Set.univ (.op (.assume P d) K) Q
  rw [wp_assume_of _ _ _ _ h]

/-- The table of column starts, at contents tv; the two scales. -/
def tabPt (tv : (⟨S4, .i32⟩ : BufTy).Contents (Elt F)) : sProp 𝕄 := ((c : Thread nD τ).loc main_v7) ↦[Finset.univ]{fullShare} tv
def scPt2 (s : Elt F .f32) : sProp 𝕄 := ((c : Thread nD τ).loc cc0_stg2_0) ↦[Finset.univ]{fullShare} (fun _ => s : (⟨S1, .f32⟩ : BufTy).Contents (Elt F))
def scPt3 (s : Elt F .f32) : sProp 𝕄 := ((c : Thread nD τ).loc cc0_stg3_0) ↦[Finset.univ]{fullShare} (fun _ => s : (⟨S1, .f32⟩ : BufTy).Contents (Elt F))

/-- The table names, at inner step kb, the device whose rows are multiplied. -/
def TabOk (tv : (⟨S4, .i32⟩ : BufTy).Contents (Elt F)) : Prop :=
  ∀ (kb : Fin 4) (inb : ∀ a, (![kb.val] : Fin 1 → ℕ) a + S1.size a ≤ S4.size a),
    ((Memref.whole main_v7).access (Rect.unit (s := S4) ![kb.val] S1.size inb)).read (Elt F) tv = fun _ => wd (jAt c kb)

theorem wp_ld_tab {α : Type} {Q : α → sProp 𝕄} {tv : (⟨S4, .i32⟩ : BufTy).Contents (Elt F)} (ht : TabOk c tv) (kb : Fin 4) {j : Dev nD} (hj : jAt c kb = j) {off : Fin 1 → ℕ} (h : off = ![kb.val])
    {inb : ∀ a, off a + S1.size a ≤ S4.size a}
    {hl : (Memref.whole main_v7 : Memref sig .tc .smem S4 .i32).view.LoadsAt (Rect.unit (s := S4) off S1.size inb).toLoadRect} {K : Vec F S1 .i32 → Prog (TpuEff nD τ sig (Elt F) Λ₀ .tc) α} :
    tabPt c tv
      ⊢ iprop((tabPt c tv -∗ WP c (K (fun _ => wd j)) Q)
        -∗ WP c (.op (.load (Memref.whole main_v7) (Rect.unit (s := S4) off S1.size inb).toLoadRect hl) K) Q) := by
  subst h hj
  have e : tabPt c tv
      ⊢ iprop((tabPt c tv -∗ WP c (K (((Memref.whole main_v7).access (Rect.unit (s := S4) ![kb.val] S1.size inb)).read (Elt F) tv)) Q)
        -∗ WP c (.op (.load (Memref.whole main_v7) (Rect.unit (s := S4) ![kb.val] S1.size inb).toLoadRect hl) K) Q) :=
    wp_load_rect (m := Memref.whole main_v7) (r := Rect.unit (s := S4) ![kb.val] S1.size inb) 𝒱₀ (c : Thread nD τ) none Set.univ (Finset.subset_univ _)
  rw [ht kb inb] at e
  exact e
theorem wp_ld_sc2 {α : Type} {Q : α → sProp 𝕄} {s : Elt F .f32}
    {inb : ∀ a, (![0] : Fin 1 → ℕ) a + S1.size a ≤ S1.size a}
    {hl : (Memref.whole cc0_stg2_0 : Memref sig .tc .smem S1 .f32).view.LoadsAt (Rect.unit (s := S1) ![0] S1.size inb).toLoadRect} {K : Vec F S1 .f32 → Prog (TpuEff nD τ sig (Elt F) Λ₀ .tc) α} :
    scPt2 c s
      ⊢ iprop((scPt2 c s -∗ WP c (K (fun _ => s)) Q)
        -∗ WP c (.op (.load (Memref.whole cc0_stg2_0) (Rect.unit (s := S1) ![0] S1.size inb).toLoadRect hl) K) Q) :=
  wp_load_rect (m := Memref.whole cc0_stg2_0) (r := Rect.unit (s := S1) ![0] S1.size inb) 𝒱₀ (c : Thread nD τ) none Set.univ (Finset.subset_univ _)
theorem wp_ld_sc3 {α : Type} {Q : α → sProp 𝕄} {s : Elt F .f32}
    {inb : ∀ a, (![0] : Fin 1 → ℕ) a + S1.size a ≤ S1.size a}
    {hl : (Memref.whole cc0_stg3_0 : Memref sig .tc .smem S1 .f32).view.LoadsAt (Rect.unit (s := S1) ![0] S1.size inb).toLoadRect} {K : Vec F S1 .f32 → Prog (TpuEff nD τ sig (Elt F) Λ₀ .tc) α} :
    scPt3 c s
      ⊢ iprop((scPt3 c s -∗ WP c (K (fun _ => s)) Q)
        -∗ WP c (.op (.load (Memref.whole cc0_stg3_0) (Rect.unit (s := S1) ![0] S1.size inb).toLoadRect hl) K) Q) :=
  wp_load_rect (m := Memref.whole cc0_stg3_0) (r := Rect.unit (s := S1) ![0] S1.size inb) 𝒱₀ (c : Thread nD τ) none Set.univ (Finset.subset_univ _)

/-- A resource under which a load of the whole of wM gives w. -/
def Loads (wM : Memref sig .tc .vmem S1024x1024 .fp8e5m2) (w : Vec F S1024x1024 .fp8e5m2) (R : sProp 𝕄) : Prop :=
  ∀ {α : Type} (Q : α → sProp 𝕄) (inb : ∀ a, (![0, 0] : Fin 2 → ℕ) a + S1024x1024.size a ≤ S1024x1024.size a)
    (hl : wM.view.LoadsAt (Rect.unit (s := S1024x1024) ![0, 0] S1024x1024.size inb).toLoadRect) (K : Vec F S1024x1024 .fp8e5m2 → Prog (TpuEff nD τ sig (Elt F) Λ₀ .tc) α),
    R ⊢ iprop((R -∗ WP c (K w) Q) -∗ WP c (.op (.load wM (Rect.unit (s := S1024x1024) ![0, 0] S1024x1024.size inb).toLoadRect hl) K) Q)

theorem wp_ld_x {α : Type} {Q : α → sProp 𝕄} {off : Fin 2 → ℕ} (h : off = ![1024 * c.val, 0])
    {inb : ∀ a, off a + S1024x1024.size a ≤ S4096x1024.size a}
    {hl : xM.view.LoadsAt (Rect.unit (s := S4096x1024) off S1024x1024.size inb).toLoadRect} {K : Vec F S1024x1024 .fp8e5m2 → Prog (TpuEff nD τ sig (Elt F) Λ₀ .tc) α} :
    (xLoc c ↦[xSlot c]{fullShare} xv m c)
      ⊢ iprop(((xLoc c ↦[xSlot c]{fullShare} xv m c) -∗ WP c (K ((xM.access (xS c)).read (Elt F) (xv m c))) Q)
        -∗ WP c (.op (.load xM (Rect.unit (s := S4096x1024) off S1024x1024.size inb).toLoadRect hl) K) Q) := by
  subst h
  exact wp_load_rect (m := xM) (r := xS c) 𝒱₀ (c : Thread nD τ) none Set.univ (by rw [xS_set])

theorem own_eq (f : Buf (Elt F) (cLoc c)) (i : S4x1024x1024.Idx) (hi : i ∈ cSlot c) :
    (cM.access (cS c)).write (Elt F) f (k0_pay4 ((xM.access (xS c)).read (Elt F) (xv m c))) Finset.univ i = commBuf m c i := by
  rw [← cS_set, View.set, Finset.mem_map] at hi
  obtain ⟨y, -, rfl⟩ := hi
  rw [View.write_emb_of_mem _ _ (Finset.mem_univ y)]
  obtain ⟨z, a, b, rfl⟩ : ∃ (z : Fin 1) (a b : Fin 1024), y = ix3 z a b := ⟨y 0, y 1, y 2, eq_ix3 y⟩
  have e1 : (cM.access (cS c)).emb (ix3 z a b) = (ix3 (c : Fin 4) a b : S4x1024x1024.Idx) := by
    show (cS c).emb (ix3 z a b) = _
    funext x
    apply Fin.ext
    have hz : z.val = 0 := by omega
    match x with
    | 0 => simp [Rect.emb_apply, hz]
    | 1 => simp [Rect.emb_apply]
    | 2 => simp [Rect.emb_apply]
  have e3 : (xM.access (xS c)).emb (ix2 a b) = (ix2 (⟨1024 * c.val + a.val, by have : c.val < 4 := c.isLt; have := a.isLt; omega⟩ : Fin 4096) b : S4096x1024.Idx) := by
    show (xS c).emb (ix2 a b) = _
    funext x
    apply Fin.ext
    match x with
    | 0 => simp [Rect.emb_apply]
    | 1 => simp [Rect.emb_apply]
  have e2 : k0_pay4 ((xM.access (xS c)).read (Elt F) (xv m c)) (ix3 z a b) = (xM.access (xS c)).read (Elt F) (xv m c) (ix2 a b) := by
    unfold k0_pay4
    rw [shapeCast_ab_1ab_apply]
    exact congrFun (shapeCast_self _ _) _
  rw [e1, e2, View.read_apply, e3, cast_cast, cast_eq]
  unfold commBuf
  rfl

theorem wp_st_slot {α : Type} {Q : α → sProp 𝕄} {off : Fin 3 → ℕ} (h : off = ![c.val, 0, 0])
    {inb : ∀ a, off a + S1x1024x1024.size a ≤ S4x1024x1024.size a} {f : Buf (Elt F) (cLoc c)} {v : FVec F S1x1024x1024 .fp8e5m2}
    {hx : (cM.access (Rect.unit (s := S4x1024x1024) off S1x1024x1024.size inb)).Stores Finset.univ} {hm} {K : PUnit → Prog (TpuEff nD τ sig (Elt F) Λ₀ .tc) α} :
    (cLoc c ↦[cSlot c]{fullShare} f)
      ⊢ iprop(((cLoc c ↦[cSlot c]{fullShare} (cM.access (cS c)).write (Elt F) f v Finset.univ) -∗ WP c (K ⟨⟩) Q)
        -∗ WP c (.op (.store cM (Rect.unit (s := S4x1024x1024) off S1x1024x1024.size inb) v Finset.univ hx hm) K) Q) := by
  subst h
  exact wp_store (hx := hx) (hm := hm) (k := K) 𝒱₀ (c : Thread nD τ) none Set.univ (Finset.Subset.trans (View.setOn_subset_set _ _) (subset_of_eq (cS_set c)))

theorem own_pt (f : Buf (Elt F) (cLoc c)) :
    (cLoc c ↦[cSlot c]{fullShare} (cM.access (cS c)).write (Elt F) f (k0_pay4 ((xM.access (xS c)).read (Elt F) (xv m c))) Finset.univ) ⊢ ownSlot m c := by
  unfold ownSlot
  rw [pointsTo_congr (own_eq m c f)]
end Heads

end Cert.A2A

end
-- ==== Proof.Body.lean ====
/-
  The body at each grid point: what it takes and what it hands back, for the four points that open an inner step, for the
  points of the other column blocks, and for the last point, which awaits all the sends.
-/
module

public import proofs.«01_k».proof.Proof.Heads

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds of the protocol between grid points -/

def four (P : Fin 4 → sProp 𝕄) : sProp 𝕄 := iprop(P 0 ∗ P 1 ∗ P 2 ∗ P 3)

/-- What the transfer of a chunk needs besides the rows and the room. -/
def sTok (c : Dev nD) (r : Fin 3) (k : Fin 4) : sProp 𝕄 :=
  iprop(dutyTok ER (sendCell c r k) 0 0 ∗ reached ER (sendCell c r k) 0 ∗ dutyTok ER (recvCell (peer r c) c k) 0 0)
/-- A row of transfers ready to be started; started; its rows back. -/
def sReady (c : Dev nD) (r : Fin 3) : sProp 𝕄 := four fun k => sendItem m c r k
def sDone (c : Dev nD) (r : Fin 3) : sProp 𝕄 := four fun k => cred (tallyAt (sendCell c r k) () N)
def sBack (c : Dev nD) (r : Fin 3) : sProp 𝕄 := four fun k => xPc m c (peer r c) k
def sPos (c : Dev nD) (r : Fin 3) (e : ℕ) : sProp 𝕄 := four fun k => atPos ER (sendCell c r k) e ∅ 0
/-- A slot still to arrive; arrived. -/
def rPend (c : Dev nD) (r : Fin 3) : sProp 𝕄 := four fun k => pend c (src r c) k
def rPos (c : Dev nD) (r : Fin 3) (e : ℕ) : sProp 𝕄 := four fun k => atPos ER (recvCell c (src r c) k) e ∅ 0
def slotPt (c : Dev nD) (j : Fin 4) : sProp 𝕄 := cLoc c ↦[cSlot j]{fullShare} commBuf m c
/-- The rows of the staged x block that this device keeps. -/
def xKeep (c : Dev nD) : sProp 𝕄 := xLoc c ↦[xSlot c]{fullShare} xv m c

/-- Before the first point; after it. -/
def start (c : Dev nD) : sProp 𝕄 :=
  iprop(ow c (O₀ c) ∗ atPos ER (barCell c) 0 ∅ 0 ∗ cred (tallyAt (barCell c) () 3)
    ∗ dutyTok ER (barCell (peer 0 c)) 0 c ∗ dutyTok ER (barCell (peer 1 c)) 0 c ∗ dutyTok ER (barCell (peer 2 c)) 0 c
    ∗ barPay (peer 0 c) c ∗ barPay (peer 1 c) c ∗ barPay (peer 2 c) c
    ∗ (∃ f : Buf (Elt F) (cLoc c), cLoc c ↦[cSlot c]{fullShare} f) ∗ xKeep m c
    ∗ four (sTok c 0) ∗ four (sTok c 1) ∗ four (sTok c 2) ∗ sBack m c 0 ∗ sBack m c 1 ∗ sBack m c 2)
def opened (c : Dev nD) : sProp 𝕄 :=
  iprop(ow c (Osend c 8) ∗ atPos ER (barCell c) 1 ∅ 0 ∗ slotPt m c c ∗ xKeep m c ∗ sDone c 0 ∗ sReady m c 1 ∗ sReady m c 2)

theorem mkReady (c : Dev nD) (r : Fin 3) : iprop(barPay c (peer r c) ∗ four (sTok c r) ∗ sBack m c r) ⊢ sReady m c r := by
  unfold barPay sReady sBack four sTok sendItem
  rw [bigSep_four]
  iintro ⟨⟨⟨A0, R0⟩, ⟨A1, R1⟩, ⟨A2, R2⟩, ⟨A3, R3⟩⟩, ⟨⟨S0, Z0, T0⟩, ⟨S1, Z1, T1⟩, ⟨S2, Z2, T2⟩, ⟨S3, Z3, T3⟩⟩, ⟨X0, X1, X2, X3⟩⟩
  isplitl [A0 R0 S0 Z0 T0 X0]
  · isplitl [X0]; · iexact X0
    isplitl [A0]; · iexact A0
    isplitl [S0]; · iexact S0
    isplitl [Z0]; · iexact Z0
    isplitl [T0]; · iexact T0
    iexact R0
  isplitl [A1 R1 S1 Z1 T1 X1]
  · isplitl [X1]; · iexact X1
    isplitl [A1]; · iexact A1
    isplitl [S1]; · iexact S1
    isplitl [Z1]; · iexact Z1
    isplitl [T1]; · iexact T1
    iexact R1
  isplitl [A2 R2 S2 Z2 T2 X2]
  · isplitl [X2]; · iexact X2
    isplitl [A2]; · iexact A2
    isplitl [S2]; · iexact S2
    isplitl [Z2]; · iexact Z2
    isplitl [T2]; · iexact T2
    iexact R2
  isplitl [X3]; · iexact X3
  isplitl [A3]; · iexact A3
  isplitl [S3]; · iexact S3
  isplitl [Z3]; · iexact Z3
  isplitl [T3]; · iexact T3
  iexact R3

theorem mkSlot (c : Dev nD) (r : Fin 3) : four (got m c (src r c)) ⊢ iprop(rPos c r 1 ∗ slotPt m c (src r c)) := by
  unfold four got rPos four
  iintro ⟨⟨A0, F0⟩, ⟨A1, F1⟩, ⟨A2, F2⟩, ⟨A3, F3⟩⟩
  isplitl [A0 A1 A2 A3]
  · isplitl [A0]; · iexact A0
    isplitl [A1]; · iexact A1
    isplitl [A2]; · iexact A2
    iexact A3
  iapply (show iprop(cFull m c (src r c) 0 ∗ cFull m c (src r c) 1 ∗ cFull m c (src r c) 2 ∗ cFull m c (src r c) 3) ⊢ slotPt m c (src r c) from by
    unfold slotPt
    rw [← bigSep_four (fun k => cFull m c (src r c) k), cSlot_eq]
    exact Entails.of_eq (pointsTo_biUnion _ _ (fun a _ b _ h => cChunk_disj _ h)).symm)
  isplitl [F0]; · iexact F0
  isplitl [F1]; · iexact F1
  isplitl [F2]; · iexact F2
  iexact F3

/-! ## Devices addressed -/

section Devs
variable (c : Dev nD)
theorem dev1_eq : k0_dev1 c = (peer 1 c).val := by revert c; decide
theorem dev2_eq : k0_dev2 c = (peer 2 c).val := by revert c; decide
theorem dev3_eq : k0_dev3 c = (peer 0 c).val := by revert c; decide
theorem dev4_eq : k0_dev4 c = (peer 0 c).val := by revert c; decide
theorem dev5_eq : k0_dev5 c = (peer 0 c).val := by revert c; decide
theorem dev6_eq : k0_dev6 c = (peer 0 c).val := by revert c; decide
theorem dev7_eq : k0_dev7 c = (peer 0 c).val := by revert c; decide
theorem dev8_eq : k0_dev8 c = (peer 1 c).val := by revert c; decide
theorem dev9_eq : k0_dev9 c = (peer 1 c).val := by revert c; decide
theorem dev10_eq : k0_dev10 c = (peer 1 c).val := by revert c; decide
theorem dev11_eq : k0_dev11 c = (peer 1 c).val := by revert c; decide
theorem dev12_eq : k0_dev12 c = (peer 2 c).val := by revert c; decide
theorem dev13_eq : k0_dev13 c = (peer 2 c).val := by revert c; decide
theorem dev14_eq : k0_dev14 c = (peer 2 c).val := by revert c; decide
theorem dev15_eq : k0_dev15 c = (peer 2 c).val := by revert c; decide
end Devs

theorem xs_credit {off : Fin 2 → ℕ} {inb : ∀ a, off a + S256x1024.size a ≤ S4096x1024.size a} :
    (xM.slice (Rect.unit (s := S4096x1024) off S256x1024.size inb) (fun _ => rfl)).view.dmaCredit = N := rfl

/-- One transfer of those still owed. -/
theorem wp_send_next (κ : GSem nD τ sig → ℕ) (c n' : Dev nD) (r : Fin 3) (k : Fin 4) (n : ℕ) (hO : Osend c (n + 1) = Osend c n + Oat c r k) (hn : n' = peer r c)
    {xs : Memref sig .tc .vmem S256x1024 .fp8e5m2} (hx : xs = xRow (peer r c) k)
    {cd : Memref sig .tc .vmem S256x1024 .fp8e5m2} (hc : cd = cRow c k)
    {sS sR : DmaSem sig} (hS : sS = sendS r k) (hR : sR = recvS c k)
    {hsc : (cd : Memref sig (Dev.tc n' : Thread nD τ).2.kind .vmem S256x1024 .fp8e5m2).view.ref.isScScratch = false}
    {hsrc : xs.view.WordExact} {hdst : cd.view.WordExact}
    {hdma : DmaTarget.Typed .vmem (.dma sR) (.remote (Dev.tc n' : Thread nD τ) (cd : Memref sig .tc .vmem S256x1024 .fp8e5m2) (.dma sS) hsc)}
    {α : Type} {Q : α → sProp 𝕄} {K : PUnit → Prog (TpuEff nD τ sig (Elt F) Λ₀ .tc) α} :
    iprop(Ctx m κ ∗ ow c (Osend c (n + 1)) ∗ sendItem m c r k)
      ⊢ iprop((ow c (Osend c n) ∗ cred (tallyAt (sendCell c r k) () N) -∗ WP c (K ⟨⟩) Q)
        -∗ WP c (.op (.enqueueDma xs (.remote (Dev.tc n' : Thread nD τ) cd (.dma sS) hsc) (.dma sR) hsrc hdst hdma) K) Q) := by
  rw [hO]
  exact wp_send_chunk m κ c n' r k hn hx hc hS hR

theorem progAssoc {E : Type → Type 1} {α β γ : Type} (p : Prog E α) (f : α → Prog E β) (g : β → Prog E γ) : ((p >>= f) >>= g) = (p >>= fun x => f x >>= g) :=
  Prog.bind_assoc p f g

section Points
variable (κ : GSem nD τ sig → ℕ) (c : Dev nD)

theorem point0 {Q : PUnit → sProp 𝕄} (i : grid0.Coords) (e0 : (i 0).val = 0) (e1 : (i 1).val = 0)
    (wM : Memref sig .tc .vmem S1024x1024 .fp8e5m2) (hwM : wM.IsWhole) (w : Vec F S1024x1024 .fp8e5m2) (R : sProp 𝕄) (hW : Loads c wM w R)
    (tv : (⟨S4, .i32⟩ : BufTy).Contents (Elt F)) (ht : TabOk c tv) (s2 s3 : Elt F .f32) (o : OBuf F)
    : iprop(Ctx m κ ∗ tabPt c tv ∗ R ∗ scPt2 c s2 ∗ scPt3 c s3 ∗ oPt c o ∗ start m c)
      ⊢ iprop((tabPt c tv ∗ R ∗ scPt2 c s2 ∗ scPt3 c s3 ∗ oPt c (pointStep m c 0 0 s2 s3 w o) ∗ opened m c -∗ Q ⟨⟩)
        -∗ WP c (cc0_body i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2) Q) := by
  have h1 : k0_cond1 i = 1#1 := cond1_iff.2 ⟨e0, e1⟩
  have h2 : ¬ k0_cond2 i = 1#1 := fun h => by have := cond2_iff.1 h; omega
  have h3 : ¬ k0_cond3 i = 1#1 := fun h => by have := cond3_iff.1 h; omega
  have h4 : k0_cond4 i = 1#1 := cond4_iff.2 e1
  have h21 : ¬ k0_cond21 i = 1#1 := fun h => by have := cond21_iff.1 h; omega
  have h25 : ¬ k0_cond25 i = 1#1 := fun h => by have := cond25_iff.1 h; omega
  have h18 : k0_cond18 i = 1#1 := cond18_iff.2 e0
  have h19 : ¬ k0_cond19 i = 1#1 := fun h => by have := cond19_iff.1 h; omega
  have h20 : ¬ k0_cond20 i = 1#1 := fun h => by have := cond20_iff.1 h; omega
  have hn : ∀ {off : Fin 2 → ℕ} {x : ℕ}, off = ![x, 1024 * (i 1).val] → off = ![x, 1024 * (0 : Fin 8).val] := fun h => by rw [h, e1]; rfl
  unfold start opened O₀
  simp only [cc0_body_eq_skeleton, cc0_body_skel, k0_part18_eq_skeleton, k0_part18_skel, k0_part1_eq_skeleton, k0_part1_skel, k0_part2_eq_skeleton, k0_part2_skel, k0_part3_eq_skeleton, k0_part3_skel, k0_part4_eq_skeleton, k0_part4_skel, dif_pos h1, dif_neg h2, dif_neg h3, dif_pos h4, dif_neg h21, dif_neg h25, dif_pos h18, dif_neg h19, dif_neg h20,
    Prog.lift, Prog.bind_op, Prog.bind_ret, Prog.pure_eq_ret, smemLoad, smemLoadElt, semSignalWord, semWaitWord, progAssoc]
  iintro ⟨#HC, Ht, HR, H2, H3, Ho, HO, Hb, Hc, T0, T1, T2, B0, B1, B2, ⟨%f, HS⟩, Hx, K0, K1, K2, X0, X1, X2⟩ Hk
  iapply (wp_dev c)
  iapply (wp_signal_bar m κ c _ 1 (Fin.ext (dev1_eq c)) rfl rfl) $$ [HO T1 B1]
  · isplitr; · iexact HC
    isplitl [HO]; · iexact HO
    isplitl [T1]; · iexact T1
    iexact B1
  iintro HO
  iapply (wp_signal_bar m κ c _ 2 (Fin.ext (dev2_eq c)) rfl rfl) $$ [HO T2 B2]
  · isplitr; · iexact HC
    isplitl [HO]; · iexact HO
    isplitl [T2]; · iexact T2
    iexact B2
  iintro HO
  iapply (wp_signal_bar m κ c _ 0 (Fin.ext (dev3_eq c)) rfl rfl) $$ [HO T0 B0]
  · isplitr; · iexact HC
    isplitl [HO]; · iexact HO
    isplitl [T0]; · iexact T0
    iexact B0
  iintro HO
  iapply (wp_wait_bar m κ c (above_send c 12) rfl rfl) $$ [HO Hb Hc]
  · isplitr; · iexact HC
    isplitl [HO]; · iexact HO
    isplitl [Hb]; · iexact Hb
    iexact Hc
  iintro ⟨HO, Hb, P0, P1, P2⟩
  ihave K0 := (mkReady m c 0) $$ [P0 K0 X0]
  · isplitl [P0]; · iexact P0
    isplitl [K0]; · iexact K0
    iexact X0
  ihave K1 := (mkReady m c 1) $$ [P1 K1 X1]
  · isplitl [P1]; · iexact P1
    isplitl [K1]; · iexact K1
    iexact X1
  ihave K2 := (mkReady m c 2) $$ [P2 K2 X2]
  · isplitl [P2]; · iexact P2
    isplitl [K2]; · iexact K2
    iexact X2
  unfold xKeep
  iapply (wp_ld_x m c (k0_off2_eq c)) $$ Hx
  iintro Hx
  iapply (wp_ld_slot c c (Finset.Subset.refl _) (k0_off3_eq c)) $$ HS
  iintro HS
  iapply (wp_st_slot c (k0_off3_eq c)) $$ HS
  iintro HS
  ihave HS := (own_pt m c f) $$ HS
  icases (Entails.of_eq (show sReady m c 0 = iprop(sendItem m c 0 0 ∗ sendItem m c 0 1 ∗ sendItem m c 0 2 ∗ sendItem m c 0 3) from rfl)) $$ K0 with ⟨I0, I1, I2, I3⟩
  iapply (wp_send_next m κ c _ 0 0 11 rfl (Fin.ext (dev4_eq c)) (xs_eq (peer 0 c) 0 (off6_eq c 0) _) (cs_eq c 0 (k0_off5_eq c) _)
    (sendS_eq 0 0 _ rfl _) (recvS_eq c 0 _ (k0_off4_eq c) _)) $$ [HO I0]
  · isplitr; · iexact HC
    isplitl [HO]; · iexact HO
    iexact I0
  iintro ⟨HO, D0⟩
  iapply (wp_send_next m κ c _ 0 1 10 rfl (Fin.ext (dev5_eq c)) (xs_eq (peer 0 c) 1 (off6_eq c 1) _) (cs_eq c 1 (k0_off8_eq c) _)
    (sendS_eq 0 1 _ rfl _) (recvS_eq c 1 _ (k0_off7_eq c) _)) $$ [HO I1]
  · isplitr; · iexact HC
    isplitl [HO]; · iexact HO
    iexact I1
  iintro ⟨HO, D1⟩
  iapply (wp_send_next m κ c _ 0 2 9 rfl (Fin.ext (dev6_eq c)) (xs_eq (peer 0 c) 2 (off6_eq c 2) _) (cs_eq c 2 (k0_off10_eq c) _)
    (sendS_eq 0 2 _ rfl _) (recvS_eq c 2 _ (k0_off9_eq c) _)) $$ [HO I2]
  · isplitr; · iexact HC
    isplitl [HO]; · iexact HO
    iexact I2
  iintro ⟨HO, D2⟩
  iapply (wp_send_next m κ c _ 0 3 8 rfl (Fin.ext (dev7_eq c)) (xs_eq (peer 0 c) 3 (off6_eq c 3) _) (cs_eq c 3 (k0_off12_eq c) _)
    (sendS_eq 0 3 _ rfl _) (recvS_eq c 3 _ (k0_off11_eq c) _)) $$ [HO I3]
  · isplitr; · iexact HC
    isplitl [HO]; · iexact HO
    iexact I3
  iintro ⟨HO, D3⟩
  iapply (wp_ld_tab c ht 0 (j := c) rfl (by rw [k0_off31_eq, e0]; rfl)) $$ Ht
  iintro Ht
  try dsimp only
  iapply (wp_asm c (chk_wd c i))
  iapply (hW _ _ _ _) $$ HR
  iintro HR
  iapply (wp_ld_sc2 c) $$ H2
  iintro H2
  iapply (wp_ld_sc3 c) $$ H3
  iintro H3
  try dsimp only
  iapply (wp_seq c _ _)
  iapply (wp_seq c _ _)
  iapply (part9_own m c i e0 e1 wM hwM _ _ _ (chk_wd c i) w s2 s3 h4 o) $$ [HS Ho]
  · isplitl [HS]; · iexact HS
    iexact Ho
  iintro %a %b ⟨HS, Ho⟩
  try dsimp only
  iapply (wp_seq c _ _)
  iapply (part10_own m c i e0 e1 wM hwM _ _ _ _ _ (chk_wd c i) w s2 s3 h4 _) $$ [HS Ho]
  · isplitl [HS]; · iexact HS
    iexact Ho
  iintro ⟨HS, Ho⟩
  try dsimp only
  iapply (wp_ld_row c 3 0 (hn (off53_eq i))) $$ Ho
  iintro Ho
  iapply (wp_st_row c 3 0 (hn (off53_eq i)) (o' := pointStep m c 0 0 s2 s3 w o) (by rfl)) $$ Ho
  iintro Ho
  iapply (wp_done c _)
  try dsimp only
  iapply (wp_done c _)
  iapply Hk
  isplitl [Ht]; · iexact Ht
  isplitl [HR]; · iexact HR
  isplitl [H2]; · iexact H2
  isplitl [H3]; · iexact H3
  isplitl [Ho]; · iexact Ho
  isplitl [HO]; · iexact HO
  isplitl [Hb]; · iexact Hb
  isplitl [HS]; · iapply (show ownSlot m c ⊢ slotPt m c c from Entails.of_eq rfl) $$ HS
  isplitl [Hx]; · iexact Hx
  isplitl [D0 D1 D2 D3]
  · unfold sDone four
    isplitl [D0]; · iexact D0
    isplitl [D1]; · iexact D1
    isplitl [D2]; · iexact D2
    iexact D3
  isplitl [K1]; · iexact K1
  iexact K2

theorem point1 {Q : PUnit → sProp 𝕄} (i : grid0.Coords) (e0 : (i 0).val = 1) (e1 : (i 1).val = 0)
    (wM : Memref sig .tc .vmem S1024x1024 .fp8e5m2) (hwM : wM.IsWhole) (w : Vec F S1024x1024 .fp8e5m2) (R : sProp 𝕄) (hW : Loads c wM w R)
    (tv : (⟨S4, .i32⟩ : BufTy).Contents (Elt F)) (ht : TabOk c tv) (s2 s3 : Elt F .f32) (o : OBuf F)
    : iprop(Ctx m κ ∗ tabPt c tv ∗ R ∗ scPt2 c s2 ∗ scPt3 c s3 ∗ oPt c o ∗ ow c (Osend c 8) ∗ sReady m c 1 ∗ rPend c 0)
      ⊢ iprop((tabPt c tv ∗ R ∗ scPt2 c s2 ∗ scPt3 c s3 ∗ oPt c (pointStep m c 1 0 s2 s3 w o) ∗ ow c (Osend c 4) ∗ sDone c 1 ∗ rPos c 0 1 ∗ slotPt m c (src 0 c) -∗ Q ⟨⟩)
        -∗ WP c (cc0_body i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2) Q) := by
  have h1 : ¬ k0_cond1 i = 1#1 := fun h => by have := cond1_iff.1 h; omega
  have h2 : k0_cond2 i = 1#1 := cond2_iff.2 ⟨e0, e1⟩
  have h3 : ¬ k0_cond3 i = 1#1 := fun h => by have := cond3_iff.1 h; omega
  have h4 : k0_cond4 i = 1#1 := cond4_iff.2 e1
  have h21 : ¬ k0_cond21 i = 1#1 := fun h => by have := cond21_iff.1 h; omega
  have h25 : ¬ k0_cond25 i = 1#1 := fun h => by have := cond25_iff.1 h; omega
  have h18 : ¬ k0_cond18 i = 1#1 := fun h => by have := cond18_iff.1 h; omega
  have h19 : k0_cond19 i = 1#1 := cond19_iff.2 ⟨by omega, by omega⟩
  have h20 : ¬ k0_cond20 i = 1#1 := fun h => by have := cond20_iff.1 h; omega
  have hn : ∀ {off : Fin 2 → ℕ} {x : ℕ}, off = ![x, 1024 * (i 1).val] → off = ![x, 1024 * (0 : Fin 8).val] := fun h => by rw [h, e1]; rfl
  unfold sReady sDone rPend four
  simp only [cc0_body_eq_skeleton, cc0_body_skel, k0_part18_eq_skeleton, k0_part18_skel, k0_part5_eq_skeleton, k0_part5_skel, k0_part6_eq_skeleton, k0_part6_skel, dif_neg h1, dif_pos h2, dif_neg h3, dif_pos h4, dif_neg h21, dif_neg h25, dif_neg h18, dif_pos h19, dif_neg h20,
    Prog.lift, Prog.bind_op, Prog.bind_ret, Prog.pure_eq_ret, smemLoad, smemLoadElt, semSignalWord, semWaitWord, progAssoc]
  iintro ⟨#HC, Ht, HR, H2, H3, Ho, HO, ⟨I0, I1, I2, I3⟩, ⟨P0, P1, P2, P3⟩⟩ Hk
  iapply (wp_dev c)
  iapply (wp_send_next m κ c _ 1 0 7 rfl (Fin.ext (dev8_eq c)) (xs_eq (peer 1 c) 0 (off15_eq c 0) _) (cs_eq c 0 (k0_off14_eq c) _)
    (sendS_eq 1 0 _ rfl _) (recvS_eq c 0 _ (k0_off13_eq c) _)) $$ [HO I0]
  · isplitr; · iexact HC
    isplitl [HO]; · iexact HO
    iexact I0
  iintro ⟨HO, D0⟩
  iapply (wp_send_next m κ c _ 1 1 6 rfl (Fin.ext (dev9_eq c)) (xs_eq (peer 1 c) 1 (off15_eq c 1) _) (cs_eq c 1 (k0_off17_eq c) _)
    (sendS_eq 1 1 _ rfl _) (recvS_eq c 1 _ (k0_off16_eq c) _)) $$ [HO I1]
  · isplitr; · iexact HC
    isplitl [HO]; · iexact HO
    iexact I1
  iintro ⟨HO, D1⟩
  iapply (wp_send_next m κ c _ 1 2 5 rfl (Fin.ext (dev10_eq c)) (xs_eq (peer 1 c) 2 (off15_eq c 2) _) (cs_eq c 2 (k0_off19_eq c) _)
    (sendS_eq 1 2 _ rfl _) (recvS_eq c 2 _ (k0_off18_eq c) _)) $$ [HO I2]
  · isplitr; · iexact HC
    isplitl [HO]; · iexact HO
    iexact I2
  iintro ⟨HO, D2⟩
  iapply (wp_send_next m κ c _ 1 3 4 rfl (Fin.ext (dev11_eq c)) (xs_eq (peer 1 c) 3 (off15_eq c 3) _) (cs_eq c 3 (k0_off21_eq c) _)
    (sendS_eq 1 3 _ rfl _) (recvS_eq c 3 _ (k0_off20_eq c) _)) $$ [HO I3]
  · isplitr; · iexact HC
    isplitl [HO]; · iexact HO
    iexact I3
  iintro ⟨HO, D3⟩
  iapply (wp_ld_tab c ht 1 (j := src 0 c) rfl (by rw [k0_off31_eq, e0]; rfl)) $$ Ht
  iintro Ht
  try dsimp only
  iapply (wp_asm c (chk_wd (src 0 c) i))
  iapply (hW _ _ _ _) $$ HR
  iintro HR
  iapply (wp_ld_sc2 c) $$ H2
  iintro H2
  iapply (wp_ld_sc3 c) $$ H3
  iintro H3
  try dsimp only
  iapply (wp_seq c _ _)
  iapply (wp_seq c _ _)
  iapply (part9_run m κ c i 0 e0 e1 wM hwM _ _ _ (chk_wd (src 0 c) i) w s2 s3 h4 (above_mono (by decide) (above_last c)) o) $$ [HO P0 P1 Ho]
  · isplitr; · iexact HC
    isplitl [HO]; · iexact HO
    isplitl [P0]; · iexact P0
    isplitl [P1]; · iexact P1
    iexact Ho
  iintro %a %b ⟨HO, P0, P1, Ho⟩
  try dsimp only
  iapply (wp_seq c _ _)
  iapply (part10_run m κ c i 0 e0 e1 wM hwM _ _ _ _ _ (chk_wd (src 0 c) i) w s2 s3 h4 (above_mono (by decide) (above_last c)) _) $$ [HO P2 P3 Ho]
  · isplitr; · iexact HC
    isplitl [HO]; · iexact HO
    isplitl [P2]; · iexact P2
    isplitl [P3]; · iexact P3
    iexact Ho
  iintro ⟨HO, P2, P3, Ho⟩
  try dsimp only
  iapply (wp_ld_row c 3 0 (hn (off54_eq i))) $$ Ho
  iintro Ho
  iapply (wp_ld_row c 3 0 (hn (off54_eq i))) $$ Ho
  iintro Ho
  iapply (wp_st_row c 3 0 (hn (off54_eq i)) (o' := pointStep m c 1 0 s2 s3 w o) (by rfl)) $$ Ho
  iintro Ho
  iapply (wp_done c _)
  try dsimp only
  iapply (wp_done c _)
  iapply Hk
  isplitl [Ht]; · iexact Ht
  isplitl [HR]; · iexact HR
  isplitl [H2]; · iexact H2
  isplitl [H3]; · iexact H3
  isplitl [Ho]; · iexact Ho
  isplitl [HO]; · iexact HO
  isplitl [D0 D1 D2 D3]
  · isplitl [D0]; · iexact D0
    isplitl [D1]; · iexact D1
    isplitl [D2]; · iexact D2
    iexact D3
  iapply (mkSlot m c 0)
  unfold four
  isplitl [P0]; · iexact P0
  isplitl [P1]; · iexact P1
  isplitl [P2]; · iexact P2
  iexact P3

theorem point2 {Q : PUnit → sProp 𝕄} (i : grid0.Coords) (e0 : (i 0).val = 2) (e1 : (i 1).val = 0)
    (wM : Memref sig .tc .vmem S1024x1024 .fp8e5m2) (hwM : wM.IsWhole) (w : Vec F S1024x1024 .fp8e5m2) (R : sProp 𝕄) (hW : Loads c wM w R)
    (tv : (⟨S4, .i32⟩ : BufTy).Contents (Elt F)) (ht : TabOk c tv) (s2 s3 : Elt F .f32) (o : OBuf F)
    : iprop(Ctx m κ ∗ tabPt c tv ∗ R ∗ scPt2 c s2 ∗ scPt3 c s3 ∗ oPt c o ∗ ow c (Osend c 4) ∗ sReady m c 2 ∗ rPend c 1)
      ⊢ iprop((tabPt c tv ∗ R ∗ scPt2 c s2 ∗ scPt3 c s3 ∗ oPt c (pointStep m c 2 0 s2 s3 w o) ∗ ow c 0 ∗ sDone c 2 ∗ rPos c 1 1 ∗ slotPt m c (src 1 c) -∗ Q ⟨⟩)
        -∗ WP c (cc0_body i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2) Q) := by
  have h1 : ¬ k0_cond1 i = 1#1 := fun h => by have := cond1_iff.1 h; omega
  have h2 : ¬ k0_cond2 i = 1#1 := fun h => by have := cond2_iff.1 h; omega
  have h3 : k0_cond3 i = 1#1 := cond3_iff.2 ⟨e0, e1⟩
  have h4 : k0_cond4 i = 1#1 := cond4_iff.2 e1
  have h21 : ¬ k0_cond21 i = 1#1 := fun h => by have := cond21_iff.1 h; omega
  have h25 : ¬ k0_cond25 i = 1#1 := fun h => by have := cond25_iff.1 h; omega
  have h18 : ¬ k0_cond18 i = 1#1 := fun h => by have := cond18_iff.1 h; omega
  have h19 : k0_cond19 i = 1#1 := cond19_iff.2 ⟨by omega, by omega⟩
  have h20 : ¬ k0_cond20 i = 1#1 := fun h => by have := cond20_iff.1 h; omega
  have hn : ∀ {off : Fin 2 → ℕ} {x : ℕ}, off = ![x, 1024 * (i 1).val] → off = ![x, 1024 * (0 : Fin 8).val] := fun h => by rw [h, e1]; rfl
  unfold sReady sDone rPend four
  simp only [cc0_body_eq_skeleton, cc0_body_skel, k0_part18_eq_skeleton, k0_part18_skel, k0_part7_eq_skeleton, k0_part7_skel, k0_part8_eq_skeleton, k0_part8_skel, dif_neg h1, dif_neg h2, dif_pos h3, dif_pos h4, dif_neg h21, dif_neg h25, dif_neg h18, dif_pos h19, dif_neg h20,
    Prog.lift, Prog.bind_op, Prog.bind_ret, Prog.pure_eq_ret, smemLoad, smemLoadElt, semSignalWord, semWaitWord, progAssoc]
  iintro ⟨#HC, Ht, HR, H2, H3, Ho, HO, ⟨I0, I1, I2, I3⟩, ⟨P0, P1, P2, P3⟩⟩ Hk
  iapply (wp_dev c)
  iapply (wp_send_next m κ c _ 2 0 3 rfl (Fin.ext (dev12_eq c)) (xs_eq (peer 2 c) 0 (off24_eq c 0) _) (cs_eq c 0 (k0_off23_eq c) _)
    (sendS_eq 2 0 _ rfl _) (recvS_eq c 0 _ (k0_off22_eq c) _)) $$ [HO I0]
  · isplitr; · iexact HC
    isplitl [HO]; · iexact HO
    iexact I0
  iintro ⟨HO, D0⟩
  iapply (wp_send_next m κ c _ 2 1 2 rfl (Fin.ext (dev13_eq c)) (xs_eq (peer 2 c) 1 (off24_eq c 1) _) (cs_eq c 1 (k0_off26_eq c) _)
    (sendS_eq 2 1 _ rfl _) (recvS_eq c 1 _ (k0_off25_eq c) _)) $$ [HO I1]
  · isplitr; · iexact HC
    isplitl [HO]; · iexact HO
    iexact I1
  iintro ⟨HO, D1⟩
  iapply (wp_send_next m κ c _ 2 2 1 rfl (Fin.ext (dev14_eq c)) (xs_eq (peer 2 c) 2 (off24_eq c 2) _) (cs_eq c 2 (k0_off28_eq c) _)
    (sendS_eq 2 2 _ rfl _) (recvS_eq c 2 _ (k0_off27_eq c) _)) $$ [HO I2]
  · isplitr; · iexact HC
    isplitl [HO]; · iexact HO
    iexact I2
  iintro ⟨HO, D2⟩
  iapply (wp_send_next m κ c _ 2 3 0 rfl (Fin.ext (dev15_eq c)) (xs_eq (peer 2 c) 3 (off24_eq c 3) _) (cs_eq c 3 (k0_off30_eq c) _)
    (sendS_eq 2 3 _ rfl _) (recvS_eq c 3 _ (k0_off29_eq c) _)) $$ [HO I3]
  · isplitr; · iexact HC
    isplitl [HO]; · iexact HO
    iexact I3
  iintro ⟨HO, D3⟩
  iapply (wp_ld_tab c ht 2 (j := src 1 c) rfl (by rw [k0_off31_eq, e0]; rfl)) $$ Ht
  iintro Ht
  try dsimp only
  iapply (wp_asm c (chk_wd (src 1 c) i))
  iapply (hW _ _ _ _) $$ HR
  iintro HR
  iapply (wp_ld_sc2 c) $$ H2
  iintro H2
  iapply (wp_ld_sc3 c) $$ H3
  iintro H3
  try dsimp only
  iapply (wp_seq c _ _)
  iapply (wp_seq c _ _)
  iapply (part9_run m κ c i 1 e0 e1 wM hwM _ _ _ (chk_wd (src 1 c) i) w s2 s3 h4 (above_zero _) o) $$ [HO P0 P1 Ho]
  · isplitr; · iexact HC
    isplitl [HO]; · iexact HO
    isplitl [P0]; · iexact P0
    isplitl [P1]; · iexact P1
    iexact Ho
  iintro %a %b ⟨HO, P0, P1, Ho⟩
  try dsimp only
  iapply (wp_seq c _ _)
  iapply (part10_run m κ c i 1 e0 e1 wM hwM _ _ _ _ _ (chk_wd (src 1 c) i) w s2 s3 h4 (above_zero _) _) $$ [HO P2 P3 Ho]
  · isplitr; · iexact HC
    isplitl [HO]; · iexact HO
    isplitl [P2]; · iexact P2
    isplitl [P3]; · iexact P3
    iexact Ho
  iintro ⟨HO, P2, P3, Ho⟩
  try dsimp only
  iapply (wp_ld_row c 3 0 (hn (off54_eq i))) $$ Ho
  iintro Ho
  iapply (wp_ld_row c 3 0 (hn (off54_eq i))) $$ Ho
  iintro Ho
  iapply (wp_st_row c 3 0 (hn (off54_eq i)) (o' := pointStep m c 2 0 s2 s3 w o) (by rfl)) $$ Ho
  iintro Ho
  iapply (wp_done c _)
  try dsimp only
  iapply (wp_done c _)
  iapply Hk
  isplitl [Ht]; · iexact Ht
  isplitl [HR]; · iexact HR
  isplitl [H2]; · iexact H2
  isplitl [H3]; · iexact H3
  isplitl [Ho]; · iexact Ho
  isplitl [HO]; · iexact HO
  isplitl [D0 D1 D2 D3]
  · isplitl [D0]; · iexact D0
    isplitl [D1]; · iexact D1
    isplitl [D2]; · iexact D2
    iexact D3
  iapply (mkSlot m c 1)
  unfold four
  isplitl [P0]; · iexact P0
  isplitl [P1]; · iexact P1
  isplitl [P2]; · iexact P2
  iexact P3

theorem point3 {Q : PUnit → sProp 𝕄} (i : grid0.Coords) (e0 : (i 0).val = 3) (e1 : (i 1).val = 0)
    (wM : Memref sig .tc .vmem S1024x1024 .fp8e5m2) (hwM : wM.IsWhole) (w : Vec F S1024x1024 .fp8e5m2) (R : sProp 𝕄) (hW : Loads c wM w R)
    (tv : (⟨S4, .i32⟩ : BufTy).Contents (Elt F)) (ht : TabOk c tv) (s2 s3 : Elt F .f32) (o : OBuf F)
    : iprop(Ctx m κ ∗ tabPt c tv ∗ R ∗ scPt2 c s2 ∗ scPt3 c s3 ∗ oPt c o ∗ ow c 0 ∗ rPend c 2)
      ⊢ iprop((tabPt c tv ∗ R ∗ scPt2 c s2 ∗ scPt3 c s3 ∗ oPt c (pointStep m c 3 0 s2 s3 w o) ∗ ow c 0 ∗ rPos c 2 1 ∗ slotPt m c (src 2 c) -∗ Q ⟨⟩)
        -∗ WP c (cc0_body i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2) Q) := by
  have h1 : ¬ k0_cond1 i = 1#1 := fun h => by have := cond1_iff.1 h; omega
  have h2 : ¬ k0_cond2 i = 1#1 := fun h => by have := cond2_iff.1 h; omega
  have h3 : ¬ k0_cond3 i = 1#1 := fun h => by have := cond3_iff.1 h; omega
  have h4 : k0_cond4 i = 1#1 := cond4_iff.2 e1
  have h21 : ¬ k0_cond21 i = 1#1 := fun h => by have := cond21_iff.1 h; omega
  have h25 : ¬ k0_cond25 i = 1#1 := fun h => by have := cond25_iff.1 h; omega
  have h18 : ¬ k0_cond18 i = 1#1 := fun h => by have := cond18_iff.1 h; omega
  have h19 : ¬ k0_cond19 i = 1#1 := fun h => by have := cond19_iff.1 h; omega
  have h20 : k0_cond20 i = 1#1 := cond20_iff.2 e0
  have hn : ∀ {off : Fin 2 → ℕ} {x : ℕ}, off = ![x, 1024 * (i 1).val] → off = ![x, 1024 * (0 : Fin 8).val] := fun h => by rw [h, e1]; rfl
  unfold rPend four
  simp only [cc0_body_eq_skeleton, cc0_body_skel, k0_part18_eq_skeleton, k0_part18_skel, dif_neg h1, dif_neg h2, dif_neg h3, dif_pos h4, dif_neg h21, dif_neg h25, dif_neg h18, dif_neg h19, dif_pos h20,
    Prog.lift, Prog.bind_op, Prog.bind_ret, Prog.pure_eq_ret, smemLoad, smemLoadElt, semSignalWord, semWaitWord, progAssoc]
  iintro ⟨#HC, Ht, HR, H2, H3, Ho, HO, ⟨P0, P1, P2, P3⟩⟩ Hk
  iapply (wp_dev c)
  iapply (wp_ld_tab c ht 3 (j := src 2 c) rfl (by rw [k0_off31_eq, e0]; rfl)) $$ Ht
  iintro Ht
  try dsimp only
  iapply (wp_asm c (chk_wd (src 2 c) i))
  iapply (hW _ _ _ _) $$ HR
  iintro HR
  iapply (wp_ld_sc2 c) $$ H2
  iintro H2
  iapply (wp_ld_sc3 c) $$ H3
  iintro H3
  try dsimp only
  iapply (wp_seq c _ _)
  iapply (wp_seq c _ _)
  iapply (part9_run m κ c i 2 e0 e1 wM hwM _ _ _ (chk_wd (src 2 c) i) w s2 s3 h4 (above_zero _) o) $$ [HO P0 P1 Ho]
  · isplitr; · iexact HC
    isplitl [HO]; · iexact HO
    isplitl [P0]; · iexact P0
    isplitl [P1]; · iexact P1
    iexact Ho
  iintro %a %b ⟨HO, P0, P1, Ho⟩
  try dsimp only
  iapply (wp_seq c _ _)
  iapply (part10_run m κ c i 2 e0 e1 wM hwM _ _ _ _ _ (chk_wd (src 2 c) i) w s2 s3 h4 (above_zero _) _) $$ [HO P2 P3 Ho]
  · isplitr; · iexact HC
    isplitl [HO]; · iexact HO
    isplitl [P2]; · iexact P2
    isplitl [P3]; · iexact P3
    iexact Ho
  iintro ⟨HO, P2, P3, Ho⟩
  try dsimp only
  iapply (wp_ld_row c 3 0 (hn (off55_eq i))) $$ Ho
  iintro Ho
  iapply (wp_ld_row c 3 0 (hn (off55_eq i))) $$ Ho
  iintro Ho
  iapply (wp_st_row c 3 0 (hn (off55_eq i)) (o' := pointStep m c 3 0 s2 s3 w o) (by rfl)) $$ Ho
  iintro Ho
  iapply (wp_done c _)
  try dsimp only
  iapply (wp_done c _)
  iapply Hk
  isplitl [Ht]; · iexact Ht
  isplitl [HR]; · iexact HR
  isplitl [H2]; · iexact H2
  isplitl [H3]; · iexact H3
  isplitl [Ho]; · iexact Ho
  isplitl [HO]; · iexact HO
  iapply (mkSlot m c 2)
  unfold four
  isplitl [P0]; · iexact P0
  isplitl [P1]; · iexact P1
  isplitl [P2]; · iexact P2
  iexact P3

theorem pointOther0 {Q : PUnit → sProp 𝕄} (i : grid0.Coords) (n : Fin 8) (hn0 : n ≠ 0) (e0 : (i 0).val = 0) (e1 : (i 1).val = n.val)
    (wM : Memref sig .tc .vmem S1024x1024 .fp8e5m2) (hwM : wM.IsWhole) (w : Vec F S1024x1024 .fp8e5m2) (R : sProp 𝕄) (hW : Loads c wM w R)
    (tv : (⟨S4, .i32⟩ : BufTy).Contents (Elt F)) (ht : TabOk c tv) (s2 s3 : Elt F .f32) (o : OBuf F)
    : iprop(Ctx m κ ∗ tabPt c tv ∗ R ∗ scPt2 c s2 ∗ scPt3 c s3 ∗ oPt c o ∗ slotPt m c (jAt c 0))
      ⊢ iprop((tabPt c tv ∗ R ∗ scPt2 c s2 ∗ scPt3 c s3 ∗ oPt c (pointStep m c 0 n s2 s3 w o) ∗ slotPt m c (jAt c 0) -∗ Q ⟨⟩)
        -∗ WP c (cc0_body i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2) Q) := by
  have n0 : n.val ≠ 0 := fun h => hn0 (Fin.ext h)
  have h1 : ¬ k0_cond1 i = 1#1 := fun h => by have := cond1_iff.1 h; omega
  have h2 : ¬ k0_cond2 i = 1#1 := fun h => by have := cond2_iff.1 h; omega
  have h3 : ¬ k0_cond3 i = 1#1 := fun h => by have := cond3_iff.1 h; omega
  have h4 : ¬ k0_cond4 i = 1#1 := fun h => by have := cond4_iff.1 h; omega
  have h21 : k0_cond21 i = 1#1 := cond21_iff.2 (by omega)
  have h22 : k0_cond22 i = 1#1 := cond22_iff.2 e0
  have h23 : ¬ k0_cond23 i = 1#1 := fun h => by have := cond23_iff.1 h; omega
  have h24 : ¬ k0_cond24 i = 1#1 := fun h => by have := cond24_iff.1 h; omega
  have h25 : ¬ k0_cond25 i = 1#1 := fun h => by have := cond25_iff.1 h; omega
  have hn : ∀ {off : Fin 2 → ℕ} {x : ℕ}, off = ![x, 1024 * (i 1).val] → off = ![x, 1024 * (n : Fin 8).val] := fun h => by rw [h, e1]
  simp only [cc0_body_eq_skeleton, cc0_body_skel, k0_part18_eq_skeleton, k0_part18_skel, dif_neg h1, dif_neg h2, dif_neg h3, dif_neg h4, dif_pos h21, dif_pos h22, dif_neg h23, dif_neg h24, dif_neg h25,
    Prog.lift, Prog.bind_op, Prog.bind_ret, Prog.pure_eq_ret, smemLoad, smemLoadElt, semSignalWord, semWaitWord, progAssoc]
  iintro ⟨#HC, Ht, HR, H2, H3, Ho, HS⟩ Hk
  iapply (wp_dev c)
  iapply (wp_ld_tab c ht 0 (j := jAt c 0) rfl (by rw [k0_off31_eq, e0]; rfl)) $$ Ht
  iintro Ht
  try dsimp only
  iapply (wp_asm c (chk_wd (jAt c 0) i))
  iapply (hW _ _ _ _) $$ HR
  iintro HR
  iapply (wp_ld_sc2 c) $$ H2
  iintro H2
  iapply (wp_ld_sc3 c) $$ H3
  iintro H3
  try dsimp only
  unfold slotPt
  iapply (wp_ld_slot c (jAt c 0) (Finset.Subset.refl _) (off56_eq (jAt c 0))) $$ HS
  iintro HS
  iapply (wp_ld_blk c n (hn (off57_eq i))) $$ Ho
  iintro Ho
  iapply (wp_st_blk c n (hn (off57_eq i)) (o' := pointStep m c 0 n s2 s3 w o) (by unfold pointStep; rw [if_neg hn0]; rfl)) $$ Ho
  iintro Ho
  iapply (wp_done c _)
  iapply Hk
  isplitl [Ht]; · iexact Ht
  isplitl [HR]; · iexact HR
  isplitl [H2]; · iexact H2
  isplitl [H3]; · iexact H3
  isplitl [Ho]; · iexact Ho
  iexact HS

theorem pointOtherm {Q : PUnit → sProp 𝕄} (i : grid0.Coords) (kb : Fin 4) (hk0 : kb ≠ 0) (hk3 : kb ≠ 3) (n : Fin 8) (hn0 : n ≠ 0) (e0 : (i 0).val = kb.val) (e1 : (i 1).val = n.val)
    (wM : Memref sig .tc .vmem S1024x1024 .fp8e5m2) (hwM : wM.IsWhole) (w : Vec F S1024x1024 .fp8e5m2) (R : sProp 𝕄) (hW : Loads c wM w R)
    (tv : (⟨S4, .i32⟩ : BufTy).Contents (Elt F)) (ht : TabOk c tv) (s2 s3 : Elt F .f32) (o : OBuf F)
    : iprop(Ctx m κ ∗ tabPt c tv ∗ R ∗ scPt2 c s2 ∗ scPt3 c s3 ∗ oPt c o ∗ slotPt m c (jAt c kb))
      ⊢ iprop((tabPt c tv ∗ R ∗ scPt2 c s2 ∗ scPt3 c s3 ∗ oPt c (pointStep m c kb n s2 s3 w o) ∗ slotPt m c (jAt c kb) -∗ Q ⟨⟩)
        -∗ WP c (cc0_body i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2) Q) := by
  have n0 : n.val ≠ 0 := fun h => hn0 (Fin.ext h)
  have k0 : kb.val ≠ 0 := fun h => hk0 (Fin.ext h)
  have k3 : kb.val ≠ 3 := fun h => hk3 (Fin.ext h)
  have h1 : ¬ k0_cond1 i = 1#1 := fun h => by have := cond1_iff.1 h; omega
  have h2 : ¬ k0_cond2 i = 1#1 := fun h => by have := cond2_iff.1 h; omega
  have h3 : ¬ k0_cond3 i = 1#1 := fun h => by have := cond3_iff.1 h; omega
  have h4 : ¬ k0_cond4 i = 1#1 := fun h => by have := cond4_iff.1 h; omega
  have h21 : k0_cond21 i = 1#1 := cond21_iff.2 (by omega)
  have h22 : ¬ k0_cond22 i = 1#1 := fun h => by have := cond22_iff.1 h; omega
  have h23 : k0_cond23 i = 1#1 := cond23_iff.2 ⟨by omega, by omega⟩
  have h24 : ¬ k0_cond24 i = 1#1 := fun h => by have := cond24_iff.1 h; omega
  have h25 : ¬ k0_cond25 i = 1#1 := fun h => by have := cond25_iff.1 h; omega
  have hn : ∀ {off : Fin 2 → ℕ} {x : ℕ}, off = ![x, 1024 * (i 1).val] → off = ![x, 1024 * (n : Fin 8).val] := fun h => by rw [h, e1]
  simp only [cc0_body_eq_skeleton, cc0_body_skel, k0_part18_eq_skeleton, k0_part18_skel, dif_neg h1, dif_neg h2, dif_neg h3, dif_neg h4, dif_pos h21, dif_neg h22, dif_pos h23, dif_neg h24, dif_neg h25,
    Prog.lift, Prog.bind_op, Prog.bind_ret, Prog.pure_eq_ret, smemLoad, smemLoadElt, semSignalWord, semWaitWord, progAssoc]
  iintro ⟨#HC, Ht, HR, H2, H3, Ho, HS⟩ Hk
  iapply (wp_dev c)
  iapply (wp_ld_tab c ht kb (j := jAt c kb) rfl (by rw [k0_off31_eq, e0])) $$ Ht
  iintro Ht
  try dsimp only
  iapply (wp_asm c (chk_wd (jAt c kb) i))
  iapply (hW _ _ _ _) $$ HR
  iintro HR
  iapply (wp_ld_sc2 c) $$ H2
  iintro H2
  iapply (wp_ld_sc3 c) $$ H3
  iintro H3
  try dsimp only
  unfold slotPt
  iapply (wp_ld_slot c (jAt c kb) (Finset.Subset.refl _) (off56_eq (jAt c kb))) $$ HS
  iintro HS
  iapply (wp_ld_blk c n (hn (off58_eq i))) $$ Ho
  iintro Ho
  iapply (wp_ld_blk c n (hn (off58_eq i))) $$ Ho
  iintro Ho
  iapply (wp_st_blk c n (hn (off58_eq i)) (o' := pointStep m c kb n s2 s3 w o) (by unfold pointStep blkStep accB; rw [if_neg hn0, if_neg hk0, if_neg hk3]; rfl)) $$ Ho
  iintro Ho
  iapply (wp_done c _)
  iapply Hk
  isplitl [Ht]; · iexact Ht
  isplitl [HR]; · iexact HR
  isplitl [H2]; · iexact H2
  isplitl [H3]; · iexact H3
  isplitl [Ho]; · iexact Ho
  iexact HS

theorem pointOther3 {Q : PUnit → sProp 𝕄} (i : grid0.Coords) (n : Fin 8) (hn0 : n ≠ 0) (hn7 : n ≠ 7) (e0 : (i 0).val = 3) (e1 : (i 1).val = n.val)
    (wM : Memref sig .tc .vmem S1024x1024 .fp8e5m2) (hwM : wM.IsWhole) (w : Vec F S1024x1024 .fp8e5m2) (R : sProp 𝕄) (hW : Loads c wM w R)
    (tv : (⟨S4, .i32⟩ : BufTy).Contents (Elt F)) (ht : TabOk c tv) (s2 s3 : Elt F .f32) (o : OBuf F)
    : iprop(Ctx m κ ∗ tabPt c tv ∗ R ∗ scPt2 c s2 ∗ scPt3 c s3 ∗ oPt c o ∗ slotPt m c (jAt c 3))
      ⊢ iprop((tabPt c tv ∗ R ∗ scPt2 c s2 ∗ scPt3 c s3 ∗ oPt c (pointStep m c 3 n s2 s3 w o) ∗ slotPt m c (jAt c 3) -∗ Q ⟨⟩)
        -∗ WP c (cc0_body i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2) Q) := by
  have n0 : n.val ≠ 0 := fun h => hn0 (Fin.ext h)
  have n7 : n.val ≠ 7 := fun h => hn7 (Fin.ext h)
  have h1 : ¬ k0_cond1 i = 1#1 := fun h => by have := cond1_iff.1 h; omega
  have h2 : ¬ k0_cond2 i = 1#1 := fun h => by have := cond2_iff.1 h; omega
  have h3 : ¬ k0_cond3 i = 1#1 := fun h => by have := cond3_iff.1 h; omega
  have h4 : ¬ k0_cond4 i = 1#1 := fun h => by have := cond4_iff.1 h; omega
  have h21 : k0_cond21 i = 1#1 := cond21_iff.2 (by omega)
  have h22 : ¬ k0_cond22 i = 1#1 := fun h => by have := cond22_iff.1 h; omega
  have h23 : ¬ k0_cond23 i = 1#1 := fun h => by have := cond23_iff.1 h; omega
  have h24 : k0_cond24 i = 1#1 := cond24_iff.2 e0
  have h25 : ¬ k0_cond25 i = 1#1 := fun h => by have := cond25_iff.1 h; omega
  have hn : ∀ {off : Fin 2 → ℕ} {x : ℕ}, off = ![x, 1024 * (i 1).val] → off = ![x, 1024 * (n : Fin 8).val] := fun h => by rw [h, e1]
  simp only [cc0_body_eq_skeleton, cc0_body_skel, k0_part18_eq_skeleton, k0_part18_skel, dif_neg h1, dif_neg h2, dif_neg h3, dif_neg h4, dif_pos h21, dif_neg h22, dif_neg h23, dif_pos h24, dif_neg h25,
    Prog.lift, Prog.bind_op, Prog.bind_ret, Prog.pure_eq_ret, smemLoad, smemLoadElt, semSignalWord, semWaitWord, progAssoc]
  iintro ⟨#HC, Ht, HR, H2, H3, Ho, HS⟩ Hk
  iapply (wp_dev c)
  iapply (wp_ld_tab c ht 3 (j := jAt c 3) rfl (by rw [k0_off31_eq, e0]; rfl)) $$ Ht
  iintro Ht
  try dsimp only
  iapply (wp_asm c (chk_wd (jAt c 3) i))
  iapply (hW _ _ _ _) $$ HR
  iintro HR
  iapply (wp_ld_sc2 c) $$ H2
  iintro H2
  iapply (wp_ld_sc3 c) $$ H3
  iintro H3
  try dsimp only
  unfold slotPt
  iapply (wp_ld_slot c (jAt c 3) (Finset.Subset.refl _) (off56_eq (jAt c 3))) $$ HS
  iintro HS
  iapply (wp_ld_blk c n (hn (off59_eq i))) $$ Ho
  iintro Ho
  iapply (wp_ld_blk c n (hn (off59_eq i))) $$ Ho
  iintro Ho
  iapply (wp_st_blk c n (hn (off59_eq i)) (o' := pointStep m c 3 n s2 s3 w o) (by unfold pointStep; rw [if_neg hn0]; rfl)) $$ Ho
  iintro Ho
  iapply (wp_done c _)
  iapply Hk
  isplitl [Ht]; · iexact Ht
  isplitl [HR]; · iexact HR
  isplitl [H2]; · iexact H2
  isplitl [H3]; · iexact H3
  isplitl [Ho]; · iexact Ho
  iexact HS

theorem pointLast {Q : PUnit → sProp 𝕄} (i : grid0.Coords) (e0 : (i 0).val = 3) (e1 : (i 1).val = 7)
    (wM : Memref sig .tc .vmem S1024x1024 .fp8e5m2) (hwM : wM.IsWhole) (w : Vec F S1024x1024 .fp8e5m2) (R : sProp 𝕄) (hW : Loads c wM w R)
    (tv : (⟨S4, .i32⟩ : BufTy).Contents (Elt F)) (ht : TabOk c tv) (s2 s3 : Elt F .f32) (o : OBuf F)
    : iprop(Ctx m κ ∗ tabPt c tv ∗ R ∗ scPt2 c s2 ∗ scPt3 c s3 ∗ oPt c o ∗ slotPt m c (jAt c 3) ∗ ow c 0 ∗ sPos c 0 0 ∗ sDone c 0 ∗ sPos c 1 0 ∗ sDone c 1 ∗ sPos c 2 0 ∗ sDone c 2)
      ⊢ iprop((tabPt c tv ∗ R ∗ scPt2 c s2 ∗ scPt3 c s3 ∗ oPt c (pointStep m c 3 7 s2 s3 w o) ∗ slotPt m c (jAt c 3) ∗ ow c 0 ∗ sPos c 0 1 ∗ sBack m c 0 ∗ sPos c 1 1 ∗ sBack m c 1 ∗ sPos c 2 1 ∗ sBack m c 2 -∗ Q ⟨⟩)
        -∗ WP c (cc0_body i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2) Q) := by
  have h1 : ¬ k0_cond1 i = 1#1 := fun h => by have := cond1_iff.1 h; omega
  have h2 : ¬ k0_cond2 i = 1#1 := fun h => by have := cond2_iff.1 h; omega
  have h3 : ¬ k0_cond3 i = 1#1 := fun h => by have := cond3_iff.1 h; omega
  have h4 : ¬ k0_cond4 i = 1#1 := fun h => by have := cond4_iff.1 h; omega
  have h21 : k0_cond21 i = 1#1 := cond21_iff.2 (by omega)
  have h22 : ¬ k0_cond22 i = 1#1 := fun h => by have := cond22_iff.1 h; omega
  have h23 : ¬ k0_cond23 i = 1#1 := fun h => by have := cond23_iff.1 h; omega
  have h24 : k0_cond24 i = 1#1 := cond24_iff.2 e0
  have h25 : k0_cond25 i = 1#1 := cond25_iff.2 ⟨e0, e1⟩
  have hn : ∀ {off : Fin 2 → ℕ} {x : ℕ}, off = ![x, 1024 * (i 1).val] → off = ![x, 1024 * (7 : Fin 8).val] := fun h => by rw [h, e1]; rfl
  unfold sPos sDone sBack four
  simp only [cc0_body_eq_skeleton, cc0_body_skel, k0_part18_eq_skeleton, k0_part18_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, dif_neg h1, dif_neg h2, dif_neg h3, dif_neg h4, dif_pos h21, dif_neg h22, dif_neg h23, dif_pos h24, dif_pos h25,
    Prog.lift, Prog.bind_op, Prog.bind_ret, Prog.pure_eq_ret, smemLoad, smemLoadElt, semSignalWord, semWaitWord, progAssoc]
  iintro ⟨#HC, Ht, HR, H2, H3, Ho, HS, HO, ⟨A00, A01, A02, A03⟩, ⟨D00, D01, D02, D03⟩, ⟨A10, A11, A12, A13⟩, ⟨D10, D11, D12, D13⟩, ⟨A20, A21, A22, A23⟩, ⟨D20, D21, D22, D23⟩⟩ Hk
  iapply (wp_dev c)
  iapply (wp_ld_tab c ht 3 (j := jAt c 3) rfl (by rw [k0_off31_eq, e0]; rfl)) $$ Ht
  iintro Ht
  try dsimp only
  iapply (wp_asm c (chk_wd (jAt c 3) i))
  iapply (hW _ _ _ _) $$ HR
  iintro HR
  iapply (wp_ld_sc2 c) $$ H2
  iintro H2
  iapply (wp_ld_sc3 c) $$ H3
  iintro H3
  try dsimp only
  unfold slotPt
  iapply (wp_ld_slot c (jAt c 3) (Finset.Subset.refl _) (off56_eq (jAt c 3))) $$ HS
  iintro HS
  iapply (wp_ld_blk c 7 (hn (off59_eq i))) $$ Ho
  iintro Ho
  iapply (wp_ld_blk c 7 (hn (off59_eq i))) $$ Ho
  iintro Ho
  iapply (wp_st_blk c 7 (hn (off59_eq i)) (o' := pointStep m c 3 7 s2 s3 w o) (by rfl)) $$ Ho
  iintro Ho
  iapply (wp_sent_chunk m κ c 0 0 (sendS_eq 0 0 _ rfl _) xs_credit) $$ [HO A00 D00]
  · isplitr; · iexact HC
    isplitl [HO]; · iexact HO
    isplitl [A00]; · iexact A00
    iexact D00
  iintro ⟨HO, A00, D00⟩
  iapply (wp_sent_chunk m κ c 0 1 (sendS_eq 0 1 _ rfl _) xs_credit) $$ [HO A01 D01]
  · isplitr; · iexact HC
    isplitl [HO]; · iexact HO
    isplitl [A01]; · iexact A01
    iexact D01
  iintro ⟨HO, A01, D01⟩
  iapply (wp_sent_chunk m κ c 0 2 (sendS_eq 0 2 _ rfl _) xs_credit) $$ [HO A02 D02]
  · isplitr; · iexact HC
    isplitl [HO]; · iexact HO
    isplitl [A02]; · iexact A02
    iexact D02
  iintro ⟨HO, A02, D02⟩
  iapply (wp_sent_chunk m κ c 0 3 (sendS_eq 0 3 _ rfl _) xs_credit) $$ [HO A03 D03]
  · isplitr; · iexact HC
    isplitl [HO]; · iexact HO
    isplitl [A03]; · iexact A03
    iexact D03
  iintro ⟨HO, A03, D03⟩
  iapply (wp_sent_chunk m κ c 1 0 (sendS_eq 1 0 _ rfl _) xs_credit) $$ [HO A10 D10]
  · isplitr; · iexact HC
    isplitl [HO]; · iexact HO
    isplitl [A10]; · iexact A10
    iexact D10
  iintro ⟨HO, A10, D10⟩
  iapply (wp_sent_chunk m κ c 1 1 (sendS_eq 1 1 _ rfl _) xs_credit) $$ [HO A11 D11]
  · isplitr; · iexact HC
    isplitl [HO]; · iexact HO
    isplitl [A11]; · iexact A11
    iexact D11
  iintro ⟨HO, A11, D11⟩
  iapply (wp_sent_chunk m κ c 1 2 (sendS_eq 1 2 _ rfl _) xs_credit) $$ [HO A12 D12]
  · isplitr; · iexact HC
    isplitl [HO]; · iexact HO
    isplitl [A12]; · iexact A12
    iexact D12
  iintro ⟨HO, A12, D12⟩
  iapply (wp_sent_chunk m κ c 1 3 (sendS_eq 1 3 _ rfl _) xs_credit) $$ [HO A13 D13]
  · isplitr; · iexact HC
    isplitl [HO]; · iexact HO
    isplitl [A13]; · iexact A13
    iexact D13
  iintro ⟨HO, A13, D13⟩
  iapply (wp_sent_chunk m κ c 2 0 (sendS_eq 2 0 _ rfl _) xs_credit) $$ [HO A20 D20]
  · isplitr; · iexact HC
    isplitl [HO]; · iexact HO
    isplitl [A20]; · iexact A20
    iexact D20
  iintro ⟨HO, A20, D20⟩
  iapply (wp_sent_chunk m κ c 2 1 (sendS_eq 2 1 _ rfl _) xs_credit) $$ [HO A21 D21]
  · isplitr; · iexact HC
    isplitl [HO]; · iexact HO
    isplitl [A21]; · iexact A21
    iexact D21
  iintro ⟨HO, A21, D21⟩
  iapply (wp_sent_chunk m κ c 2 2 (sendS_eq 2 2 _ rfl _) xs_credit) $$ [HO A22 D22]
  · isplitr; · iexact HC
    isplitl [HO]; · iexact HO
    isplitl [A22]; · iexact A22
    iexact D22
  iintro ⟨HO, A22, D22⟩
  iapply (wp_sent_chunk m κ c 2 3 (sendS_eq 2 3 _ rfl _) xs_credit) $$ [HO A23 D23]
  · isplitr; · iexact HC
    isplitl [HO]; · iexact HO
    isplitl [A23]; · iexact A23
    iexact D23
  iintro ⟨HO, A23, D23⟩
  iapply (wp_done c _)
  iapply Hk
  isplitl [Ht]; · iexact Ht
  isplitl [HR]; · iexact HR
  isplitl [H2]; · iexact H2
  isplitl [H3]; · iexact H3
  isplitl [Ho]; · iexact Ho
  isplitl [HS]; · iexact HS
  isplitl [HO]; · iexact HO
  isplitl [A00 A01 A02 A03]
  · isplitl [A00]; · iexact A00
    isplitl [A01]; · iexact A01
    isplitl [A02]; · iexact A02
    iexact A03
  isplitl [D00 D01 D02 D03]
  · isplitl [D00]; · iexact D00
    isplitl [D01]; · iexact D01
    isplitl [D02]; · iexact D02
    iexact D03
  isplitl [A10 A11 A12 A13]
  · isplitl [A10]; · iexact A10
    isplitl [A11]; · iexact A11
    isplitl [A12]; · iexact A12
    iexact A13
  isplitl [D10 D11 D12 D13]
  · isplitl [D10]; · iexact D10
    isplitl [D11]; · iexact D11
    isplitl [D12]; · iexact D12
    iexact D13
  isplitl [A20 A21 A22 A23]
  · isplitl [A20]; · iexact A20
    isplitl [A21]; · iexact A21
    isplitl [A22]; · iexact A22
    iexact A23
  isplitl [D20]; · iexact D20
  isplitl [D21]; · iexact D21
  isplitl [D22]; · iexact D22
  iexact D23

end Points

end Cert.A2A

end
-- ==== Proof.Points.lean ====
/-
  The points put in order: what a device holds of the protocol before and after each grid point, and the body as one step
  from one to the next.
-/
module

public import proofs.«01_k».proof.Proof.Body

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def stage0 (c : Dev nD) : sProp 𝕄 :=
  iprop(start m c ∗ rPend c 0 ∗ rPend c 1 ∗ rPend c 2 ∗ sPos c 0 0 ∗ sPos c 1 0 ∗ sPos c 2 0)
def stage1 (c : Dev nD) : sProp 𝕄 :=
  iprop(ow c (Osend c 8) ∗ atPos ER (barCell c) 1 ∅ 0 ∗ slotPt m c c ∗ xKeep m c ∗ sDone c 0 ∗ sReady m c 1 ∗ sReady m c 2 ∗ rPend c 0 ∗ rPend c 1 ∗ rPend c 2 ∗ sPos c 0 0 ∗ sPos c 1 0 ∗ sPos c 2 0)
def stage2 (c : Dev nD) : sProp 𝕄 :=
  iprop(ow c (Osend c 4) ∗ atPos ER (barCell c) 1 ∅ 0 ∗ slotPt m c c ∗ xKeep m c ∗ sDone c 0 ∗ sDone c 1 ∗ sReady m c 2 ∗ rPend c 1 ∗ rPend c 2 ∗ rPos c 0 1 ∗ slotPt m c (src 0 c) ∗ sPos c 0 0 ∗ sPos c 1 0 ∗ sPos c 2 0)
def stage3 (c : Dev nD) : sProp 𝕄 :=
  iprop(ow c 0 ∗ atPos ER (barCell c) 1 ∅ 0 ∗ slotPt m c c ∗ xKeep m c ∗ sDone c 0 ∗ sDone c 1 ∗ sDone c 2 ∗ rPend c 2 ∗ rPos c 0 1 ∗ slotPt m c (src 0 c) ∗ rPos c 1 1 ∗ slotPt m c (src 1 c) ∗ sPos c 0 0 ∗ sPos c 1 0 ∗ sPos c 2 0)
def stage4 (c : Dev nD) : sProp 𝕄 :=
  iprop(ow c 0 ∗ atPos ER (barCell c) 1 ∅ 0 ∗ slotPt m c c ∗ xKeep m c ∗ sDone c 0 ∗ sDone c 1 ∗ sDone c 2 ∗ rPos c 0 1 ∗ slotPt m c (src 0 c) ∗ rPos c 1 1 ∗ slotPt m c (src 1 c) ∗ rPos c 2 1 ∗ slotPt m c (src 2 c) ∗ sPos c 0 0 ∗ sPos c 1 0 ∗ sPos c 2 0)
def stage5 (c : Dev nD) : sProp 𝕄 :=
  iprop(ow c 0 ∗ atPos ER (barCell c) 1 ∅ 0 ∗ slotPt m c c ∗ xKeep m c ∗ rPos c 0 1 ∗ slotPt m c (src 0 c) ∗ rPos c 1 1 ∗ slotPt m c (src 1 c) ∗ rPos c 2 1 ∗ slotPt m c (src 2 c) ∗ sPos c 0 1 ∗ sPos c 1 1 ∗ sPos c 2 1 ∗ sBack m c 0 ∗ sBack m c 1 ∗ sBack m c 2)
def stage (c : Dev nD) : ℕ → sProp 𝕄
  | 0 => stage0 m c
  | 1 => stage1 m c
  | 2 => stage2 m c
  | 3 => stage3 m c
  | 4 => stage4 m c
  | _ => stage5 m c

section Points
variable (κ : GSem nD τ sig → ℕ) (c : Dev nD)

/-- The body at point i, with w the block of the weights under R: from A and the result so far, to B and the new result. -/
def StepAt (i : grid0.Coords) (wM : Memref sig .tc .vmem S1024x1024 .fp8e5m2) (hwM : wM.IsWhole) (w : Vec F S1024x1024 .fp8e5m2) (R : sProp 𝕄)
    (tv : (⟨S4, .i32⟩ : BufTy).Contents (Elt F)) (s2 s3 : Elt F .f32) (kb : Fin 4) (n : Fin 8) (A B : sProp 𝕄) : Prop :=
  ∀ (Q : PUnit → sProp 𝕄) (o : OBuf F),
    iprop(Ctx m κ ∗ tabPt c tv ∗ R ∗ scPt2 c s2 ∗ scPt3 c s3 ∗ oPt c o ∗ A)
      ⊢ iprop((tabPt c tv ∗ R ∗ scPt2 c s2 ∗ scPt3 c s3 ∗ oPt c (pointStep m c kb n s2 s3 w o) ∗ B -∗ Q ⟨⟩)
        -∗ WP c (cc0_body i (Memref.whole main_v7) (Memref.isWhole_whole _) xM (Memref.isWhole_whole _) wM hwM (Memref.whole cc0_stg2_0) (Memref.isWhole_whole _)
            (Memref.whole cc0_stg3_0) (Memref.isWhole_whole _) oM (Memref.isWhole_whole _) cM (Memref.isWhole_whole _) cc0_scratch1 cc0_scratch2) Q)

variable {m κ c} in
theorem StepAt.around {i : grid0.Coords} {wM : Memref sig .tc .vmem S1024x1024 .fp8e5m2} {hwM : wM.IsWhole} {w : Vec F S1024x1024 .fp8e5m2} {R : sProp 𝕄}
    {tv : (⟨S4, .i32⟩ : BufTy).Contents (Elt F)} {s2 s3 : Elt F .f32} {kb : Fin 4} {n : Fin 8} {A B A' B' : sProp 𝕄} (X : sProp 𝕄)
    (h : StepAt m κ c i wM hwM w R tv s2 s3 kb n A B) (hA : A' ⊢ iprop(A ∗ X)) (hB : iprop(B ∗ X) ⊢ B') :
    StepAt m κ c i wM hwM w R tv s2 s3 kb n A' B' := by
  intro Q o
  iintro ⟨#HC, Ht, HR, H2, H3, Ho, HA⟩ Hk
  icases hA $$ HA with ⟨HA, HX⟩
  iapply (h Q o) $$ [Ht HR H2 H3 Ho HA]
  · isplitr; · iexact HC
    isplitl [Ht]; · iexact Ht
    isplitl [HR]; · iexact HR
    isplitl [H2]; · iexact H2
    isplitl [H3]; · iexact H3
    isplitl [Ho]; · iexact Ho
    iexact HA
  iintro ⟨Ht, HR, H2, H3, Ho, HB⟩
  iapply Hk
  isplitl [Ht]; · iexact Ht
  isplitl [HR]; · iexact HR
  isplitl [H2]; · iexact H2
  isplitl [H3]; · iexact H3
  isplitl [Ho]; · iexact Ho
  iapply hB
  isplitl [HB]; · iexact HB
  iexact HX

theorem open1_in : stage1 m c ⊢ iprop((ow c (Osend c 8) ∗ sReady m c 1 ∗ rPend c 0) ∗ atPos ER (barCell c) 1 ∅ 0 ∗ slotPt m c c ∗ xKeep m c ∗ sDone c 0 ∗ sReady m c 2 ∗ rPend c 1 ∗ rPend c 2 ∗ sPos c 0 0 ∗ sPos c 1 0 ∗ sPos c 2 0) := by
  unfold stage1
  iintro ⟨O8, B, S, X, D0, K1, K2, P0, P1, P2, A0, A1, A2⟩
  isplitl [O8 K1 P0]
  · isplitl [O8]; · iexact O8
    isplitl [K1]; · iexact K1
    iexact P0
  isplitl [B]; · iexact B
  isplitl [S]; · iexact S
  isplitl [X]; · iexact X
  isplitl [D0]; · iexact D0
  isplitl [K2]; · iexact K2
  isplitl [P1]; · iexact P1
  isplitl [P2]; · iexact P2
  isplitl [A0]; · iexact A0
  isplitl [A1]; · iexact A1
  iexact A2
theorem open1_out : iprop((ow c (Osend c 4) ∗ sDone c 1 ∗ rPos c 0 1 ∗ slotPt m c (src 0 c)) ∗ atPos ER (barCell c) 1 ∅ 0 ∗ slotPt m c c ∗ xKeep m c ∗ sDone c 0 ∗ sReady m c 2 ∗ rPend c 1 ∗ rPend c 2 ∗ sPos c 0 0 ∗ sPos c 1 0 ∗ sPos c 2 0) ⊢ stage2 m c := by
  unfold stage2
  iintro ⟨⟨O4, D1, R0, T0⟩, B, S, X, D0, K2, P1, P2, A0, A1, A2⟩
  isplitl [O4]; · iexact O4
  isplitl [B]; · iexact B
  isplitl [S]; · iexact S
  isplitl [X]; · iexact X
  isplitl [D0]; · iexact D0
  isplitl [D1]; · iexact D1
  isplitl [K2]; · iexact K2
  isplitl [P1]; · iexact P1
  isplitl [P2]; · iexact P2
  isplitl [R0]; · iexact R0
  isplitl [T0]; · iexact T0
  isplitl [A0]; · iexact A0
  isplitl [A1]; · iexact A1
  iexact A2
theorem open2_in : stage2 m c ⊢ iprop((ow c (Osend c 4) ∗ sReady m c 2 ∗ rPend c 1) ∗ atPos ER (barCell c) 1 ∅ 0 ∗ slotPt m c c ∗ xKeep m c ∗ sDone c 0 ∗ sDone c 1 ∗ rPend c 2 ∗ rPos c 0 1 ∗ slotPt m c (src 0 c) ∗ sPos c 0 0 ∗ sPos c 1 0 ∗ sPos c 2 0) := by
  unfold stage2
  iintro ⟨O4, B, S, X, D0, D1, K2, P1, P2, R0, T0, A0, A1, A2⟩
  isplitl [O4 K2 P1]
  · isplitl [O4]; · iexact O4
    isplitl [K2]; · iexact K2
    iexact P1
  isplitl [B]; · iexact B
  isplitl [S]; · iexact S
  isplitl [X]; · iexact X
  isplitl [D0]; · iexact D0
  isplitl [D1]; · iexact D1
  isplitl [P2]; · iexact P2
  isplitl [R0]; · iexact R0
  isplitl [T0]; · iexact T0
  isplitl [A0]; · iexact A0
  isplitl [A1]; · iexact A1
  iexact A2
theorem open2_out : iprop((ow c 0 ∗ sDone c 2 ∗ rPos c 1 1 ∗ slotPt m c (src 1 c)) ∗ atPos ER (barCell c) 1 ∅ 0 ∗ slotPt m c c ∗ xKeep m c ∗ sDone c 0 ∗ sDone c 1 ∗ rPend c 2 ∗ rPos c 0 1 ∗ slotPt m c (src 0 c) ∗ sPos c 0 0 ∗ sPos c 1 0 ∗ sPos c 2 0) ⊢ stage3 m c := by
  unfold stage3
  iintro ⟨⟨O0, D2, R1, T1⟩, B, S, X, D0, D1, P2, R0, T0, A0, A1, A2⟩
  isplitl [O0]; · iexact O0
  isplitl [B]; · iexact B
  isplitl [S]; · iexact S
  isplitl [X]; · iexact X
  isplitl [D0]; · iexact D0
  isplitl [D1]; · iexact D1
  isplitl [D2]; · iexact D2
  isplitl [P2]; · iexact P2
  isplitl [R0]; · iexact R0
  isplitl [T0]; · iexact T0
  isplitl [R1]; · iexact R1
  isplitl [T1]; · iexact T1
  isplitl [A0]; · iexact A0
  isplitl [A1]; · iexact A1
  iexact A2
theorem open3_in : stage3 m c ⊢ iprop((ow c 0 ∗ rPend c 2) ∗ atPos ER (barCell c) 1 ∅ 0 ∗ slotPt m c c ∗ xKeep m c ∗ sDone c 0 ∗ sDone c 1 ∗ sDone c 2 ∗ rPos c 0 1 ∗ slotPt m c (src 0 c) ∗ rPos c 1 1 ∗ slotPt m c (src 1 c) ∗ sPos c 0 0 ∗ sPos c 1 0 ∗ sPos c 2 0) := by
  unfold stage3
  iintro ⟨O0, B, S, X, D0, D1, D2, P2, R0, T0, R1, T1, A0, A1, A2⟩
  isplitl [O0 P2]
  · isplitl [O0]; · iexact O0
    iexact P2
  isplitl [B]; · iexact B
  isplitl [S]; · iexact S
  isplitl [X]; · iexact X
  isplitl [D0]; · iexact D0
  isplitl [D1]; · iexact D1
  isplitl [D2]; · iexact D2
  isplitl [R0]; · iexact R0
  isplitl [T0]; · iexact T0
  isplitl [R1]; · iexact R1
  isplitl [T1]; · iexact T1
  isplitl [A0]; · iexact A0
  isplitl [A1]; · iexact A1
  iexact A2
theorem open3_out : iprop((ow c 0 ∗ rPos c 2 1 ∗ slotPt m c (src 2 c)) ∗ atPos ER (barCell c) 1 ∅ 0 ∗ slotPt m c c ∗ xKeep m c ∗ sDone c 0 ∗ sDone c 1 ∗ sDone c 2 ∗ rPos c 0 1 ∗ slotPt m c (src 0 c) ∗ rPos c 1 1 ∗ slotPt m c (src 1 c) ∗ sPos c 0 0 ∗ sPos c 1 0 ∗ sPos c 2 0) ⊢ stage4 m c := by
  unfold stage4
  iintro ⟨⟨O0, R2, T2⟩, B, S, X, D0, D1, D2, R0, T0, R1, T1, A0, A1, A2⟩
  isplitl [O0]; · iexact O0
  isplitl [B]; · iexact B
  isplitl [S]; · iexact S
  isplitl [X]; · iexact X
  isplitl [D0]; · iexact D0
  isplitl [D1]; · iexact D1
  isplitl [D2]; · iexact D2
  isplitl [R0]; · iexact R0
  isplitl [T0]; · iexact T0
  isplitl [R1]; · iexact R1
  isplitl [T1]; · iexact T1
  isplitl [R2]; · iexact R2
  isplitl [T2]; · iexact T2
  isplitl [A0]; · iexact A0
  isplitl [A1]; · iexact A1
  iexact A2
theorem keep0_in : stage1 m c ⊢ iprop((slotPt m c c) ∗ ow c (Osend c 8) ∗ atPos ER (barCell c) 1 ∅ 0 ∗ xKeep m c ∗ sDone c 0 ∗ sReady m c 1 ∗ sReady m c 2 ∗ rPend c 0 ∗ rPend c 1 ∗ rPend c 2 ∗ sPos c 0 0 ∗ sPos c 1 0 ∗ sPos c 2 0) := by
  unfold stage1
  iintro ⟨O8, B, S, X, D0, K1, K2, P0, P1, P2, A0, A1, A2⟩
  isplitl [S]
  · iexact S
  isplitl [O8]; · iexact O8
  isplitl [B]; · iexact B
  isplitl [X]; · iexact X
  isplitl [D0]; · iexact D0
  isplitl [K1]; · iexact K1
  isplitl [K2]; · iexact K2
  isplitl [P0]; · iexact P0
  isplitl [P1]; · iexact P1
  isplitl [P2]; · iexact P2
  isplitl [A0]; · iexact A0
  isplitl [A1]; · iexact A1
  iexact A2
theorem keep0_out : iprop((slotPt m c c) ∗ ow c (Osend c 8) ∗ atPos ER (barCell c) 1 ∅ 0 ∗ xKeep m c ∗ sDone c 0 ∗ sReady m c 1 ∗ sReady m c 2 ∗ rPend c 0 ∗ rPend c 1 ∗ rPend c 2 ∗ sPos c 0 0 ∗ sPos c 1 0 ∗ sPos c 2 0) ⊢ stage1 m c := by
  unfold stage1
  iintro ⟨S, O8, B, X, D0, K1, K2, P0, P1, P2, A0, A1, A2⟩
  isplitl [O8]; · iexact O8
  isplitl [B]; · iexact B
  isplitl [S]; · iexact S
  isplitl [X]; · iexact X
  isplitl [D0]; · iexact D0
  isplitl [K1]; · iexact K1
  isplitl [K2]; · iexact K2
  isplitl [P0]; · iexact P0
  isplitl [P1]; · iexact P1
  isplitl [P2]; · iexact P2
  isplitl [A0]; · iexact A0
  isplitl [A1]; · iexact A1
  iexact A2
theorem keep1_in : stage2 m c ⊢ iprop((slotPt m c (src 0 c)) ∗ ow c (Osend c 4) ∗ atPos ER (barCell c) 1 ∅ 0 ∗ slotPt m c c ∗ xKeep m c ∗ sDone c 0 ∗ sDone c 1 ∗ sReady m c 2 ∗ rPend c 1 ∗ rPend c 2 ∗ rPos c 0 1 ∗ sPos c 0 0 ∗ sPos c 1 0 ∗ sPos c 2 0) := by
  unfold stage2
  iintro ⟨O4, B, S, X, D0, D1, K2, P1, P2, R0, T0, A0, A1, A2⟩
  isplitl [T0]
  · iexact T0
  isplitl [O4]; · iexact O4
  isplitl [B]; · iexact B
  isplitl [S]; · iexact S
  isplitl [X]; · iexact X
  isplitl [D0]; · iexact D0
  isplitl [D1]; · iexact D1
  isplitl [K2]; · iexact K2
  isplitl [P1]; · iexact P1
  isplitl [P2]; · iexact P2
  isplitl [R0]; · iexact R0
  isplitl [A0]; · iexact A0
  isplitl [A1]; · iexact A1
  iexact A2
theorem keep1_out : iprop((slotPt m c (src 0 c)) ∗ ow c (Osend c 4) ∗ atPos ER (barCell c) 1 ∅ 0 ∗ slotPt m c c ∗ xKeep m c ∗ sDone c 0 ∗ sDone c 1 ∗ sReady m c 2 ∗ rPend c 1 ∗ rPend c 2 ∗ rPos c 0 1 ∗ sPos c 0 0 ∗ sPos c 1 0 ∗ sPos c 2 0) ⊢ stage2 m c := by
  unfold stage2
  iintro ⟨T0, O4, B, S, X, D0, D1, K2, P1, P2, R0, A0, A1, A2⟩
  isplitl [O4]; · iexact O4
  isplitl [B]; · iexact B
  isplitl [S]; · iexact S
  isplitl [X]; · iexact X
  isplitl [D0]; · iexact D0
  isplitl [D1]; · iexact D1
  isplitl [K2]; · iexact K2
  isplitl [P1]; · iexact P1
  isplitl [P2]; · iexact P2
  isplitl [R0]; · iexact R0
  isplitl [T0]; · iexact T0
  isplitl [A0]; · iexact A0
  isplitl [A1]; · iexact A1
  iexact A2
theorem keep2_in : stage3 m c ⊢ iprop((slotPt m c (src 1 c)) ∗ ow c 0 ∗ atPos ER (barCell c) 1 ∅ 0 ∗ slotPt m c c ∗ xKeep m c ∗ sDone c 0 ∗ sDone c 1 ∗ sDone c 2 ∗ rPend c 2 ∗ rPos c 0 1 ∗ slotPt m c (src 0 c) ∗ rPos c 1 1 ∗ sPos c 0 0 ∗ sPos c 1 0 ∗ sPos c 2 0) := by
  unfold stage3
  iintro ⟨O0, B, S, X, D0, D1, D2, P2, R0, T0, R1, T1, A0, A1, A2⟩
  isplitl [T1]
  · iexact T1
  isplitl [O0]; · iexact O0
  isplitl [B]; · iexact B
  isplitl [S]; · iexact S
  isplitl [X]; · iexact X
  isplitl [D0]; · iexact D0
  isplitl [D1]; · iexact D1
  isplitl [D2]; · iexact D2
  isplitl [P2]; · iexact P2
  isplitl [R0]; · iexact R0
  isplitl [T0]; · iexact T0
  isplitl [R1]; · iexact R1
  isplitl [A0]; · iexact A0
  isplitl [A1]; · iexact A1
  iexact A2
theorem keep2_out : iprop((slotPt m c (src 1 c)) ∗ ow c 0 ∗ atPos ER (barCell c) 1 ∅ 0 ∗ slotPt m c c ∗ xKeep m c ∗ sDone c 0 ∗ sDone c 1 ∗ sDone c 2 ∗ rPend c 2 ∗ rPos c 0 1 ∗ slotPt m c (src 0 c) ∗ rPos c 1 1 ∗ sPos c 0 0 ∗ sPos c 1 0 ∗ sPos c 2 0) ⊢ stage3 m c := by
  unfold stage3
  iintro ⟨T1, O0, B, S, X, D0, D1, D2, P2, R0, T0, R1, A0, A1, A2⟩
  isplitl [O0]; · iexact O0
  isplitl [B]; · iexact B
  isplitl [S]; · iexact S
  isplitl [X]; · iexact X
  isplitl [D0]; · iexact D0
  isplitl [D1]; · iexact D1
  isplitl [D2]; · iexact D2
  isplitl [P2]; · iexact P2
  isplitl [R0]; · iexact R0
  isplitl [T0]; · iexact T0
  isplitl [R1]; · iexact R1
  isplitl [T1]; · iexact T1
  isplitl [A0]; · iexact A0
  isplitl [A1]; · iexact A1
  iexact A2
theorem keep3_in : stage4 m c ⊢ iprop((slotPt m c (src 2 c)) ∗ ow c 0 ∗ atPos ER (barCell c) 1 ∅ 0 ∗ slotPt m c c ∗ xKeep m c ∗ sDone c 0 ∗ sDone c 1 ∗ sDone c 2 ∗ rPos c 0 1 ∗ slotPt m c (src 0 c) ∗ rPos c 1 1 ∗ slotPt m c (src 1 c) ∗ rPos c 2 1 ∗ sPos c 0 0 ∗ sPos c 1 0 ∗ sPos c 2 0) := by
  unfold stage4
  iintro ⟨O0, B, S, X, D0, D1, D2, R0, T0, R1, T1, R2, T2, A0, A1, A2⟩
  isplitl [T2]
  · iexact T2
  isplitl [O0]; · iexact O0
  isplitl [B]; · iexact B
  isplitl [S]; · iexact S
  isplitl [X]; · iexact X
  isplitl [D0]; · iexact D0
  isplitl [D1]; · iexact D1
  isplitl [D2]; · iexact D2
  isplitl [R0]; · iexact R0
  isplitl [T0]; · iexact T0
  isplitl [R1]; · iexact R1
  isplitl [T1]; · iexact T1
  isplitl [R2]; · iexact R2
  isplitl [A0]; · iexact A0
  isplitl [A1]; · iexact A1
  iexact A2
theorem keep3_out : iprop((slotPt m c (src 2 c)) ∗ ow c 0 ∗ atPos ER (barCell c) 1 ∅ 0 ∗ slotPt m c c ∗ xKeep m c ∗ sDone c 0 ∗ sDone c 1 ∗ sDone c 2 ∗ rPos c 0 1 ∗ slotPt m c (src 0 c) ∗ rPos c 1 1 ∗ slotPt m c (src 1 c) ∗ rPos c 2 1 ∗ sPos c 0 0 ∗ sPos c 1 0 ∗ sPos c 2 0) ⊢ stage4 m c := by
  unfold stage4
  iintro ⟨T2, O0, B, S, X, D0, D1, D2, R0, T0, R1, T1, R2, A0, A1, A2⟩
  isplitl [O0]; · iexact O0
  isplitl [B]; · iexact B
  isplitl [S]; · iexact S
  isplitl [X]; · iexact X
  isplitl [D0]; · iexact D0
  isplitl [D1]; · iexact D1
  isplitl [D2]; · iexact D2
  isplitl [R0]; · iexact R0
  isplitl [T0]; · iexact T0
  isplitl [R1]; · iexact R1
  isplitl [T1]; · iexact T1
  isplitl [R2]; · iexact R2
  isplitl [T2]; · iexact T2
  isplitl [A0]; · iexact A0
  isplitl [A1]; · iexact A1
  iexact A2
theorem last_in : stage4 m c ⊢ iprop((slotPt m c (src 2 c) ∗ ow c 0 ∗ sPos c 0 0 ∗ sDone c 0 ∗ sPos c 1 0 ∗ sDone c 1 ∗ sPos c 2 0 ∗ sDone c 2) ∗ atPos ER (barCell c) 1 ∅ 0 ∗ slotPt m c c ∗ xKeep m c ∗ rPos c 0 1 ∗ slotPt m c (src 0 c) ∗ rPos c 1 1 ∗ slotPt m c (src 1 c) ∗ rPos c 2 1) := by
  unfold stage4
  iintro ⟨O0, B, S, X, D0, D1, D2, R0, T0, R1, T1, R2, T2, A0, A1, A2⟩
  isplitl [T2 O0 A0 D0 A1 D1 A2 D2]
  · isplitl [T2]; · iexact T2
    isplitl [O0]; · iexact O0
    isplitl [A0]; · iexact A0
    isplitl [D0]; · iexact D0
    isplitl [A1]; · iexact A1
    isplitl [D1]; · iexact D1
    isplitl [A2]; · iexact A2
    iexact D2
  isplitl [B]; · iexact B
  isplitl [S]; · iexact S
  isplitl [X]; · iexact X
  isplitl [R0]; · iexact R0
  isplitl [T0]; · iexact T0
  isplitl [R1]; · iexact R1
  isplitl [T1]; · iexact T1
  iexact R2
theorem last_out : iprop((slotPt m c (src 2 c) ∗ ow c 0 ∗ sPos c 0 1 ∗ sBack m c 0 ∗ sPos c 1 1 ∗ sBack m c 1 ∗ sPos c 2 1 ∗ sBack m c 2) ∗ atPos ER (barCell c) 1 ∅ 0 ∗ slotPt m c c ∗ xKeep m c ∗ rPos c 0 1 ∗ slotPt m c (src 0 c) ∗ rPos c 1 1 ∗ slotPt m c (src 1 c) ∗ rPos c 2 1) ⊢ stage5 m c := by
  unfold stage5
  iintro ⟨⟨T2, O0, Z0, Y0, Z1, Y1, Z2, Y2⟩, B, S, X, R0, T0, R1, T1, R2⟩
  isplitl [O0]; · iexact O0
  isplitl [B]; · iexact B
  isplitl [S]; · iexact S
  isplitl [X]; · iexact X
  isplitl [R0]; · iexact R0
  isplitl [T0]; · iexact T0
  isplitl [R1]; · iexact R1
  isplitl [T1]; · iexact T1
  isplitl [R2]; · iexact R2
  isplitl [T2]; · iexact T2
  isplitl [Z0]; · iexact Z0
  isplitl [Z1]; · iexact Z1
  isplitl [Z2]; · iexact Z2
  isplitl [Y0]; · iexact Y0
  isplitl [Y1]; · iexact Y1
  iexact Y2
theorem open0_in : stage0 m c ⊢ iprop(start m c ∗ rPend c 0 ∗ rPend c 1 ∗ rPend c 2 ∗ sPos c 0 0 ∗ sPos c 1 0 ∗ sPos c 2 0) := Entails.of_eq rfl
theorem open0_out : iprop(opened m c ∗ rPend c 0 ∗ rPend c 1 ∗ rPend c 2 ∗ sPos c 0 0 ∗ sPos c 1 0 ∗ sPos c 2 0) ⊢ stage1 m c := by
  unfold stage1 opened
  iintro ⟨⟨O8, B, S, X, D0, K1, K2⟩, P0, P1, P2, A0, A1, A2⟩
  isplitl [O8]; · iexact O8
  isplitl [B]; · iexact B
  isplitl [S]; · iexact S
  isplitl [X]; · iexact X
  isplitl [D0]; · iexact D0
  isplitl [K1]; · iexact K1
  isplitl [K2]; · iexact K2
  isplitl [P0]; · iexact P0
  isplitl [P1]; · iexact P1
  isplitl [P2]; · iexact P2
  isplitl [A0]; · iexact A0
  isplitl [A1]; · iexact A1
  iexact A2

theorem point_all (i : grid0.Coords) (wM : Memref sig .tc .vmem S1024x1024 .fp8e5m2) (hwM : wM.IsWhole) (w : Vec F S1024x1024 .fp8e5m2) (R : sProp 𝕄) (hW : Loads c wM w R)
    (tv : (⟨S4, .i32⟩ : BufTy).Contents (Elt F)) (ht : TabOk c tv) (s2 s3 : Elt F .f32) :
    StepAt m κ c i wM hwM w R tv s2 s3 (i 0) (i 1) (stage m c (if (i 1).val = 0 then (i 0).val else (i 0).val + 1))
      (stage m c (if (i 0).val = 3 ∧ (i 1).val = 7 then 5 else (i 0).val + 1)) := by
  have hk : (i 0).val < 4 := (i 0).isLt
  have hn : (i 1).val < 8 := (i 1).isLt
  obtain ⟨kb, hkb⟩ : ∃ kb : Fin 4, (i 0) = kb := ⟨_, rfl⟩
  obtain ⟨n, hnn⟩ : ∃ n : Fin 8, (i 1) = n := ⟨_, rfl⟩
  have e0 : (i 0).val = kb.val := congrArg Fin.val hkb
  have e1 : (i 1).val = n.val := congrArg Fin.val hnn
  rw [e0, e1]
  have goal : StepAt m κ c i wM hwM w R tv s2 s3 kb n (stage m c (if n.val = 0 then kb.val else kb.val + 1)) (stage m c (if kb.val = 3 ∧ n.val = 7 then 5 else kb.val + 1)) := by
    by_cases hn0 : n = 0
    · subst hn0
      match kb, e0 with
      | 0, e0 => exact StepAt.around _ (fun Q o => point0 m κ c i e0 e1 wM hwM w R hW tv ht s2 s3 o) (open0_in m c) (open0_out m c)
      | 1, e0 => exact StepAt.around _ (fun Q o => point1 m κ c i e0 e1 wM hwM w R hW tv ht s2 s3 o) (open1_in m c) (open1_out m c)
      | 2, e0 => exact StepAt.around _ (fun Q o => point2 m κ c i e0 e1 wM hwM w R hW tv ht s2 s3 o) (open2_in m c) (open2_out m c)
      | 3, e0 => exact StepAt.around _ (fun Q o => point3 m κ c i e0 e1 wM hwM w R hW tv ht s2 s3 o) (open3_in m c) (open3_out m c)
    · have hv : n.val ≠ 0 := fun h => hn0 (Fin.ext h)
      rw [if_neg hv]
      match kb, e0 with
      | 0, e0 => exact StepAt.around _ (fun Q o => pointOther0 m κ c i n hn0 e0 e1 wM hwM w R hW tv ht s2 s3 o) (keep0_in m c) (keep0_out m c)
      | 1, e0 => exact StepAt.around _ (fun Q o => pointOtherm m κ c i 1 (by decide) (by decide) n hn0 e0 e1 wM hwM w R hW tv ht s2 s3 o) (keep1_in m c) (keep1_out m c)
      | 2, e0 => exact StepAt.around _ (fun Q o => pointOtherm m κ c i 2 (by decide) (by decide) n hn0 e0 e1 wM hwM w R hW tv ht s2 s3 o) (keep2_in m c) (keep2_out m c)
      | 3, e0 =>
        by_cases h7 : n = 7
        · subst h7
          exact StepAt.around _ (fun Q o => pointLast m κ c i e0 e1 wM hwM w R hW tv ht s2 s3 o) (last_in m c) (last_out m c)
        · have h7v : n.val ≠ 7 := fun h => h7 (Fin.ext h)
          rw [if_neg (fun h => h7v h.2)]
          exact StepAt.around _ (fun Q o => pointOther3 m κ c i n hn0 h7 e0 e1 wM hwM w R hW tv ht s2 s3 o) (keep3_in m c) (keep3_out m c)
  rw [hkb, hnn]
  exact goal
end Points

end Cert.A2A

end
-- ==== Proof.Iter.lean ====
/-
  The iterations of the staged loop, unrolled: which window moves when, and which buffer of the weights is current.
-/
module

public import proofs.«01_k».proof.Proof.Points

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The grid's points -/

theorem co_0 (t : Fin grid0.N) : (grid0.coords t 0).val = t.val / 8 := by
  have ht : t.val < 32 := N_0 ▸ t.isLt
  rw [Pipeline.Grid.coords_val t 0 (S := 8) (B := 4) (by decide) rfl]; omega
theorem co_1 (t : Fin grid0.N) : (grid0.coords t 1).val = t.val % 8 := by
  rw [Pipeline.Grid.coords_val t 1 (S := 1) (B := 8) (by decide) rfl]; simp

abbrev Ad (F : FTy → Type) [FloatOps F] := (pcfg0 (F := F)).Adm
variable (a : Ad F)

theorem ix_0 (t : Fin grid0.N) : ((cfg0 a).win 0).index t = ![0, 0] := rfl
theorem ix_2 (t : Fin grid0.N) : ((cfg0 a).win 2).index t = ![0] := rfl
theorem ix_3 (t : Fin grid0.N) : ((cfg0 a).win 3).index t = ![0] := rfl
theorem ix_4 (t : Fin grid0.N) : ((cfg0 a).win 4).index t = ![0, 0] := rfl
theorem ix_1 (t : Fin grid0.N) : ((cfg0 a).win 1).index t (1 : Fin 2) = t.val % 8 := by
  show (BitVec.ofNat 32 (grid0.coords t 1).val).toNat = _
  rw [co_1, BitVec.toNat_ofNat]; omega

theorem fe_0 (t : Fin grid0.N) : ((cfg0 a).win 0).fetch t = decide (t.val = 0) := by
  rw [Bool.eq_iff_iff, Pipeline.Window.fetch_in _ rfl, decide_eq_true_iff]
  exact ⟨fun h => h.resolve_right (fun ⟨_, h⟩ => h rfl), Or.inl⟩
theorem fe_2 (t : Fin grid0.N) : ((cfg0 a).win 2).fetch t = decide (t.val = 0) := by
  rw [Bool.eq_iff_iff, Pipeline.Window.fetch_in _ rfl, decide_eq_true_iff]
  exact ⟨fun h => h.resolve_right (fun ⟨_, h⟩ => h rfl), Or.inl⟩
theorem fe_3 (t : Fin grid0.N) : ((cfg0 a).win 3).fetch t = decide (t.val = 0) := by
  rw [Bool.eq_iff_iff, Pipeline.Window.fetch_in _ rfl, decide_eq_true_iff]
  exact ⟨fun h => h.resolve_right (fun ⟨_, h⟩ => h rfl), Or.inl⟩
theorem fe_4 (t : Fin grid0.N) : ((cfg0 a).win 4).fetch t = false := Pipeline.Window.fetch_out _ rfl t
theorem fe_1 (t : Fin grid0.N) : ((cfg0 a).win 1).fetch t = true := by
  rw [Pipeline.Window.fetch_in _ rfl]
  by_cases h : t.val = 0
  · exact .inl h
  · refine .inr ⟨by omega, fun he => ?_⟩
    have e := congrFun he (1 : Fin 2)
    rw [ix_1, ix_1] at e
    dsimp only at e
    omega
theorem fl_0 (t : Fin grid0.N) : ((cfg0 a).win 0).flush t = false := Pipeline.Window.flush_in _ rfl t
theorem fl_1 (t : Fin grid0.N) : ((cfg0 a).win 1).flush t = false := Pipeline.Window.flush_in _ rfl t
theorem fl_2 (t : Fin grid0.N) : ((cfg0 a).win 2).flush t = false := Pipeline.Window.flush_in _ rfl t
theorem fl_3 (t : Fin grid0.N) : ((cfg0 a).win 3).flush t = false := Pipeline.Window.flush_in _ rfl t
theorem fl_4 (t : Fin grid0.N) : ((cfg0 a).win 4).flush t = decide (t.val = 31) := by
  rw [Bool.eq_iff_iff, Pipeline.Window.flush_out _ rfl, decide_eq_true_iff]
  have hN : (cfg0 a).grid.N = 32 := N_0
  exact ⟨fun h => h.elim (fun h => by omega) (fun ⟨_, h⟩ => absurd rfl h), fun h => .inl (by omega)⟩
theorem si_0 : ((cfg0 a).win 0).single = true := rfl
theorem si_1 : ((cfg0 a).win 1).single = false := rfl
theorem si_2 : ((cfg0 a).win 2).single = true := rfl
theorem si_3 : ((cfg0 a).win 3).single = true := rfl
theorem si_4 : ((cfg0 a).win 4).single = true := rfl

/-- The buffer of window 1 at point t: the two by turns. -/
def sl (t : ℕ) : Fin 2 := ⟨t % 2, Nat.mod_lt _ (by decide)⟩
theorem slot_1 (t : ℕ) (ht : t < grid0.N) : ((cfg0 a).win 1).slot t ht = sl t := by
  induction t with
  | zero => rfl
  | succ t ih =>
    rw [Pipeline.Window.slot_succ_in _ rfl rfl t ht, fe_1, if_pos rfl, ih]
    apply Fin.ext
    show (t % 2 + 1) % 2 = (t + 1) % 2
    omega

theorem pro : (cfg0 a).prologue = 1 := by
  have h : (cfg0 a).hasInput = true := decide_eq_true ⟨(0 : Fin 5), rfl⟩
  unfold Pipeline.Cfg.prologue
  rw [h, if_pos rfl]
theorem epi : (cfg0 a).epilogue = 1 := by
  have h : (cfg0 a).hasOutput = true := decide_eq_true ⟨(4 : Fin 5), rfl⟩
  unfold Pipeline.Cfg.epilogue
  rw [h, if_pos rfl]
theorem trip : (cfg0 a).tripCount = 34 := by
  show grid0.N + _ + _ = 34
  rw [N_0, pro, epi]

/-! ## The iterations, one window at a time -/

abbrev PP (F : FTy → Type) [FloatOps F] := Prog (TpuEff nD τ sig (Elt F) (Pipeline.Sig Λ₀ (Fin 1) fun p => (pcfgs (F := F) p).Adm) Proc.tc) PUnit

theorem eachWin_of (p : Fin 5 → Bool) (f : Fin 5 → PP F → PP F) (k : PP F) {b0 b1 b2 b3 b4 : Bool}
    (h0 : p 0 = b0) (h1 : p 1 = b1) (h2 : p 2 = b2) (h3 : p 3 = b3) (h4 : p 4 = b4) :
    (cfg0 a).eachWin p f k = cond b0 (f 0) id (cond b1 (f 1) id (cond b2 (f 2) id (cond b3 (f 3) id (cond b4 (f 4) id k)))) := by
  have e : (cfg0 a).eachWin p f k = (if p 0 then f 0 (if p 1 then f 1 (if p 2 then f 2 (if p 3 then f 3 (if p 4 then f 4 k else k) else (if p 4 then f 4 k else k)) else (if p 3 then f 3 (if p 4 then f 4 k else k) else (if p 4 then f 4 k else k))) else (if p 2 then f 2 (if p 3 then f 3 (if p 4 then f 4 k else k) else (if p 4 then f 4 k else k)) else (if p 3 then f 3 (if p 4 then f 4 k else k) else (if p 4 then f 4 k else k)))) else (if p 1 then f 1 (if p 2 then f 2 (if p 3 then f 3 (if p 4 then f 4 k else k) else (if p 4 then f 4 k else k)) else (if p 3 then f 3 (if p 4 then f 4 k else k) else (if p 4 then f 4 k else k))) else (if p 2 then f 2 (if p 3 then f 3 (if p 4 then f 4 k else k) else (if p 4 then f 4 k else k)) else (if p 3 then f 3 (if p 4 then f 4 k else k) else (if p 4 then f 4 k else k))))) := rfl
  rw [e, h0, h1, h2, h3, h4]
  cases b0 <;> cases b1 <;> cases b2 <;> cases b3 <;> cases b4 <;> rfl

section Each
variable (u : Fin grid0.N) (f : Fin 5 → PP F → PP F) (k : PP F)
theorem each_single (hu : u.val = 0) : (cfg0 a).eachWin (fun w => ((cfg0 a).win w).single && ((cfg0 a).win w).fetch u) f k = f 0 (f 2 (f 3 k)) :=
  eachWin_of a _ f k (b0 := true) (b1 := false) (b2 := true) (b3 := true) (b4 := false)
    (by rw [fe_0, hu]; rfl) rfl (by rw [fe_2, hu]; rfl) (by rw [fe_3, hu]; rfl) (by rw [fe_4]; rfl)
theorem each_single' (hu : u.val ≠ 0) : (cfg0 a).eachWin (fun w => ((cfg0 a).win w).single && ((cfg0 a).win w).fetch u) f k = k :=
  eachWin_of a _ f k (b0 := false) (b1 := false) (b2 := false) (b3 := false) (b4 := false)
    (by rw [fe_0, decide_eq_false hu]; rfl) rfl (by rw [fe_2, decide_eq_false hu]; rfl) (by rw [fe_3, decide_eq_false hu]; rfl) (by rw [fe_4]; rfl)
theorem each_double : (cfg0 a).eachWin (fun w => !((cfg0 a).win w).single && ((cfg0 a).win w).fetch u) f k = f 1 k :=
  eachWin_of a _ f k (b0 := false) (b1 := true) (b2 := false) (b3 := false) (b4 := false)
    rfl (by rw [fe_1]; rfl) rfl rfl rfl
theorem each_fetch (hu : u.val = 0) : (cfg0 a).eachWin (fun w => ((cfg0 a).win w).fetch u) f k = f 0 (f 1 (f 2 (f 3 k))) :=
  eachWin_of a _ f k (b0 := true) (b1 := true) (b2 := true) (b3 := true) (b4 := false)
    (by rw [fe_0, hu]; rfl) (fe_1 a u) (by rw [fe_2, hu]; rfl) (by rw [fe_3, hu]; rfl) (fe_4 a u)
theorem each_fetch' (hu : u.val ≠ 0) : (cfg0 a).eachWin (fun w => ((cfg0 a).win w).fetch u) f k = f 1 k :=
  eachWin_of a _ f k (b0 := false) (b1 := true) (b2 := false) (b3 := false) (b4 := false)
    (by rw [fe_0, decide_eq_false hu]) (fe_1 a u) (by rw [fe_2, decide_eq_false hu]) (by rw [fe_3, decide_eq_false hu]) (fe_4 a u)
theorem each_flush (hu : u.val = 31) : (cfg0 a).eachWin (fun w => ((cfg0 a).win w).flush u) f k = f 4 k :=
  eachWin_of a _ f k (b0 := false) (b1 := false) (b2 := false) (b3 := false) (b4 := true)
    (fl_0 a u) (fl_1 a u) (fl_2 a u) (fl_3 a u) (by rw [fl_4, hu]; rfl)
theorem each_flush' (hu : u.val ≠ 31) : (cfg0 a).eachWin (fun w => ((cfg0 a).win w).flush u) f k = k :=
  eachWin_of a _ f k (b0 := false) (b1 := false) (b2 := false) (b3 := false) (b4 := false)
    (fl_0 a u) (fl_1 a u) (fl_2 a u) (fl_3 a u) (by rw [fl_4, decide_eq_false hu])
theorem each_out (hu : u.val = 31) : (cfg0 a).eachWin (fun w => ((cfg0 a).win w).single && ((cfg0 a).win w).flush u) f k = f 4 k :=
  eachWin_of a _ f k (b0 := false) (b1 := false) (b2 := false) (b3 := false) (b4 := true)
    (by rw [fl_0]; rfl) (by rw [fl_1]; rfl) (by rw [fl_2]; rfl) (by rw [fl_3]; rfl) (by rw [fl_4, hu]; rfl)
theorem each_out' (hu : u.val ≠ 31) : (cfg0 a).eachWin (fun w => ((cfg0 a).win w).single && ((cfg0 a).win w).flush u) f k = k :=
  eachWin_of a _ f k (b0 := false) (b1 := false) (b2 := false) (b3 := false) (b4 := false)
    (by rw [fl_0]; rfl) (by rw [fl_1]; rfl) (by rw [fl_2]; rfl) (by rw [fl_3]; rfl) (by rw [fl_4, decide_eq_false hu]; rfl)
theorem each_late : (cfg0 a).eachWin (fun w => !((cfg0 a).win w).single && ((cfg0 a).win w).flush u) f k = k :=
  eachWin_of a _ f k (b0 := false) (b1 := false) (b2 := false) (b3 := false) (b4 := false)
    rfl (by rw [fl_1]; rfl) rfl rfl rfl
end Each

/-- The rest of the loop after iteration l. -/
def goOn (l : ℕ) : PP F :=
  if l + 1 < 34 then .op (.call (Pipeline.pipe 0) (a, l + 1)) fun _ => .ret ⟨⟩ else .ret ⟨⟩

def stIn (w : Fin 5) (u : Fin grid0.N) (k : PP F) : PP F := .op ((cfg0 a).startIn w u) fun _ => k
def wtIn (w : Fin 5) (u : Fin grid0.N) (k : PP F) : PP F := .op ((cfg0 a).waitIn w u) fun _ => k
def stOut (u : Fin grid0.N) (k : PP F) : PP F := .op ((cfg0 a).startOut 4 u) fun _ => k
def wtOut (u : Fin grid0.N) (k : PP F) : PP F := .op ((cfg0 a).waitOut 4 u) fun _ => k
def bodyAt (u : Fin grid0.N) (k : PP F) : PP F :=
  .op (.call (Pipeline.kernel (cfg0 a).body) ((cfg0 a).bodyArgs u ((cfg0 a).slots u))) fun _ => k

theorem fetchIn_eq (w : Fin 5) (u : Fin grid0.N) (k : PP F) : (cfg0 a).fetchIn w u k = stIn a w u k := by
  match w with
  | 0 => rfl
  | 1 => rfl
  | 2 => rfl
  | 3 => rfl
  | 4 => rfl

theorem atPoint_some (t d : ℕ) (h : d ≤ t ∧ t - d < 32) (f : Fin grid0.N → PP F → PP F) (k : PP F) :
    (cfg0 a).atPoint t d f k = f ⟨t - d, N_0 ▸ h.2⟩ k := by
  unfold Pipeline.Cfg.atPoint
  rw [Pipeline.Cfg.point_some (cfg0 a) (t := t) (d := d) ⟨h.1, show t - d < grid0.N from N_0 ▸ h.2⟩]
theorem atPoint_none (t d : ℕ) (h : ¬ (d ≤ t ∧ t - d < 32)) (f : Fin grid0.N → PP F → PP F) (k : PP F) :
    (cfg0 a).atPoint t d f k = k := by
  unfold Pipeline.Cfg.atPoint
  rw [Pipeline.Cfg.point_none (cfg0 a) (t := t) (d := d) (fun hh => h ⟨hh.1, by have : t - d < grid0.N := hh.2; rwa [N_0] at this⟩)]

theorem dbl_none (t : ℕ) (k : PP F) :
    (cfg0 a).atPoint t 2 (fun u => (cfg0 a).eachWin (fun w => !((cfg0 a).win w).single && ((cfg0 a).win w).flush u) (fun w k => .op ((cfg0 a).waitOut w u) fun _ => k)) k = k := by
  by_cases h : 2 ≤ t ∧ t - 2 < 32
  · rw [atPoint_some a _ _ h, each_late]
  · rw [atPoint_none a _ _ h]

theorem iter_eq (l : ℕ) : (cfg0 a).iter (nD := nD) (τ := τ) (Val := Elt F) (A := fun p => (pcfgs (F := F) p).Adm) (0 : Fin 1) a l =
    ((cfg0 a).atPoint l 1 (fun u => (cfg0 a).eachWin (fun w => ((cfg0 a).win w).single && ((cfg0 a).win w).fetch u) (fun w => stIn a w u)) <|
     (cfg0 a).atPoint l 0 (fun u => (cfg0 a).eachWin (fun w => !((cfg0 a).win w).single && ((cfg0 a).win w).fetch u) (fun w => stIn a w u)) <|
     (cfg0 a).atPoint l 1 (fun u k =>
       (cfg0 a).eachWin (fun w => ((cfg0 a).win w).fetch u) (fun w => wtIn a w u) <|
       bodyAt a u <|
       (cfg0 a).eachWin (fun w => ((cfg0 a).win w).flush u) (fun w k => .op ((cfg0 a).startOut w u) fun _ => k) <|
       (cfg0 a).eachWin (fun w => ((cfg0 a).win w).single && ((cfg0 a).win w).flush u) (fun w k => .op ((cfg0 a).waitOut w u) fun _ => k) k) <|
     goOn a l) := by
  have e := dbl_none a l (goOn a l)
  unfold Pipeline.Cfg.iter
  rw [trip a, pro a]
  conv_rhs => rw [← e]
  rfl

def pt (t : ℕ) (h : t < 32) : Fin grid0.N := ⟨t, N_0 ▸ h⟩

theorem iter_first : (cfg0 a).iter (nD := nD) (τ := τ) (Val := Elt F) (A := fun p => (pcfgs (F := F) p).Adm) (0 : Fin 1) a 0 = stIn a 1 (pt 0 (by decide)) (goOn a 0) := by
  rw [iter_eq, atPoint_none a _ 1 (by decide), atPoint_none a _ 1 (by decide), atPoint_some a _ _ (by decide), each_double]
  rfl

theorem iter_second : (cfg0 a).iter (nD := nD) (τ := τ) (Val := Elt F) (A := fun p => (pcfgs (F := F) p).Adm) (0 : Fin 1) a 1 =
    stIn a 0 (pt 0 (by decide)) (stIn a 2 (pt 0 (by decide)) (stIn a 3 (pt 0 (by decide)) (stIn a 1 (pt 1 (by decide))
      (wtIn a 0 (pt 0 (by decide)) (wtIn a 1 (pt 0 (by decide)) (wtIn a 2 (pt 0 (by decide)) (wtIn a 3 (pt 0 (by decide))
        (bodyAt a (pt 0 (by decide)) (goOn a 1))))))))) := by
  rw [iter_eq, atPoint_some a _ 1 (by decide), atPoint_some a _ 1 (by decide), atPoint_some a _ _ (by decide),
    each_single a _ _ _ rfl, each_double, each_fetch a _ _ _ rfl, each_flush' a _ _ _ (by decide), each_out' a _ _ _ (by decide)]
  rfl

theorem iter_mid (t : ℕ) (h : 1 ≤ t) (h' : t < 31) : (cfg0 a).iter (nD := nD) (τ := τ) (Val := Elt F) (A := fun p => (pcfgs (F := F) p).Adm) (0 : Fin 1) a (t + 1) =
    stIn a 1 (pt (t + 1) (by omega)) (wtIn a 1 (pt t (by omega)) (bodyAt a (pt t (by omega)) (goOn a (t + 1)))) := by
  rw [iter_eq, atPoint_some a _ 1 (by omega), atPoint_some a _ 1 (by omega), atPoint_some a _ 0 (by omega),
    each_single' a _ _ _ (by dsimp only; omega), each_double, each_fetch' a _ _ _ (by dsimp only; omega), each_flush' a _ _ _ (by dsimp only; omega), each_out' a _ _ _ (by dsimp only; omega)]
  rfl

theorem iter_last : (cfg0 a).iter (nD := nD) (τ := τ) (Val := Elt F) (A := fun p => (pcfgs (F := F) p).Adm) (0 : Fin 1) a 32 =
    wtIn a 1 (pt 31 (by decide)) (bodyAt a (pt 31 (by decide)) (stOut a (pt 31 (by decide)) (wtOut a (pt 31 (by decide)) (goOn a 32)))) := by
  rw [iter_eq, atPoint_some a _ 1 (by decide), atPoint_some a _ 1 (by decide), atPoint_none a _ 0 (by decide),
    each_single' a _ _ _ (by decide), each_fetch' a _ _ _ (by decide), each_flush a _ _ _ rfl, each_out a _ _ _ rfl]
  rfl

theorem iter_end : (cfg0 a).iter (nD := nD) (τ := τ) (Val := Elt F) (A := fun p => (pcfgs (F := F) p).Adm) (0 : Fin 1) a 33 = .ret ⟨⟩ := by
  rw [iter_eq, atPoint_none a _ 1 (by decide), atPoint_none a _ 1 (by decide), atPoint_none a _ 0 (by decide)]
  rfl

end Cert.A2A

end
-- ==== Proof.Copies.lean ====
/-
  The staging copies: each starts holding its source, its destination and its semaphore at zero, and gives them back at its wait.
-/
module

public import proofs.«01_k».proof.Proof.Iter

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (a : Ad F) (c : Dev nD)

/-- The run of the staged loop's code on device c, under a bound on the calls still to be made. -/
abbrev WQ (bd : Option (Variants.lift 𝒱₀).V) {α : Type} (p : Prog (TpuEff nD τ sig (Elt F) (Pipeline.Sig Λ₀ (Fin 1) fun p => (pcfgs (F := F) p).Adm) Proc.tc) α) (Q : α → sProp 𝕄) : sProp 𝕄 :=
  wp frame (wpE (Pipeline.defs (pcfgs (F := F)) defs₀) (Variants.lift 𝒱₀) (c : Thread nD τ) bd) Set.univ p Q

/-- The array of a window, a staging buffer of it, and that buffer's semaphore, on device c. -/
abbrev aLoc (w : Fin 5) : Loc nD τ sig := ((cfg0 a).win w).arr.view.loc (c : Thread nD τ)
abbrev bLoc (w : Fin 5) (t : Fin grid0.N) : Loc nD τ sig := (((cfg0 a).win w).stg t ((cfg0 a).slots t w)).view.loc (c : Thread nD τ)
abbrev sAt (w : Fin 5) (t : Fin grid0.N) : SemLoc sig := .dma (((cfg0 a).win w).sem ((cfg0 a).slots t w))
abbrev crd (w : Fin 5) (t : Fin grid0.N) : ℕ := (((cfg0 a).win w).stg t ((cfg0 a).slots t w)).view.dmaCredit

omit [FloatOps F] in
theorem amount_dma {sp : Space} {s : Shape} {e : EltTy} (v : Memref sig .tc sp s e) (sm : DmaSem sig) : v.view.amount (.dma sm) = v.view.dmaCredit := rfl

theorem crd_pos (w : Fin 5) (t : Fin grid0.N) : 0 < (((cfg0 a).win w).stg t ((cfg0 a).slots t w)).view.amount (sAt a w t) := by
  refine Nat.pos_of_ne_zero fun h => ?_
  have h' := (View.amount_eq_zero_iff _ _).mp h
  match w with
  | 0 => exact absurd (show S4096x1024.numel = 0 from h') (by decide)
  | 1 => exact absurd (show S1024x1024.numel = 0 from h') (by decide)
  | 2 => exact absurd (show S1.numel = 0 from h') (by decide)
  | 3 => exact absurd (show S1.numel = 0 from h') (by decide)
  | 4 => exact absurd (show S1024x8192.numel = 0 from h') (by decide)

theorem wp_stIn (w : Fin 5) (t : Fin grid0.N) {bd : Option (Variants.lift 𝒱₀).V} {Q : PUnit → sProp 𝕄} {k : PP F} {q : PosShare TreeShare}
    {fs : Buf (Elt F) ((((cfg0 a).win w).blk t).view.loc (c : Thread nD τ))} {fd : Buf (Elt F) (bLoc a c w t)} :
    iprop(((((cfg0 a).win w).blk t).view.loc (c : Thread nD τ) ↦[(((cfg0 a).win w).blk t).view.set]{q} fs) ∗ (bLoc a c w t ↦[Finset.univ]{fullShare} fd) ∗ semVal ((c : Thread nD τ), sAt a w t) 0)
      ⊢ iprop((Transfers.Flight EC (c : Thread nD τ) (sAt a w t) () (crd a w t)
            iprop((bLoc a c w t ↦[Finset.univ]{fullShare} ((((cfg0 a).win w).stg t ((cfg0 a).slots t w)).view.write (Elt F) fd (ReadAs.same.apply ((((cfg0 a).win w).blk t).view.read (Elt F) fs)) Finset.univ))
              ∗ ((((cfg0 a).win w).blk t).view.loc (c : Thread nD τ) ↦[(((cfg0 a).win w).blk t).view.set]{q} fs)) -∗ WQ c bd k Q)
        -∗ WQ c bd (stIn a w t k) Q) := by
  unfold stIn Pipeline.Cfg.startIn TpuEff.enqueueDma
  exact Transfers.wp_dmaLocal EC (Variants.lift 𝒱₀) (c : Thread nD τ) bd (defs := Pipeline.defs (pcfgs (F := F)) defs₀) (q := q) (fs := fs) (fd := fd) (Sd := Finset.univ) (Q := Q) (k := fun _ => k) (hsem := ⟨Or.inl rfl, trivial⟩) (via := ReadAs.same) (src := ((cfg0 a).win w).blk t) (dst := ((cfg0 a).win w).stg t ((cfg0 a).slots t w)) (sm := sAt a w t)
    (hsrc := ((cfg0 a).win w).wordExact_blk t) (hdst := ((cfg0 a).win w).wordExact_stg t _) () (crd a w t) (amount_dma _ _) (crd_pos a w t) (Finset.subset_univ _)

theorem wp_wtIn (w : Fin 5) (t : Fin grid0.N) {bd : Option (Variants.lift 𝒱₀).V} {Q : PUnit → sProp 𝕄} {k : PP F} {D : sProp 𝕄} {O : CellTallies nD τ sig Unit}
    (hs : lv ((c : Thread nD τ), sAt a w t) () = 0) (hO : Above 0 O) :
    iprop(Transfers.Flight EC (c : Thread nD τ) (sAt a w t) () (crd a w t) D ∗ ow c O ∗ levAts L lv)
      ⊢ iprop((iprop(D ∗ semVal ((c : Thread nD τ), sAt a w t) 0 ∗ ow c O) -∗ WQ c bd k Q) -∗ WQ c bd (wtIn a w t k) Q) := by
  unfold ow
  iintro ⟨Hf, ⟨%W, Ho⟩, Hl⟩ Hk
  unfold wtIn Pipeline.Cfg.waitIn
  iapply (Transfers.wp_waitLocalO EC (Variants.lift 𝒱₀) (c : Thread nD τ) bd () (srcw := ((cfg0 a).win w).blk t) (dstw := ((cfg0 a).win w).stg t ((cfg0 a).slots t w))
    (hsrc := ((cfg0 a).win w).wordExact_blk t) (hdst := ((cfg0 a).win w).wordExact_stg t _) (N := crd a w t) (by rfl)) $$ [Hf Ho Hl]
  · isplitl [Hf]; · iexact Hf
    isplitl [Ho]; · iexact Ho
    iapply (mayWait c (sAt a w t) (Nat.le_of_eq hs) hO); iexact Hl
  iintro ⟨HD, Hv, Ho⟩
  iapply Hk
  isplitl [HD]; · iexact HD
  isplitl [Hv]; · iexact Hv
  iexists (insert (sAt a w t, ()) W)
  iexact Ho

abbrev crdO (t : Fin grid0.N) : ℕ := (((cfg0 a).win 4).blk t).view.dmaCredit
abbrev rLoc (t : Fin grid0.N) : Loc nD τ sig := (((cfg0 a).win 4).blk t).view.loc (c : Thread nD τ)

theorem crdO_pos (t : Fin grid0.N) : 0 < (((cfg0 a).win 4).blk t).view.amount (sAt a 4 t) := by
  refine Nat.pos_of_ne_zero fun h => ?_
  have h' := (View.amount_eq_zero_iff _ _).mp h
  exact absurd (show S1024x8192.numel = 0 from h') (by decide)

theorem wp_stOut (t : Fin grid0.N) {bd : Option (Variants.lift 𝒱₀).V} {Q : PUnit → sProp 𝕄} {k : PP F}
    {fs : Buf (Elt F) (bLoc a c 4 t)} {fd : Buf (Elt F) (rLoc a c t)} :
    iprop((bLoc a c 4 t ↦[(((cfg0 a).win 4).stg t ((cfg0 a).slots t 4)).view.set]{fullShare} fs) ∗ (rLoc a c t ↦[Finset.univ]{fullShare} fd) ∗ semVal ((c : Thread nD τ), sAt a 4 t) 0)
      ⊢ iprop((Transfers.Flight EC (c : Thread nD τ) (sAt a 4 t) () (crdO a t)
            iprop((rLoc a c t ↦[Finset.univ]{fullShare} ((((cfg0 a).win 4).blk t).view.write (Elt F) fd (ReadAs.same.apply ((((cfg0 a).win 4).stg t ((cfg0 a).slots t 4)).view.read (Elt F) fs)) Finset.univ))
              ∗ (bLoc a c 4 t ↦[(((cfg0 a).win 4).stg t ((cfg0 a).slots t 4)).view.set]{fullShare} fs)) -∗ WQ c bd k Q)
        -∗ WQ c bd (stOut a t k) Q) := by
  unfold stOut Pipeline.Cfg.startOut TpuEff.enqueueDma
  exact Transfers.wp_dmaLocal EC (Variants.lift 𝒱₀) (c : Thread nD τ) bd (defs := Pipeline.defs (pcfgs (F := F)) defs₀) (q := fullShare) (fs := fs) (fd := fd) (Sd := Finset.univ) (Q := Q) (k := fun _ => k) (hsem := ⟨Or.inl rfl, trivial⟩) (via := ReadAs.same) (src := ((cfg0 a).win 4).stg t ((cfg0 a).slots t 4)) (dst := ((cfg0 a).win 4).blk t) (sm := sAt a 4 t)
    (hsrc := ((cfg0 a).win 4).wordExact_stg t _) (hdst := ((cfg0 a).win 4).wordExact_blk t) () (crdO a t) (amount_dma _ _) (crdO_pos a t) (Finset.subset_univ _)

theorem wp_wtOut (t : Fin grid0.N) {bd : Option (Variants.lift 𝒱₀).V} {Q : PUnit → sProp 𝕄} {k : PP F} {D : sProp 𝕄} {O : CellTallies nD τ sig Unit}
    (hs : lv ((c : Thread nD τ), sAt a 4 t) () = 0) (hO : Above 0 O) :
    iprop(Transfers.Flight EC (c : Thread nD τ) (sAt a 4 t) () (crdO a t) D ∗ ow c O ∗ levAts L lv)
      ⊢ iprop((iprop(D ∗ semVal ((c : Thread nD τ), sAt a 4 t) 0 ∗ ow c O) -∗ WQ c bd k Q) -∗ WQ c bd (wtOut a t k) Q) := by
  unfold ow
  iintro ⟨Hf, ⟨%W, Ho⟩, Hl⟩ Hk
  unfold wtOut Pipeline.Cfg.waitOut
  iapply (Transfers.wp_waitLocalO EC (Variants.lift 𝒱₀) (c : Thread nD τ) bd () (srcw := ((cfg0 a).win 4).stg t ((cfg0 a).slots t 4)) (dstw := ((cfg0 a).win 4).blk t)
    (hsrc := ((cfg0 a).win 4).wordExact_stg t _) (hdst := ((cfg0 a).win 4).wordExact_blk t) (N := crdO a t) rfl) $$ [Hf Ho Hl]
  · isplitl [Hf]; · iexact Hf
    isplitl [Ho]; · iexact Ho
    iapply (mayWait c (sAt a 4 t) (Nat.le_of_eq hs) hO); iexact Hl
  iintro ⟨HD, Hv, Ho⟩
  iapply Hk
  isplitl [HD]; · iexact HD
  isplitl [Hv]; · iexact Hv
  iexists (insert (sAt a 4 t, ()) W)
  iexact Ho

end Cert.A2A

end
-- ==== Proof.Stage.lean ====
/-
  What the staging copies carry: the arguments into their staging buffers, the result back.
-/
module

public import proofs.«01_k».proof.Proof.Copies

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (a : Ad F) (c : Dev nD)

/-! ## The copies at a named staging buffer -/

abbrev bAt (w : Fin 5) (t : Fin grid0.N) (s : Fin ((cfg0 a).win w).nbuf) := ((cfg0 a).win w).stg t s

theorem wp_st (w : Fin 5) (t : Fin grid0.N) (s : Fin ((cfg0 a).win w).nbuf) (hs : (cfg0 a).slots t w = s)
    {bd : Option (Variants.lift 𝒱₀).V} {Q : PUnit → sProp 𝕄} {k : PP F} {q : PosShare TreeShare}
    {fs : Buf (Elt F) ((((cfg0 a).win w).blk t).view.loc (c : Thread nD τ))} {fd : Buf (Elt F) ((bAt a w t s).view.loc (c : Thread nD τ))} :
    iprop(((((cfg0 a).win w).blk t).view.loc (c : Thread nD τ) ↦[(((cfg0 a).win w).blk t).view.set]{q} fs) ∗ ((bAt a w t s).view.loc (c : Thread nD τ) ↦[Finset.univ]{fullShare} fd) ∗ semVal ((c : Thread nD τ), .dma (((cfg0 a).win w).sem s)) 0)
      ⊢ iprop((Transfers.Flight EC (c : Thread nD τ) (.dma (((cfg0 a).win w).sem s)) () (bAt a w t s).view.dmaCredit
            iprop(((bAt a w t s).view.loc (c : Thread nD τ) ↦[Finset.univ]{fullShare} ((bAt a w t s).view.write (Elt F) fd (ReadAs.same.apply ((((cfg0 a).win w).blk t).view.read (Elt F) fs)) Finset.univ))
              ∗ ((((cfg0 a).win w).blk t).view.loc (c : Thread nD τ) ↦[(((cfg0 a).win w).blk t).view.set]{q} fs)) -∗ WQ c bd k Q)
        -∗ WQ c bd (stIn a w t k) Q) := by
  subst hs
  exact wp_stIn a c w t

theorem wp_wt (w : Fin 5) (t : Fin grid0.N) (s : Fin ((cfg0 a).win w).nbuf) (hs : (cfg0 a).slots t w = s)
    {bd : Option (Variants.lift 𝒱₀).V} {Q : PUnit → sProp 𝕄} {k : PP F} {D : sProp 𝕄} {O : CellTallies nD τ sig Unit}
    (hl : lv ((c : Thread nD τ), .dma (((cfg0 a).win w).sem s)) () = 0) (hO : Above 0 O) :
    iprop(Transfers.Flight EC (c : Thread nD τ) (.dma (((cfg0 a).win w).sem s)) () (bAt a w t s).view.dmaCredit D ∗ ow c O ∗ levAts L lv)
      ⊢ iprop((iprop(D ∗ semVal ((c : Thread nD τ), .dma (((cfg0 a).win w).sem s)) 0 ∗ ow c O) -∗ WQ c bd k Q) -∗ WQ c bd (wtIn a w t k) Q) := by
  subst hs
  exact wp_wtIn a c w t hl hO

/-! ## The windows carried whole -/

omit [FloatOps F] in
theorem write_sl (b : Ref sig .tc) (r : Rect b.ty.shape) (f : b.ty.Contents (Elt F)) (w : r.shape.Idx → Elt F b.ty.elt) (x : r.shape.Idx) :
    ((View.whole b : View sig .tc _ _ _).slice r).write (Elt F) f w Finset.univ (r.emb x) = w x :=
  (View.write_emb_of_mem (v := (View.whole b : View sig .tc _ _ _).slice r) f w (Finset.mem_univ x)).trans (cast_eq _ _)

theorem em0 (t : Fin grid0.N) (y : (((cfg0 a).win 0).xblock (grid0.coords t)).Idx) : (((cfg0 a).win 0).rect t).emb y = y := by
  refine funext fun (ax : Fin 2) => Fin.ext ?_
  match ax with
  | 0 => show 0 * 4096 + 1 * (y (0 : Fin 2)).val = (y (0 : Fin 2)).val; omega
  | 1 => show 0 * 1024 + 1 * (y (1 : Fin 2)).val = (y (1 : Fin 2)).val; omega

theorem st0_val (t : Fin grid0.N) (fd : Buf (Elt F) ((c : Thread nD τ).loc cc0_stg0_0)) (fs : Buf (Elt F) ((c : Thread nD τ).loc main_arg0)) :
    (bAt a 0 t (0 : Fin 1)).view.write (Elt F) fd (ReadAs.same.apply ((((cfg0 a).win 0).blk t).view.read (Elt F) fs)) Finset.univ = fs := by
  funext y
  exact (congrArg _ (((cfg0 a).win 0).srect_emb (grid0.coords t) y).symm).trans ((write_sl cc0_stg0_0 (((cfg0 a).win 0).srect (grid0.coords t)) fd _ y).trans (congrArg fs (em0 a t y)))

theorem blk0_set (t : Fin grid0.N) : (((cfg0 a).win 0).blk t).view.set = Finset.univ := by
  refine Finset.eq_univ_of_card _ ?_
  rw [View.card_set, Shape.card_idx]
  rfl

theorem em2 (t : Fin grid0.N) (y : (((cfg0 a).win 2).xblock (grid0.coords t)).Idx) : (((cfg0 a).win 2).rect t).emb y = y := by
  refine funext fun (ax : Fin 1) => Fin.ext ?_
  match ax with
  | 0 => show 0 * 1 + 1 * (y (0 : Fin 1)).val = (y (0 : Fin 1)).val; omega

theorem st2_val (t : Fin grid0.N) (fd : Buf (Elt F) ((c : Thread nD τ).loc cc0_stg2_0)) (fs : Buf (Elt F) ((c : Thread nD τ).loc main_arg2)) :
    (bAt a 2 t (0 : Fin 1)).view.write (Elt F) fd (ReadAs.same.apply ((((cfg0 a).win 2).blk t).view.read (Elt F) fs)) Finset.univ = fs := by
  funext y
  exact (congrArg _ (((cfg0 a).win 2).srect_emb (grid0.coords t) y).symm).trans ((write_sl cc0_stg2_0 (((cfg0 a).win 2).srect (grid0.coords t)) fd _ y).trans (congrArg fs (em2 a t y)))

theorem blk2_set (t : Fin grid0.N) : (((cfg0 a).win 2).blk t).view.set = Finset.univ := by
  refine Finset.eq_univ_of_card _ ?_
  rw [View.card_set, Shape.card_idx]
  rfl

theorem em3 (t : Fin grid0.N) (y : (((cfg0 a).win 3).xblock (grid0.coords t)).Idx) : (((cfg0 a).win 3).rect t).emb y = y := by
  refine funext fun (ax : Fin 1) => Fin.ext ?_
  match ax with
  | 0 => show 0 * 1 + 1 * (y (0 : Fin 1)).val = (y (0 : Fin 1)).val; omega

theorem st3_val (t : Fin grid0.N) (fd : Buf (Elt F) ((c : Thread nD τ).loc cc0_stg3_0)) (fs : Buf (Elt F) ((c : Thread nD τ).loc main_arg3)) :
    (bAt a 3 t (0 : Fin 1)).view.write (Elt F) fd (ReadAs.same.apply ((((cfg0 a).win 3).blk t).view.read (Elt F) fs)) Finset.univ = fs := by
  funext y
  exact (congrArg _ (((cfg0 a).win 3).srect_emb (grid0.coords t) y).symm).trans ((write_sl cc0_stg3_0 (((cfg0 a).win 3).srect (grid0.coords t)) fd _ y).trans (congrArg fs (em3 a t y)))

theorem blk3_set (t : Fin grid0.N) : (((cfg0 a).win 3).blk t).view.set = Finset.univ := by
  refine Finset.eq_univ_of_card _ ?_
  rw [View.card_set, Shape.card_idx]
  rfl

theorem em4 (t : Fin grid0.N) (y : (((cfg0 a).win 4).xblock (grid0.coords t)).Idx) : (((cfg0 a).win 4).rect t).emb y = y := by
  refine funext fun (ax : Fin 2) => Fin.ext ?_
  match ax with
  | 0 => show 0 * 1024 + 1 * (y (0 : Fin 2)).val = (y (0 : Fin 2)).val; omega
  | 1 => show 0 * 8192 + 1 * (y (1 : Fin 2)).val = (y (1 : Fin 2)).val; omega

theorem out_val (t : Fin grid0.N) (fs : Buf (Elt F) (oLoc c)) (fd : Buf (Elt F) ((c : Thread nD τ).loc main_v8)) :
    (((cfg0 a).win 4).blk t).view.write (Elt F) fd (ReadAs.same.apply ((bAt a 4 t (0 : Fin 1)).view.read (Elt F) fs)) Finset.univ = fs := by
  funext y
  exact (congrArg _ (em4 a t y).symm).trans ((write_sl main_v8 (((cfg0 a).win 4).rect t) fd _ y).trans (congrArg fs (((cfg0 a).win 4).srect_emb (grid0.coords t) y)))

theorem stg4_set (t : Fin grid0.N) : (bAt a 4 t (0 : Fin 1)).view.set = Finset.univ := by
  refine Finset.eq_univ_of_card _ ?_
  rw [View.card_set, Shape.card_idx]
  rfl

/-! ## The second argument's blocks -/

/-- The block of the second argument point (kb, n) takes, at device c. -/
def wB (kb : Fin 4) (n : Fin 8) : Vec F S1024x1024 .fp8e5m2 := fun y =>
  m ((c : Thread nD τ).loc main_arg1) (ix2 (n0 := 4096) (n1 := 8192) ⟨1024 * (jAt c kb).val + (y (0 : Fin 2)).val, by
    have h1 : (jAt c kb).val < 4 := (jAt c kb).isLt
    have h2 : (y (0 : Fin 2)).val < 1024 := (y (0 : Fin 2)).isLt
    omega⟩ ⟨1024 * n.val + (y (1 : Fin 2)).val, by
    have h2 : (y (1 : Fin 2)).val < 1024 := (y (1 : Fin 2)).isLt
    omega⟩)

/-- The table's words: at inner step kb, the device whose rows are multiplied. -/
def TabAt (tv : (⟨S4, .i32⟩ : BufTy).Contents (Elt F)) : Prop := ∀ kb : Fin 4, tv (ix1 (n := 4) kb) = wd (jAt c kb)

omit [FloatOps F] in
theorem tab_ok {tv : (⟨S4, .i32⟩ : BufTy).Contents (Elt F)} (h : TabAt c tv) : TabOk c tv := by
  intro kb inb
  funext y
  refine Eq.trans ?_ (h kb)
  refine congrArg tv ?_
  refine funext fun (ax : Fin 1) => Fin.ext ?_
  match ax with
  | 0 =>
    have hy : (y (0 : Fin 1)).val < 1 := (y (0 : Fin 1)).isLt
    show kb.val + 1 * (y (0 : Fin 1)).val = kb.val
    omega

theorem ix_1r (ht : TabAt c (a.1 0)) (t : Fin grid0.N) : ((cfg0 a).win 1).index t (0 : Fin 2) = (jAt c (grid0.coords t 0)).val := by
  have h : (a.1).at 0 (Rect.unit (s := S4) (k0_off1 (grid0.coords t)) S1.size (k0_off1_inb (grid0.coords t))) numel1_S1 = wd (jAt c (grid0.coords t 0)) := by
    refine Eq.trans ?_ (ht (grid0.coords t 0))
    refine congrArg (a.1 0) ?_
    refine funext fun (ax : Fin 1) => Fin.ext ?_
    match ax with
    | 0 =>
      show (BitVec.ofNat 32 (grid0.coords t 0).val).toNat + 1 * 0 = (grid0.coords t 0).val
      rw [BitVec.toNat_ofNat]
      have : (grid0.coords t 0).val < 4 := (grid0.coords t 0).isLt
      omega
  refine (congrArg BitVec.toNat h).trans ?_
  show (BitVec.ofNat 32 (jAt c (grid0.coords t 0)).val).toNat = _
  rw [BitVec.toNat_ofNat]
  have : (jAt c (grid0.coords t 0)).val < 4 := (jAt c (grid0.coords t 0)).isLt
  omega

theorem w_read (ht : TabAt c (a.1 0)) (t : Fin grid0.N) :
    (((cfg0 a).win 1).blk t).view.read (Elt F) (m ((c : Thread nD τ).loc main_arg1)) = wB m c (grid0.coords t 0) (grid0.coords t 1) := by
  funext y
  refine congrArg (m ((c : Thread nD τ).loc main_arg1)) ?_
  refine funext fun (ax : Fin 2) => Fin.ext ?_
  match ax with
  | 0 =>
    show ((cfg0 a).win 1).index t (0 : Fin 2) * 1024 + 1 * (y (0 : Fin 2)).val = 1024 * (jAt c (grid0.coords t 0)).val + (y (0 : Fin 2)).val
    rw [ix_1r a c ht]; omega
  | 1 =>
    show ((cfg0 a).win 1).index t (1 : Fin 2) * 1024 + 1 * (y (1 : Fin 2)).val = 1024 * (grid0.coords t 1).val + (y (1 : Fin 2)).val
    rw [ix_1, co_1]; omega

omit [FloatOps F] in
theorem load_store {sp : Space} {sh : Shape} {e : EltTy} (v : View sig .tc sp sh e) {off off' size : Fin sh.rank → ℕ} (h : off = off')
    (inb : ∀ ax, off ax + size ax ≤ sh.size ax) (inb' : ∀ ax, off' ax + size ax ≤ sh.size ax) (f : v.ty.Contents (Elt F)) (w : Shape.Idx ⟨sh.rank, size⟩ → Elt F e) :
    (v.slice (Rect.unit off size inb)).read (Elt F) ((v.slice (Rect.unit off' size inb')).write (Elt F) f w Finset.univ) = w := by
  subst h
  exact View.read_write_univ _ _

theorem w_load (t : Fin grid0.N) (s : Fin 2) (fd : Buf (Elt F) ((spec0_1.stage s).view.loc (c : Thread nD τ))) (v : Vec F S1024x1024 .fp8e5m2)
    (inb : ∀ ax, (![0, 0] : Fin 2 → ℕ) ax + S1024x1024.size ax ≤ S1024x1024.size ax) :
    ((spec0_1.stage s).access (Rect.unit ![0, 0] S1024x1024.size inb)).read (Elt F) ((bAt a 1 t s).view.write (Elt F) fd v Finset.univ) = v :=
  load_store (spec0_1.stage s).view (off' := fun _ => 0) (size := S1024x1024.size) (funext fun ax => match ax with | 0 => rfl | 1 => rfl) inb (fun ax => (Nat.zero_add _).le) fd v

abbrev wLoc (s : Fin 2) : Loc nD τ sig := (spec0_1.stage s).view.loc (c : Thread nD τ)

/-- What staging buffer s holds once point t's block is in it. -/
def wGot (t : Fin grid0.N) (s : Fin 2) : sProp 𝕄 :=
  iprop(∃ fd, wLoc c s ↦[Finset.univ]{fullShare} ((bAt a 1 t s).view.write (Elt F) fd (wB m c (grid0.coords t 0) (grid0.coords t 1)) Finset.univ))

theorem loads_w (t : Fin grid0.N) (s : Fin 2) : Loads c (spec0_1.stage s) (wB m c (grid0.coords t 0) (grid0.coords t 1)) (wGot m a c t s) := by
  intro α Q inb hl K
  have h : ∀ fd, (wLoc c s ↦[Finset.univ]{fullShare} ((bAt a 1 t s).view.write (Elt F) fd (wB m c (grid0.coords t 0) (grid0.coords t 1)) Finset.univ))
      ⊢ iprop(((wLoc c s ↦[Finset.univ]{fullShare} ((bAt a 1 t s).view.write (Elt F) fd (wB m c (grid0.coords t 0) (grid0.coords t 1)) Finset.univ)) -∗ WP c (K (wB m c (grid0.coords t 0) (grid0.coords t 1))) Q)
        -∗ WP c (.op (.load (spec0_1.stage s) (Rect.unit ![0, 0] S1024x1024.size inb).toLoadRect hl) K) Q) := by
    intro fd
    have e := wp_load_rect (defs := defs₀ (F := F)) (Γ := PendingWaitsCtx.empty) (m := spec0_1.stage s) (r := Rect.unit ![0, 0] S1024x1024.size inb) (hl := hl) (k := K) (Q := Q) (q := fullShare) (f := (bAt a 1 t s).view.write (Elt F) fd (wB m c (grid0.coords t 0) (grid0.coords t 1)) Finset.univ) 𝒱₀ (c : Thread nD τ) none Set.univ (Finset.subset_univ _)
    rw [w_load a c t s fd _ inb] at e
    exact e
  unfold wGot
  iintro ⟨%fd, H⟩ Hk
  iapply (h fd) $$ H
  iintro H
  iapply Hk
  iexists fd
  iexact H

end Cert.A2A

end
-- ==== Proof.Moves.lean ====
/-
  The moves of the staged loop: a block of the second argument fetched, a point of the body called, the next step called.
-/
module

public import proofs.«01_k».proof.Proof.Stage

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (a : Ad F) (c : Dev nD)

/-- A fetch's issue, with what lands named. -/
theorem wp_stv (w : Fin 5) (t : Fin grid0.N) (s : Fin ((cfg0 a).win w).nbuf) (hs : (cfg0 a).slots t w = s)
    {bd : Option (Variants.lift 𝒱₀).V} {Q : PUnit → sProp 𝕄} {k : PP F} {q : PosShare TreeShare}
    {fs : Buf (Elt F) ((((cfg0 a).win w).blk t).view.loc (c : Thread nD τ))} {fd g : Buf (Elt F) ((bAt a w t s).view.loc (c : Thread nD τ))}
    (hg : (bAt a w t s).view.write (Elt F) fd (ReadAs.same.apply ((((cfg0 a).win w).blk t).view.read (Elt F) fs)) Finset.univ = g) :
    iprop(((((cfg0 a).win w).blk t).view.loc (c : Thread nD τ) ↦[(((cfg0 a).win w).blk t).view.set]{q} fs) ∗ ((bAt a w t s).view.loc (c : Thread nD τ) ↦[Finset.univ]{fullShare} fd) ∗ semVal ((c : Thread nD τ), .dma (((cfg0 a).win w).sem s)) 0)
      ⊢ iprop((Transfers.Flight EC (c : Thread nD τ) (.dma (((cfg0 a).win w).sem s)) () (bAt a w t s).view.dmaCredit
            iprop(((bAt a w t s).view.loc (c : Thread nD τ) ↦[Finset.univ]{fullShare} g)
              ∗ ((((cfg0 a).win w).blk t).view.loc (c : Thread nD τ) ↦[(((cfg0 a).win w).blk t).view.set]{q} fs)) -∗ WQ c bd k Q)
        -∗ WQ c bd (stIn a w t k) Q) := by
  subst hg
  exact wp_st a c w t s hs

/-! ## The second argument's two buffers -/

/-- The share of the second argument that goes with staging buffer s. -/
def hsh (s : Fin 2) : PosShare TreeShare := if s = 0 then fullShare.left else fullShare.right
def wSrc (s : Fin 2) : sProp 𝕄 := ((c : Thread nD τ).loc main_arg1) ↦[Finset.univ]{hsh s} m ((c : Thread nD τ).loc main_arg1)
def wSem (s : Fin 2) : sProp 𝕄 := semVal ((c : Thread nD τ), .dma (sem0_1 s)) 0
def wIdle (s : Fin 2) : sProp 𝕄 := iprop((∃ f, wLoc c s ↦[Finset.univ]{fullShare} f) ∗ wSem c s ∗ wSrc m c s)
def wBusy (t : Fin grid0.N) (s : Fin 2) : sProp 𝕄 :=
  iprop(∃ fd, Transfers.Flight EC (c : Thread nD τ) (.dma (sem0_1 s)) () (bAt a 1 t s).view.dmaCredit
      iprop((wLoc c s ↦[Finset.univ]{fullShare} ((bAt a 1 t s).view.write (Elt F) fd (wB m c (grid0.coords t 0) (grid0.coords t 1)) Finset.univ))
        ∗ (((c : Thread nD τ).loc main_arg1) ↦[(((cfg0 a).win 1).blk t).view.set]{hsh s} m ((c : Thread nD τ).loc main_arg1)))
    ∗ (((c : Thread nD τ).loc main_arg1) ↦[Finset.univ \ (((cfg0 a).win 1).blk t).view.set]{hsh s} m ((c : Thread nD τ).loc main_arg1)))

theorem wGot_idle (t : Fin grid0.N) (s : Fin 2) : iprop(wGot m a c t s ∗ wSem c s ∗ wSrc m c s) ⊢ wIdle m c s := by
  unfold wGot wIdle
  iintro ⟨⟨%fd, H⟩, Hs, Hr⟩
  isplitl [H]
  · iexists _; iexact H
  isplitl [Hs]; · iexact Hs
  iexact Hr

theorem wSplit (t : Fin grid0.N) (q : PosShare TreeShare) (f : Buf (Elt F) ((c : Thread nD τ).loc main_arg1)) :
    (((c : Thread nD τ).loc main_arg1) ↦[Finset.univ]{q} f : sProp 𝕄)
      ⊣⊢ iprop((((c : Thread nD τ).loc main_arg1) ↦[(((cfg0 a).win 1).blk t).view.set]{q} f) ∗ (((c : Thread nD τ).loc main_arg1) ↦[Finset.univ \ (((cfg0 a).win 1).blk t).view.set]{q} f)) :=
  pointsTo_split_subset (Finset.subset_univ _)

theorem wp_start1 (ht : TabAt c (a.1 0)) (t : Fin grid0.N) {bd : Option (Variants.lift 𝒱₀).V} {Q : PUnit → sProp 𝕄} {k : PP F} :
    wIdle m c (sl t.val) ⊢ iprop((wBusy m a c t (sl t.val) -∗ WQ c bd k Q) -∗ WQ c bd (stIn a 1 t k) Q) := by
  have e : ReadAs.same.apply ((((cfg0 a).win 1).blk t).view.read (Elt F) (m ((c : Thread nD τ).loc main_arg1))) = wB m c (grid0.coords t 0) (grid0.coords t 1) := w_read m a c ht t
  unfold wIdle wSrc wSem wBusy
  iintro ⟨⟨%fd, Hd⟩, Hs, Hr⟩ Hk
  icases (wSplit a c t (hsh (sl t.val)) (m ((c : Thread nD τ).loc main_arg1))).1 $$ Hr with ⟨Hb, Hrest⟩
  iapply (wp_stv a c 1 t (sl t.val) (slot_1 a t.val t.isLt) (q := hsh (sl t.val)) (fs := m ((c : Thread nD τ).loc main_arg1)) (fd := fd)
    (g := (bAt a 1 t (sl t.val)).view.write (Elt F) fd (wB m c (grid0.coords t 0) (grid0.coords t 1)) Finset.univ)
    (congrArg (fun v => (bAt a 1 t (sl t.val)).view.write (Elt F) fd v Finset.univ) e)) $$ [Hb Hd Hs]
  · isplitl [Hb]; · iexact Hb
    isplitl [Hd]; · iexact Hd
    iexact Hs
  iintro Hf
  iapply Hk
  iexists fd
  isplitl [Hf]; · iexact Hf
  iexact Hrest

omit [FloatOps F] in
theorem lv_w (s : Fin 2) : lv ((c : Thread nD τ), .dma (sem0_1 s)) () = 0 := by revert s c; decide

theorem wp_wait1 (t : Fin grid0.N) {bd : Option (Variants.lift 𝒱₀).V} {Q : PUnit → sProp 𝕄} {k : PP F} {O : CellTallies nD τ sig Unit} (hO : Above 0 O) :
    iprop(wBusy m a c t (sl t.val) ∗ ow c O ∗ levAts L lv)
      ⊢ iprop((iprop((wGot m a c t (sl t.val) ∗ wSem c (sl t.val) ∗ wSrc m c (sl t.val)) ∗ ow c O) -∗ WQ c bd k Q) -∗ WQ c bd (wtIn a 1 t k) Q) := by
  unfold wBusy wGot wSrc wSem
  iintro ⟨⟨%fd, Hf, Hrest⟩, Ho, Hl⟩ Hk
  iapply (wp_wt a c 1 t (sl t.val) (slot_1 a t.val t.isLt) (lv_w c _) hO) $$ [Hf Ho Hl]
  · isplitl [Hf]; · iexact Hf
    isplitl [Ho]; · iexact Ho
    iexact Hl
  iintro ⟨⟨Hd, Hb⟩, Hs, Ho⟩
  iapply Hk
  isplitr [Ho]
  · isplitl [Hd]
    · iexists fd; iexact Hd
    isplitl [Hs]; · iexact Hs
    iapply (wSplit a c t (hsh (sl t.val)) (m ((c : Thread nD τ).loc main_arg1))).2
    isplitl [Hb]; · iexact Hb
    iexact Hrest
  iexact Ho

/-! ## The state between points -/

/-- The stage of the exchange before point t. -/
def stK (t : ℕ) : ℕ := if t = 32 then 5 else if t % 8 = 0 then t / 8 else t / 8 + 1

theorem stage_ow (k : ℕ) : stage m c k ⊢ iprop(∃ O, ⌜Above 0 O⌝ ∗ ow c O ∗ (ow c O -∗ stage m c k)) := by
  match k with
  | 0 =>
    show stage0 m c ⊢ iprop(∃ O, ⌜Above 0 O⌝ ∗ ow c O ∗ (ow c O -∗ stage0 m c))
    unfold stage0 start
    iintro ⟨⟨Ho, H⟩, H'⟩
    iexists (O₀ c)
    isplitr; · ipureintro; exact above_launch c
    isplitl [Ho]; · iexact Ho
    iintro Ho
    isplitl [Ho H]
    · isplitl [Ho]; · iexact Ho
      iexact H
    iexact H'
  | 1 =>
    show stage1 m c ⊢ iprop(∃ O, ⌜Above 0 O⌝ ∗ ow c O ∗ (ow c O -∗ stage1 m c))
    unfold stage1
    iintro ⟨Ho, H⟩
    iexists (Osend c 8)
    isplitr; · ipureintro; exact above_mono (by decide) (above_send c 8)
    isplitl [Ho]; · iexact Ho
    iintro Ho
    isplitl [Ho]; · iexact Ho
    iexact H
  | 2 =>
    show stage2 m c ⊢ iprop(∃ O, ⌜Above 0 O⌝ ∗ ow c O ∗ (ow c O -∗ stage2 m c))
    unfold stage2
    iintro ⟨Ho, H⟩
    iexists (Osend c 4)
    isplitr; · ipureintro; exact above_mono (by decide) (above_send c 4)
    isplitl [Ho]; · iexact Ho
    iintro Ho
    isplitl [Ho]; · iexact Ho
    iexact H
  | 3 =>
    show stage3 m c ⊢ iprop(∃ O, ⌜Above 0 O⌝ ∗ ow c O ∗ (ow c O -∗ stage3 m c))
    unfold stage3
    iintro ⟨Ho, H⟩
    iexists 0
    isplitr; · ipureintro; exact above_zero 0
    isplitl [Ho]; · iexact Ho
    iintro Ho
    isplitl [Ho]; · iexact Ho
    iexact H
  | 4 =>
    show stage4 m c ⊢ iprop(∃ O, ⌜Above 0 O⌝ ∗ ow c O ∗ (ow c O -∗ stage4 m c))
    unfold stage4
    iintro ⟨Ho, H⟩
    iexists 0
    isplitr; · ipureintro; exact above_zero 0
    isplitl [Ho]; · iexact Ho
    iintro Ho
    isplitl [Ho]; · iexact Ho
    iexact H
  | k + 5 =>
    show stage5 m c ⊢ iprop(∃ O, ⌜Above 0 O⌝ ∗ ow c O ∗ (ow c O -∗ stage5 m c))
    unfold stage5
    iintro ⟨Ho, H⟩
    iexists 0
    isplitr; · ipureintro; exact above_zero 0
    isplitl [Ho]; · iexact Ho
    iintro Ho
    isplitl [Ho]; · iexact Ho
    iexact H

/-- The scales. -/
def sc2 : Elt F .f32 := m ((c : Thread nD τ).loc main_arg2) (ix1 (n := 1) 0)
def sc3 : Elt F .f32 := m ((c : Thread nD τ).loc main_arg3) (ix1 (n := 1) 0)

/-- The result after t points. -/
def outAt (o₀ : OBuf F) : ℕ → OBuf F
  | 0 => o₀
  | t + 1 => pointStep m c ⟨t / 8 % 4, Nat.mod_lt _ (by decide)⟩ ⟨t % 8, Nat.mod_lt _ (by decide)⟩ (sc2 m c) (sc3 m c)
      (wB m c ⟨t / 8 % 4, Nat.mod_lt _ (by decide)⟩ ⟨t % 8, Nat.mod_lt _ (by decide)⟩) (outAt o₀ t)

theorem outAt_succ (o₀ : OBuf F) (t : Fin grid0.N) : outAt m c o₀ (t.val + 1) =
    pointStep m c (grid0.coords t 0) (grid0.coords t 1) (sc2 m c) (sc3 m c) (wB m c (grid0.coords t 0) (grid0.coords t 1)) (outAt m c o₀ t.val) := by
  have h0 : (grid0.coords t 0 : Fin 4) = ⟨t.val / 8 % 4, Nat.mod_lt _ (by decide)⟩ := Fin.ext (by
    have ht : t.val < 32 := N_0 ▸ t.isLt
    show (grid0.coords t 0).val = t.val / 8 % 4
    rw [co_0]; omega)
  have h1 : (grid0.coords t 1 : Fin 8) = ⟨t.val % 8, Nat.mod_lt _ (by decide)⟩ := Fin.ext (co_1 t)
  rw [h0, h1]
  rfl

/-! ## The calls -/

/-- The staging buffers at point t. -/
def slotsOf (t : Fin grid0.N) : (w : Fin 5) → Fin ((cfg0 a).win w).nbuf
  | 0 => (0 : Fin 1)
  | 1 => sl t.val
  | 2 => (0 : Fin 1)
  | 3 => (0 : Fin 1)
  | 4 => (0 : Fin 1)

theorem slots_eq (t : Fin grid0.N) : (cfg0 a).slots t = slotsOf a t := by
  funext w
  match w with
  | 0 => exact Subsingleton.elim (α := Fin 1) _ _
  | 1 => exact slot_1 a t.val t.isLt
  | 2 => exact Subsingleton.elim (α := Fin 1) _ _
  | 3 => exact Subsingleton.elim (α := Fin 1) _ _
  | 4 => exact Subsingleton.elim (α := Fin 1) _ _

theorem h𝔻 (ℓ : Λ₀.Label) (x : Λ₀.Args ℓ) : Pipeline.defs (pcfgs (F := F)) (defs₀ (F := F)) (.tc : Proc τ) (Pipeline.kernel ℓ) x = Pipeline.liftProg (defs₀ (F := F) .tc ℓ x) :=
  Pipeline.defs_kernel _ _ _ _ _

theorem wp_bodyAt (ht : TabAt c (a.1 0)) (t : Fin grid0.N) (o₀ : OBuf F) {n : ℕ} {Q : PUnit → sProp 𝕄} {k : PP F} :
    iprop(Ctx m κ ∗ tabPt c (a.1 0) ∗ wGot m a c t (sl t.val) ∗ scPt2 c (sc2 m c) ∗ scPt3 c (sc3 m c) ∗ oPt c (outAt m c o₀ t.val) ∗ stage m c (stK t.val))
      ⊢ iprop((tabPt c (a.1 0) ∗ wGot m a c t (sl t.val) ∗ scPt2 c (sc2 m c) ∗ scPt3 c (sc3 m c) ∗ oPt c (outAt m c o₀ (t.val + 1)) ∗ stage m c (stK (t.val + 1))
          -∗ WQ c (some (.inr n)) k Q)
        -∗ WQ c (some (.inr n)) (bodyAt a t k) Q) := by
  have htl : t.val < 32 := N_0 ▸ t.isLt
  have hA : (if (grid0.coords t 1).val = 0 then (grid0.coords t 0).val else (grid0.coords t 0).val + 1) = stK t.val := by
    rw [co_0, co_1]; unfold stK; rw [if_neg (show t.val ≠ 32 by omega)]
  have hB : (if (grid0.coords t 0).val = 3 ∧ (grid0.coords t 1).val = 7 then 5 else (grid0.coords t 0).val + 1) = stK (t.val + 1) := by
    rw [co_0, co_1]; unfold stK; split <;> split <;> (try split) <;> omega
  have hp := point_all m κ c (grid0.coords t) (spec0_1.stage (sl t.val)) (hstage0_1 _) (wB m c (grid0.coords t 0) (grid0.coords t 1)) (wGot m a c t (sl t.val))
    (loads_w m a c t (sl t.val)) (a.1 0) (tab_ok c ht) (sc2 m c) (sc3 m c)
  rw [hA, hB] at hp
  unfold bodyAt
  rw [slots_eq a t, outAt_succ m c o₀ t]
  iintro ⟨#HC, Ht, HR, H2, H3, Ho, HA⟩ Hk
  iapply (wp_call (defs := Pipeline.defs (pcfgs (F := F)) defs₀) (Variants.lift 𝒱₀) (c : Thread nD τ) (some (.inr n)) Set.univ (Sum.inl none) (fun u hu => by cases hu; exact Sum.Lex.sep _ _))
  iapply (show wp frame (wpE (Pipeline.defs (pcfgs (F := F)) defs₀) (Variants.lift 𝒱₀) (c : Thread nD τ) (some (Sum.inl none))) Set.univ
      (Pipeline.liftProg (defs₀ (F := F) .tc (cfg0 a).body ((cfg0 a).bodyArgs t (slotsOf a t)))) _ ⊢ wp frame (wpE (Pipeline.defs (pcfgs (F := F)) defs₀) (Variants.lift 𝒱₀) (c : Thread nD τ) (some (Sum.inl none))) Set.univ
      (Pipeline.defs (pcfgs (F := F)) (defs₀ (F := F)) (.tc : Proc τ) (Pipeline.kernel (cfg0 a).body) ((cfg0 a).bodyArgs t (slotsOf a t))) _ from by rw [h𝔻])
  iapply (Pipeline.wp_liftProg (Pipeline.defs (pcfgs (F := F)) defs₀) (fun pr ℓ x => Pipeline.defs_kernel _ _ pr ℓ x) 𝒱₀ (c : Thread nD τ) Set.univ none)
  iapply (hp _ (outAt m c o₀ t.val)) $$ [Ht HR H2 H3 Ho HA]
  · isplitr; · iexact HC
    isplitl [Ht]; · iexact Ht
    isplitl [HR]; · iexact HR
    isplitl [H2]; · iexact H2
    isplitl [H3]; · iexact H3
    isplitl [Ho]; · iexact Ho
    iexact HA
  iexact Hk

theorem wp_goOn (l : ℕ) (hl : l + 1 < 34) {n n' : ℕ} (hn : n' < n) {Q : PUnit → sProp 𝕄} :
    WQ c (some (.inr n')) ((cfg0 a).iter (nD := nD) (τ := τ) (Val := Elt F) (A := fun p => (pcfgs (F := F) p).Adm) (0 : Fin 1) a (l + 1)) Q
      ⊢ WQ c (some (.inr n)) (goOn a l) Q := by
  unfold goOn
  rw [if_pos hl]
  iintro H
  iapply (wp_call (defs := Pipeline.defs (pcfgs (F := F)) defs₀) (Variants.lift 𝒱₀) (c : Thread nD τ) (some (.inr n)) Set.univ (Sum.inr n') (fun u hu => by cases hu; exact Sum.Lex.inr hn))
  iapply (wp_wand_r frame _ Set.univ)
  isplitl [H]
  · iexact H
  iintro %x HQ
  iapply (show Q ⟨⟩ ⊢ wp frame (wpE (Pipeline.defs (pcfgs (F := F)) defs₀) (Variants.lift 𝒱₀) (c : Thread nD τ) (some (.inr n))) Set.univ (.ret ⟨⟩) Q from by
    rw [wp_ret]; exact fupd_intro)
  iexact HQ

end Cert.A2A

end
-- ==== Proof.Loop.lean ====
/-
  The staged loop from its second point on.
-/
module

public import proofs.«01_k».proof.Proof.Moves

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (a : Ad F) (c : Dev nD)

/-! ## The result's copy and the arguments staged once -/

theorem wp_sto (t : Fin grid0.N) (s : Fin ((cfg0 a).win 4).nbuf) (hs : (cfg0 a).slots t 4 = s)
    {bd : Option (Variants.lift 𝒱₀).V} {Q : PUnit → sProp 𝕄} {k : PP F}
    {fs : Buf (Elt F) ((bAt a 4 t s).view.loc (c : Thread nD τ))} {fd g : Buf (Elt F) (rLoc a c t)} {S} (hS : (bAt a 4 t s).view.set = S)
    (hg : (((cfg0 a).win 4).blk t).view.write (Elt F) fd (ReadAs.same.apply ((bAt a 4 t s).view.read (Elt F) fs)) Finset.univ = g)
    {O : CellTallies nD τ sig Unit} (hl : lv ((c : Thread nD τ), .dma (((cfg0 a).win 4).sem s)) () = 0) (hO : Above 0 O) :
    iprop(((bAt a 4 t s).view.loc (c : Thread nD τ) ↦[S]{fullShare} fs) ∗ (rLoc a c t ↦[Finset.univ]{fullShare} fd) ∗ semVal ((c : Thread nD τ), .dma (((cfg0 a).win 4).sem s)) 0 ∗ ow c O ∗ levAts L lv)
      ⊢ iprop((iprop((rLoc a c t ↦[Finset.univ]{fullShare} g) ∗ ((bAt a 4 t s).view.loc (c : Thread nD τ) ↦[S]{fullShare} fs)
            ∗ semVal ((c : Thread nD τ), .dma (((cfg0 a).win 4).sem s)) 0 ∗ ow c O) -∗ WQ c bd k Q)
        -∗ WQ c bd (stOut a t (wtOut a t k)) Q) := by
  subst hs hg hS
  iintro ⟨Hs, Hd, Hv, Ho, Hl⟩ Hk
  iapply (wp_stOut a c t) $$ [Hs Hd Hv]
  · isplitl [Hs]; · iexact Hs
    isplitl [Hd]; · iexact Hd
    iexact Hv
  iintro Hf
  iapply (wp_wtOut a c t hl hO) $$ [Hf Ho Hl]
  · isplitl [Hf]; · iexact Hf
    isplitl [Ho]; · iexact Ho
    iexact Hl
  iintro ⟨⟨Hd, Hs⟩, Hv, Ho⟩
  iapply Hk
  isplitl [Hd]; · iexact Hd
  isplitl [Hs]; · iexact Hs
  isplitl [Hv]; · iexact Hv
  iexact Ho

def outSem : sProp 𝕄 := semVal ((c : Thread nD τ), .dma cc0_sem4_0) 0
def resPt (o : OBuf F) : sProp 𝕄 := ((c : Thread nD τ).loc main_v8) ↦[Finset.univ]{fullShare} o

theorem wp_out (t : Fin grid0.N) (o : OBuf F) {bd : Option (Variants.lift 𝒱₀).V} {Q : PUnit → sProp 𝕄} {k : PP F} {O : CellTallies nD τ sig Unit} (hO : Above 0 O) :
    iprop(oPt c o ∗ (∃ f, resPt c f) ∗ outSem c ∗ ow c O ∗ levAts L lv)
      ⊢ iprop((iprop(resPt c o ∗ oPt c o ∗ outSem c ∗ ow c O) -∗ WQ c bd k Q) -∗ WQ c bd (stOut a t (wtOut a t k)) Q) := by
  have hl : lv ((c : Thread nD τ), .dma cc0_sem4_0) () = 0 := by revert c; decide
  unfold oPt resPt outSem
  iintro ⟨Hs, ⟨%fd, Hd⟩, Hv, Ho, Hl⟩ Hk
  iapply (wp_sto a c t (0 : Fin 1) (Subsingleton.elim (α := Fin 1) _ _) (fs := o) (fd := fd) (g := o) (stg4_set a t) (out_val a c t o fd) hl hO) $$ [Hs Hd Hv Ho Hl]
  · isplitl [Hs]; · iexact Hs
    isplitl [Hd]; · iexact Hd
    isplitl [Hv]; · iexact Hv
    isplitl [Ho]; · iexact Ho
    iexact Hl
  iexact Hk

/-! ## The steps from the second point on -/

def Held (o₀ : OBuf F) (t : ℕ) : sProp 𝕄 :=
  iprop(tabPt c (a.1 0) ∗ scPt2 c (sc2 m c) ∗ scPt3 c (sc3 m c) ∗ oPt c (outAt m c o₀ t) ∗ stage m c (stK t))

/-- What is held when the loop is done. -/
def Done (o₀ : OBuf F) : sProp 𝕄 := iprop(Held m a c o₀ 32 ∗ wIdle m c 0 ∗ wIdle m c 1 ∗ resPt c (outAt m c o₀ 32) ∗ outSem c)

theorem ctx_levs : Ctx m κ ⊢ levAts L lv := by
  unfold Ctx; exact Laws.sep_elim_right

/-- A point: its block waited for, then the body. -/
theorem wp_point (ht : TabAt c (a.1 0)) (t : Fin grid0.N) (o₀ : OBuf F) {n : ℕ} {Q : PUnit → sProp 𝕄} {k : PP F} :
    iprop(Ctx m κ ∗ wBusy m a c t (sl t.val) ∗ Held m a c o₀ t.val)
      ⊢ iprop((iprop(wIdle m c (sl t.val) ∗ Held m a c o₀ (t.val + 1)) -∗ WQ c (some (.inr n)) k Q)
        -∗ WQ c (some (.inr n)) (wtIn a 1 t (bodyAt a t k)) Q) := by
  unfold Held
  iintro ⟨#HC, Hb, Ht, H2, H3, Ho, HA⟩ Hk
  icases (stage_ow m c (stK t.val)) $$ HA with ⟨%O, %hO, Hw, HA⟩
  iapply (wp_wait1 m a c t hO) $$ [Hb Hw]
  · isplitl [Hb]; · iexact Hb
    isplitl [Hw]; · iexact Hw
    iapply (ctx_levs m κ); iexact HC
  iintro ⟨⟨Hg, Hs, Hr⟩, Hw⟩
  iapply (wp_bodyAt m κ a c ht t o₀) $$ [Ht H2 H3 Ho HA Hw Hg]
  · isplitr; · iexact HC
    isplitl [Ht]; · iexact Ht
    isplitl [Hg]; · iexact Hg
    isplitl [H2]; · iexact H2
    isplitl [H3]; · iexact H3
    isplitl [Ho]; · iexact Ho
    iapply HA $$ Hw
  iintro ⟨Ht, Hg, H2, H3, Ho, HA⟩
  iapply Hk
  isplitl [Hg Hs Hr]
  · iapply (wGot_idle m a c t _)
    isplitl [Hg]; · iexact Hg
    isplitl [Hs]; · iexact Hs
    iexact Hr
  isplitl [Ht]; · iexact Ht
  isplitl [H2]; · iexact H2
  isplitl [H3]; · iexact H3
  isplitl [Ho]; · iexact Ho
  iexact HA

theorem wp_pointN (ht : TabAt c (a.1 0)) (t : ℕ) (h : t < 32) (o₀ : OBuf F) {n : ℕ} {Q : PUnit → sProp 𝕄} {k : PP F} :
    iprop(Ctx m κ ∗ wBusy m a c (pt t h) (sl t) ∗ Held m a c o₀ t)
      ⊢ iprop((iprop(wIdle m c (sl t) ∗ Held m a c o₀ (t + 1)) -∗ WQ c (some (.inr n)) k Q)
        -∗ WQ c (some (.inr n)) (wtIn a 1 (pt t h) (bodyAt a (pt t h) k)) Q) :=
  wp_point m κ a c ht (pt t h) o₀

theorem wp_startN (ht : TabAt c (a.1 0)) (t : ℕ) (h : t < 32) {bd : Option (Variants.lift 𝒱₀).V} {Q : PUnit → sProp 𝕄} {k : PP F} :
    wIdle m c (sl t) ⊢ iprop((wBusy m a c (pt t h) (sl t) -∗ WQ c bd k Q) -∗ WQ c bd (stIn a 1 (pt t h) k) Q) :=
  wp_start1 m a c ht (pt t h)

theorem loop_last (ht : TabAt c (a.1 0)) (o₀ : OBuf F) {Q : PUnit → sProp 𝕄} :
    iprop(Ctx m κ ∗ wBusy m a c (pt 31 (by decide)) (sl 31) ∗ wIdle m c (sl 32) ∗ Held m a c o₀ 31 ∗ (∃ f, resPt c f) ∗ outSem c)
      ⊢ iprop((Done m a c o₀ -∗ Q ⟨⟩) -∗ WQ c (some (.inr 2)) ((cfg0 a).iter (nD := nD) (τ := τ) (Val := Elt F) (A := fun p => (pcfgs (F := F) p).Adm) (0 : Fin 1) a 32) Q) := by
  rw [iter_last]
  iintro ⟨#HC, Hb, Hi, HH, Hf, Hs⟩ Hk
  iapply (wp_pointN m κ a c ht 31 _ o₀) $$ [Hb HH]
  · isplitr; · iexact HC
    isplitl [Hb]; · iexact Hb
    iexact HH
  unfold Held
  iintro ⟨Hi', Ht, H2, H3, Ho, HA⟩
  icases (stage_ow m c (stK 32)) $$ HA with ⟨%O, %hO, Hw, HA⟩
  iapply (wp_out a c (pt 31 _) (outAt m c o₀ 32) hO) $$ [Ho Hf Hs Hw]
  · isplitl [Ho]; · iexact Ho
    isplitl [Hf]; · iexact Hf
    isplitl [Hs]; · iexact Hs
    isplitl [Hw]; · iexact Hw
    iapply (ctx_levs m κ); iexact HC
  iintro ⟨Hres, Ho, Hs, Hw⟩
  iapply (wp_goOn a c 32 (by decide) (n' := 1) (by decide))
  rw [iter_end]
  iapply (show Q ⟨⟩ ⊢ wp frame (wpE (Pipeline.defs (pcfgs (F := F)) defs₀) (Variants.lift 𝒱₀) (c : Thread nD τ) (some (.inr 1))) Set.univ (.ret ⟨⟩) Q from by
    rw [wp_ret]; exact fupd_intro)
  iapply Hk
  unfold Done Held
  isplitl [Ht H2 H3 Ho HA Hw]
  · isplitl [Ht]; · iexact Ht
    isplitl [H2]; · iexact H2
    isplitl [H3]; · iexact H3
    isplitl [Ho]; · iexact Ho
    iapply HA $$ Hw
  isplitl [Hi]; · iexact Hi
  isplitl [Hi']; · iexact Hi'
  isplitl [Hres]; · iexact Hres
  iexact Hs

theorem loop_from (ht : TabAt c (a.1 0)) (o₀ : OBuf F) {Q : PUnit → sProp 𝕄} : ∀ (j t : ℕ) (h : t + j = 31) (h1 : 1 ≤ t),
    iprop(Ctx m κ ∗ wBusy m a c (pt t (by omega)) (sl t) ∗ wIdle m c (sl (t + 1)) ∗ Held m a c o₀ t ∗ (∃ f, resPt c f) ∗ outSem c)
      ⊢ iprop((Done m a c o₀ -∗ Q ⟨⟩) -∗ WQ c (some (.inr (33 - t))) ((cfg0 a).iter (nD := nD) (τ := τ) (Val := Elt F) (A := fun p => (pcfgs (F := F) p).Adm) (0 : Fin 1) a (t + 1)) Q) := by
  intro j
  induction j with
  | zero =>
    intro t h h1
    obtain rfl : t = 31 := by omega
    exact loop_last m κ a c ht o₀
  | succ j ih =>
    intro t h h1
    rw [iter_mid a t h1 (by omega)]
    have e2 : sl (t + 1 + 1) = sl t := Fin.ext (by show (t + 1 + 1) % 2 = t % 2; omega)
    iintro ⟨#HC, Hb, Hi, HH, Hf, Hs⟩ Hk
    iapply (wp_startN m a c ht (t + 1) _) $$ Hi
    iintro Hn
    iapply (wp_pointN m κ a c ht t _ o₀) $$ [Hb HH]
    · isplitr; · iexact HC
      isplitl [Hb]; · iexact Hb
      iexact HH
    iintro ⟨Hi, HH⟩
    iapply (wp_goOn a c (t + 1) (by omega) (n' := 33 - (t + 1)) (by omega))
    iapply (ih (t + 1) (by omega) (by omega)) $$ [Hn Hi HH Hf Hs]
    · isplitr; · iexact HC
      isplitl [Hn]; · iexact Hn
      isplitl [Hi]; · rw [e2]; iexact Hi
      isplitl [HH]; · iexact HH
      isplitl [Hf]; · iexact Hf
      iexact Hs
    iexact Hk

end Cert.A2A

end
-- ==== Proof.Pieces.lean ====
/-
  The exchange before its first point and after its last: the buffers cut into the pieces that travel, and put together again.
-/
module

public import proofs.«01_k».proof.Proof.Points

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The staged x block and the communication buffer, whole and in pieces -/

omit [FloatOps F] in
theorem x_univ : (Finset.univ : Finset (Idx (xLoc c))) = Finset.univ.biUnion xSlot :=
  Finset.ext fun i => ⟨fun _ => (Finset.ext_iff.mp xUniv_eq i).mp (Finset.mem_univ (α := S4096x1024.Idx) i), fun _ => Finset.mem_univ i⟩
omit [FloatOps F] in
theorem c_univ : (Finset.univ : Finset (Idx (cLoc c))) = Finset.univ.biUnion cSlot :=
  Finset.ext fun i => ⟨fun _ => (Finset.ext_iff.mp cUniv_eq i).mp (Finset.mem_univ (α := S4x1024x1024.Idx) i), fun _ => Finset.mem_univ i⟩

omit [FloatOps F] in
theorem x_slot (j : Fin 4) : (xLoc c ↦[xSlot j]{fullShare} xv m c : sProp 𝕄) = four fun k => xPc m c j k := by
  unfold four
  rw [← bigSep_four (fun k => xPc m c j k), xSlot_eq]
  exact pointsTo_biUnion _ _ (fun a _ b _ h => xChunk_disj _ h)

omit [FloatOps F] in
theorem x_split : (xLoc c ↦[Finset.univ]{fullShare} xv m c : sProp 𝕄) = iprop(xKeep m c ∗ sBack m c 0 ∗ sBack m c 1 ∗ sBack m c 2) := by
  unfold xKeep sBack
  rw [← x_slot m c (peer 0 c), ← x_slot m c (peer 1 c), ← x_slot m c (peer 2 c), ← bigSep_peer c (fun j : Fin 4 => (xLoc c ↦[xSlot j]{fullShare} xv m c : sProp 𝕄)), x_univ]
  exact pointsTo_biUnion _ _ (fun a _ b _ h => xSlot_disj h)

omit [FloatOps F] in
theorem c_split (f : Buf (Elt F) (cLoc c)) : (cLoc c ↦[Finset.univ]{fullShare} f : sProp 𝕄) = bigSep Finset.univ fun j : Fin 4 => (cLoc c ↦[cSlot j]{fullShare} f) := by
  rw [c_univ]
  exact pointsTo_biUnion _ _ (fun a _ b _ h => cSlot_disj h)

omit [FloatOps F] in
theorem c_chunks (j : Fin 4) (f : Buf (Elt F) (cLoc c)) : (cLoc c ↦[cSlot j]{fullShare} f : sProp 𝕄) = bigSep Finset.univ fun k : Fin 4 => (cLoc c ↦[cChunk j k]{fullShare} f) := by
  rw [cSlot_eq]
  exact pointsTo_biUnion _ _ (fun a _ b _ h => cChunk_disj _ h)

/-- The receive cells of device c stand at their first round. -/
def rReach : sProp 𝕄 := bigSep Finset.univ fun j : Fin 4 => bigSep Finset.univ fun k : Fin 4 => reached ER (recvCell c j k) 0

theorem bar_mk (j : Fin 4) (f : Buf (Elt F) (cLoc c)) :
    iprop((cLoc c ↦[cSlot j]{fullShare} f) ∗ (bigSep Finset.univ fun k : Fin 4 => reached ER (recvCell c j k) 0)) ⊢ (barPay j c : sProp 𝕄) := by
  unfold barPay
  rw [c_chunks, ← bigSep_sep']
  refine bigSep_mono fun k _ => ?_
  show iprop((cLoc c ↦[cChunk j k]{fullShare} f) ∗ reached ER (recvCell c j k) 0) ⊢ iprop(cAny c j k ∗ (reached ER (recvCell c j k) 0 : sProp 𝕄))
  iintro ⟨H, R⟩
  isplitl [H]
  · iexists f; iexact H
  iexact R

/-- The buffer with the receive cells' rounds: the own slot, and what the three signals hand over. -/
theorem c_open (f : Buf (Elt F) (cLoc c)) :
    iprop((cLoc c ↦[Finset.univ]{fullShare} f) ∗ rReach c)
      ⊢ iprop((∃ f : Buf (Elt F) (cLoc c), cLoc c ↦[cSlot c]{fullShare} f) ∗ barPay (peer 0 c) c ∗ barPay (peer 1 c) c ∗ (barPay (peer 2 c) c : sProp 𝕄)) := by
  unfold rReach
  rw [c_split, bigSep_peer c (fun j : Fin 4 => (cLoc c ↦[cSlot j]{fullShare} f : sProp 𝕄)), bigSep_peer c (fun j : Fin 4 => (bigSep Finset.univ fun k : Fin 4 => reached ER (recvCell c j k) 0 : sProp 𝕄))]
  iintro ⟨⟨H, H0, H1, H2⟩, -, R0, R1, R2⟩
  isplitl [H]
  · iexists f; iexact H
  isplitl [H0 R0]
  · iapply (bar_mk c (peer 0 c) f)
    isplitl [H0]; · iexact H0
    iexact R0
  isplitl [H1 R1]
  · iapply (bar_mk c (peer 1 c) f)
    isplitl [H1]; · iexact H1
    iexact R1
  iapply (bar_mk c (peer 2 c) f)
  isplitl [H2]; · iexact H2
  iexact R2

theorem c_close : iprop(slotPt m c c ∗ slotPt m c (src 0 c) ∗ slotPt m c (src 1 c) ∗ slotPt m c (src 2 c)) ⊢ (cLoc c ↦[Finset.univ]{fullShare} commBuf m c : sProp 𝕄) := by
  unfold slotPt
  rw [c_split, bigSep_src c (fun j : Fin 4 => (cLoc c ↦[cSlot j]{fullShare} commBuf m c : sProp 𝕄))]

/-! ## Before the first point -/

/-- What the exchange starts from, but for the duty, the buffer and the staged block. -/
def Tok : sProp 𝕄 :=
  iprop(atPos ER (barCell c) 0 ∅ 0 ∗ cred (tallyAt (barCell c) () 3)
    ∗ dutyTok ER (barCell (peer 0 c)) 0 c ∗ dutyTok ER (barCell (peer 1 c)) 0 c ∗ dutyTok ER (barCell (peer 2 c)) 0 c
    ∗ four (sTok c 0) ∗ four (sTok c 1) ∗ four (sTok c 2)
    ∗ rPend c 0 ∗ rPend c 1 ∗ rPend c 2 ∗ sPos c 0 0 ∗ sPos c 1 0 ∗ sPos c 2 0)

theorem mk_stage0 : iprop(ow c (O₀ c) ∗ Tok c ∗ rReach c ∗ (∃ f, cLoc c ↦[Finset.univ]{fullShare} f) ∗ (xLoc c ↦[Finset.univ]{fullShare} xv m c)) ⊢ stage m c 0 := by
  show _ ⊢ stage0 m c
  unfold stage0 start Tok
  rw [x_split]
  iintro ⟨Hw, ⟨B, Cr, T0, T1, T2, S0, S1, S2, R0, R1, R2, P0, P1, P2⟩, Rr, ⟨%f, Hc⟩, X, X0, X1, X2⟩
  icases (c_open c f) $$ [Hc Rr] with ⟨Hc, B0, B1, B2⟩
  · isplitl [Hc]; · iexact Hc
    iexact Rr
  isplitr [R0 R1 R2 P0 P1 P2]
  · isplitl [Hw]; · iexact Hw
    isplitl [B]; · iexact B
    isplitl [Cr]; · iexact Cr
    isplitl [T0]; · iexact T0
    isplitl [T1]; · iexact T1
    isplitl [T2]; · iexact T2
    isplitl [B0]; · iexact B0
    isplitl [B1]; · iexact B1
    isplitl [B2]; · iexact B2
    isplitl [Hc]; · iexact Hc
    isplitl [X]; · iexact X
    isplitl [S0]; · iexact S0
    isplitl [S1]; · iexact S1
    isplitl [S2]; · iexact S2
    isplitl [X0]; · iexact X0
    isplitl [X1]; · iexact X1
    iexact X2
  isplitl [R0]; · iexact R0
  isplitl [R1]; · iexact R1
  isplitl [R2]; · iexact R2
  isplitl [P0]; · iexact P0
  isplitl [P1]; · iexact P1
  iexact P2

/-! ## After the last point -/

/-- Where the cells stand at the end. -/
def Pos : sProp 𝕄 :=
  iprop(atPos ER (barCell c) 1 ∅ 0 ∗ rPos c 0 1 ∗ rPos c 1 1 ∗ rPos c 2 1 ∗ sPos c 0 1 ∗ sPos c 1 1 ∗ sPos c 2 1)

theorem of_stage5 : stage m c 5 ⊢ iprop(ow c 0 ∗ Pos c ∗ (∃ f, cLoc c ↦[Finset.univ]{fullShare} f) ∗ (xLoc c ↦[Finset.univ]{fullShare} xv m c)) := by
  show stage5 m c ⊢ _
  unfold stage5 Pos
  rw [x_split]
  iintro ⟨Hw, B, C, X, R0, C0, R1, C1, R2, C2, P0, P1, P2, X0, X1, X2⟩
  isplitl [Hw]; · iexact Hw
  isplitl [B R0 R1 R2 P0 P1 P2]
  · isplitl [B]; · iexact B
    isplitl [R0]; · iexact R0
    isplitl [R1]; · iexact R1
    isplitl [R2]; · iexact R2
    isplitl [P0]; · iexact P0
    isplitl [P1]; · iexact P1
    iexact P2
  isplitl [C C0 C1 C2]
  · iexists (commBuf m c)
    iapply (c_close m c)
    isplitl [C]; · iexact C
    isplitl [C0]; · iexact C0
    isplitl [C1]; · iexact C1
    iexact C2
  isplitl [X]; · iexact X
  isplitl [X0]; · iexact X0
  isplitl [X1]; · iexact X1
  iexact X2

end Cert.A2A

end
-- ==== Proof.Enter.lean ====
/-
  The whole staged loop: the arguments staged once, the first point, the rest.
-/
module

public import proofs.«01_k».proof.Proof.Loop
public import proofs.«01_k».proof.Proof.Pieces

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (a : Ad F) (c : Dev nD)

/-! ## The arguments staged once -/

theorem wp_stw (w : Fin 5) (t : Fin grid0.N) (s : Fin ((cfg0 a).win w).nbuf) (hs : (cfg0 a).slots t w = s)
    {bd : Option (Variants.lift 𝒱₀).V} {Q : PUnit → sProp 𝕄} {k : PP F} {q : PosShare TreeShare}
    {fs : Buf (Elt F) ((((cfg0 a).win w).blk t).view.loc (c : Thread nD τ))} {fd g : Buf (Elt F) ((bAt a w t s).view.loc (c : Thread nD τ))}
    {S} (hS : (((cfg0 a).win w).blk t).view.set = S)
    (hg : (bAt a w t s).view.write (Elt F) fd (ReadAs.same.apply ((((cfg0 a).win w).blk t).view.read (Elt F) fs)) Finset.univ = g) :
    iprop(((((cfg0 a).win w).blk t).view.loc (c : Thread nD τ) ↦[S]{q} fs) ∗ ((bAt a w t s).view.loc (c : Thread nD τ) ↦[Finset.univ]{fullShare} fd) ∗ semVal ((c : Thread nD τ), .dma (((cfg0 a).win w).sem s)) 0)
      ⊢ iprop((Transfers.Flight EC (c : Thread nD τ) (.dma (((cfg0 a).win w).sem s)) () (bAt a w t s).view.dmaCredit
            iprop(((bAt a w t s).view.loc (c : Thread nD τ) ↦[Finset.univ]{fullShare} g)
              ∗ ((((cfg0 a).win w).blk t).view.loc (c : Thread nD τ) ↦[S]{q} fs)) -∗ WQ c bd k Q)
        -∗ WQ c bd (stIn a w t k) Q) := by
  subst hS
  exact wp_stv a c w t s hs hg

omit [FloatOps F] in
theorem one_ix (f : (⟨S1, .f32⟩ : BufTy).Contents (Elt F)) : f = fun _ => f (ix1 (n := 1) 0) := by
  funext y
  refine congrArg f ?_
  refine funext fun (ax : Fin 1) => Fin.ext ?_
  match ax with
  | 0 =>
    have hy : (y (0 : Fin 1)).val < 1 := (y (0 : Fin 1)).isLt
    show (y (0 : Fin 1)).val = 0
    omega

omit [FloatOps F] in
theorem sc2_of : (((c : Thread nD τ).loc cc0_stg2_0) ↦[Finset.univ]{fullShare} (m ((c : Thread nD τ).loc main_arg2) : (⟨S1, .f32⟩ : BufTy).Contents (Elt F)) : sProp 𝕄) = scPt2 c (sc2 m c) := by
  unfold scPt2 sc2
  exact congrArg (fun f : (⟨S1, .f32⟩ : BufTy).Contents (Elt F) => (((c : Thread nD τ).loc cc0_stg2_0) ↦[Finset.univ]{fullShare} f : sProp 𝕄)) (one_ix _)
omit [FloatOps F] in
theorem sc3_of : (((c : Thread nD τ).loc cc0_stg3_0) ↦[Finset.univ]{fullShare} (m ((c : Thread nD τ).loc main_arg3) : (⟨S1, .f32⟩ : BufTy).Contents (Elt F)) : sProp 𝕄) = scPt3 c (sc3 m c) := by
  unfold scPt3 sc3
  exact congrArg (fun f : (⟨S1, .f32⟩ : BufTy).Contents (Elt F) => (((c : Thread nD τ).loc cc0_stg3_0) ↦[Finset.univ]{fullShare} f : sProp 𝕄)) (one_ix _)

/-! ### Argument 0 -/

def arg0 : sProp 𝕄 := ((c : Thread nD τ).loc main_arg0) ↦[Finset.univ]{fullShare} m ((c : Thread nD τ).loc main_arg0)
def any0 : sProp 𝕄 := iprop(∃ f : Buf (Elt F) ((c : Thread nD τ).loc cc0_stg0_0), ((c : Thread nD τ).loc cc0_stg0_0) ↦[Finset.univ]{fullShare} f)
def sem0 : sProp 𝕄 := semVal ((c : Thread nD τ), .dma cc0_sem0_0) 0
def fly0 (t : Fin grid0.N) : sProp 𝕄 :=
  Transfers.Flight EC (c : Thread nD τ) (.dma cc0_sem0_0) () (bAt a 0 t (0 : Fin 1)).view.dmaCredit
    iprop((((c : Thread nD τ).loc cc0_stg0_0) ↦[Finset.univ]{fullShare} m ((c : Thread nD τ).loc main_arg0)) ∗ (((c : Thread nD τ).loc main_arg0) ↦[Finset.univ]{fullShare} m ((c : Thread nD τ).loc main_arg0)))

theorem wp_start0 (t : Fin grid0.N) {bd : Option (Variants.lift 𝒱₀).V} {Q : PUnit → sProp 𝕄} {k : PP F} :
    iprop(arg0 m c ∗ any0 c ∗ sem0 c) ⊢ iprop((fly0 m a c t -∗ WQ c bd k Q) -∗ WQ c bd (stIn a 0 t k) Q) := by
  unfold arg0 any0 sem0 fly0
  iintro ⟨Ha, ⟨%fd, Hd⟩, Hs⟩
  iapply (wp_stw a c 0 t (0 : Fin 1) (Subsingleton.elim (α := Fin 1) _ _) (fs := m ((c : Thread nD τ).loc main_arg0)) (fd := fd) (g := m ((c : Thread nD τ).loc main_arg0)) (blk0_set a t) (st0_val a c t fd _))
  isplitl [Ha]; · iexact Ha
  isplitl [Hd]; · iexact Hd
  iexact Hs

theorem wp_wait0 (t : Fin grid0.N) {bd : Option (Variants.lift 𝒱₀).V} {Q : PUnit → sProp 𝕄} {k : PP F} {O : CellTallies nD τ sig Unit} (hO : Above 0 O) :
    iprop(fly0 m a c t ∗ ow c O ∗ levAts L lv)
      ⊢ iprop((iprop((xLoc c ↦[Finset.univ]{fullShare} xv m c) ∗ arg0 m c ∗ sem0 c ∗ ow c O) -∗ WQ c bd k Q) -∗ WQ c bd (wtIn a 0 t k) Q) := by
  have hl : lv ((c : Thread nD τ), .dma cc0_sem0_0) () = 0 := by revert c; decide
  unfold arg0 sem0 fly0
  iintro ⟨Hf, Ho, Hl⟩ Hk
  iapply (wp_wt a c 0 t (0 : Fin 1) (Subsingleton.elim (α := Fin 1) _ _) hl hO) $$ [Hf Ho Hl]
  · isplitl [Hf]; · iexact Hf
    isplitl [Ho]; · iexact Ho
    iexact Hl
  iintro ⟨⟨Hd, Ha⟩, Hs, Ho⟩
  iapply Hk
  isplitl [Hd]
  · iexact Hd
  isplitl [Ha]; · iexact Ha
  isplitl [Hs]; · iexact Hs
  iexact Ho

/-! ### Argument 2 -/

def arg2 : sProp 𝕄 := ((c : Thread nD τ).loc main_arg2) ↦[Finset.univ]{fullShare} m ((c : Thread nD τ).loc main_arg2)
def any2 : sProp 𝕄 := iprop(∃ f : Buf (Elt F) ((c : Thread nD τ).loc cc0_stg2_0), ((c : Thread nD τ).loc cc0_stg2_0) ↦[Finset.univ]{fullShare} f)
def sem2 : sProp 𝕄 := semVal ((c : Thread nD τ), .dma cc0_sem2_0) 0
def fly2 (t : Fin grid0.N) : sProp 𝕄 :=
  Transfers.Flight EC (c : Thread nD τ) (.dma cc0_sem2_0) () (bAt a 2 t (0 : Fin 1)).view.dmaCredit
    iprop((((c : Thread nD τ).loc cc0_stg2_0) ↦[Finset.univ]{fullShare} m ((c : Thread nD τ).loc main_arg2)) ∗ (((c : Thread nD τ).loc main_arg2) ↦[Finset.univ]{fullShare} m ((c : Thread nD τ).loc main_arg2)))

theorem wp_start2 (t : Fin grid0.N) {bd : Option (Variants.lift 𝒱₀).V} {Q : PUnit → sProp 𝕄} {k : PP F} :
    iprop(arg2 m c ∗ any2 c ∗ sem2 c) ⊢ iprop((fly2 m a c t -∗ WQ c bd k Q) -∗ WQ c bd (stIn a 2 t k) Q) := by
  unfold arg2 any2 sem2 fly2
  iintro ⟨Ha, ⟨%fd, Hd⟩, Hs⟩
  iapply (wp_stw a c 2 t (0 : Fin 1) (Subsingleton.elim (α := Fin 1) _ _) (fs := m ((c : Thread nD τ).loc main_arg2)) (fd := fd) (g := m ((c : Thread nD τ).loc main_arg2)) (blk2_set a t) (st2_val a c t fd _))
  isplitl [Ha]; · iexact Ha
  isplitl [Hd]; · iexact Hd
  iexact Hs

theorem wp_wait2 (t : Fin grid0.N) {bd : Option (Variants.lift 𝒱₀).V} {Q : PUnit → sProp 𝕄} {k : PP F} {O : CellTallies nD τ sig Unit} (hO : Above 0 O) :
    iprop(fly2 m a c t ∗ ow c O ∗ levAts L lv)
      ⊢ iprop((iprop(scPt2 c (sc2 m c) ∗ arg2 m c ∗ sem2 c ∗ ow c O) -∗ WQ c bd k Q) -∗ WQ c bd (wtIn a 2 t k) Q) := by
  have hl : lv ((c : Thread nD τ), .dma cc0_sem2_0) () = 0 := by revert c; decide
  unfold arg2 sem2 fly2
  iintro ⟨Hf, Ho, Hl⟩ Hk
  iapply (wp_wt a c 2 t (0 : Fin 1) (Subsingleton.elim (α := Fin 1) _ _) hl hO) $$ [Hf Ho Hl]
  · isplitl [Hf]; · iexact Hf
    isplitl [Ho]; · iexact Ho
    iexact Hl
  iintro ⟨⟨Hd, Ha⟩, Hs, Ho⟩
  iapply Hk
  isplitl [Hd]
  · iapply (Entails.of_eq (sc2_of m c)); iexact Hd
  isplitl [Ha]; · iexact Ha
  isplitl [Hs]; · iexact Hs
  iexact Ho

/-! ### Argument 3 -/

def arg3 : sProp 𝕄 := ((c : Thread nD τ).loc main_arg3) ↦[Finset.univ]{fullShare} m ((c : Thread nD τ).loc main_arg3)
def any3 : sProp 𝕄 := iprop(∃ f : Buf (Elt F) ((c : Thread nD τ).loc cc0_stg3_0), ((c : Thread nD τ).loc cc0_stg3_0) ↦[Finset.univ]{fullShare} f)
def sem3 : sProp 𝕄 := semVal ((c : Thread nD τ), .dma cc0_sem3_0) 0
def fly3 (t : Fin grid0.N) : sProp 𝕄 :=
  Transfers.Flight EC (c : Thread nD τ) (.dma cc0_sem3_0) () (bAt a 3 t (0 : Fin 1)).view.dmaCredit
    iprop((((c : Thread nD τ).loc cc0_stg3_0) ↦[Finset.univ]{fullShare} m ((c : Thread nD τ).loc main_arg3)) ∗ (((c : Thread nD τ).loc main_arg3) ↦[Finset.univ]{fullShare} m ((c : Thread nD τ).loc main_arg3)))

theorem wp_start3 (t : Fin grid0.N) {bd : Option (Variants.lift 𝒱₀).V} {Q : PUnit → sProp 𝕄} {k : PP F} :
    iprop(arg3 m c ∗ any3 c ∗ sem3 c) ⊢ iprop((fly3 m a c t -∗ WQ c bd k Q) -∗ WQ c bd (stIn a 3 t k) Q) := by
  unfold arg3 any3 sem3 fly3
  iintro ⟨Ha, ⟨%fd, Hd⟩, Hs⟩
  iapply (wp_stw a c 3 t (0 : Fin 1) (Subsingleton.elim (α := Fin 1) _ _) (fs := m ((c : Thread nD τ).loc main_arg3)) (fd := fd) (g := m ((c : Thread nD τ).loc main_arg3)) (blk3_set a t) (st3_val a c t fd _))
  isplitl [Ha]; · iexact Ha
  isplitl [Hd]; · iexact Hd
  iexact Hs

theorem wp_wait3 (t : Fin grid0.N) {bd : Option (Variants.lift 𝒱₀).V} {Q : PUnit → sProp 𝕄} {k : PP F} {O : CellTallies nD τ sig Unit} (hO : Above 0 O) :
    iprop(fly3 m a c t ∗ ow c O ∗ levAts L lv)
      ⊢ iprop((iprop(scPt3 c (sc3 m c) ∗ arg3 m c ∗ sem3 c ∗ ow c O) -∗ WQ c bd k Q) -∗ WQ c bd (wtIn a 3 t k) Q) := by
  have hl : lv ((c : Thread nD τ), .dma cc0_sem3_0) () = 0 := by revert c; decide
  unfold arg3 sem3 fly3
  iintro ⟨Hf, Ho, Hl⟩ Hk
  iapply (wp_wt a c 3 t (0 : Fin 1) (Subsingleton.elim (α := Fin 1) _ _) hl hO) $$ [Hf Ho Hl]
  · isplitl [Hf]; · iexact Hf
    isplitl [Ho]; · iexact Ho
    iexact Hl
  iintro ⟨⟨Hd, Ha⟩, Hs, Ho⟩
  iapply Hk
  isplitl [Hd]
  · iapply (Entails.of_eq (sc3_of m c)); iexact Hd
  isplitl [Ha]; · iexact Ha
  isplitl [Hs]; · iexact Hs
  iexact Ho

/-! ## The whole loop -/

/-- What the loop takes besides the cells' state, and what it gives back. -/
def Pre : sProp 𝕄 :=
  iprop(tabPt c (a.1 0) ∗ (arg0 m c ∗ any0 c ∗ sem0 c) ∗ (arg2 m c ∗ any2 c ∗ sem2 c) ∗ (arg3 m c ∗ any3 c ∗ sem3 c)
    ∗ wIdle m c 0 ∗ wIdle m c 1 ∗ (∃ f, oPt c f) ∗ (∃ f, resPt c f) ∗ outSem c ∗ (∃ f, cLoc c ↦[Finset.univ]{fullShare} f))
def Post : sProp 𝕄 :=
  iprop(∃ o₀, tabPt c (a.1 0) ∗ (arg0 m c ∗ any0 c ∗ sem0 c) ∗ (arg2 m c ∗ any2 c ∗ sem2 c) ∗ (arg3 m c ∗ any3 c ∗ sem3 c)
    ∗ wIdle m c 0 ∗ wIdle m c 1 ∗ (∃ f, oPt c f) ∗ resPt c (outAt m c o₀ 32) ∗ outSem c ∗ (∃ f, cLoc c ↦[Finset.univ]{fullShare} f))

theorem wp_startP (ht : TabAt c (a.1 0)) {bd : Option (Variants.lift 𝒱₀).V} {Q : PUnit → sProp 𝕄} {k : PP F} :
    wIdle m c 0 ⊢ iprop((wBusy m a c (pt 0 (by decide)) 0 -∗ WQ c bd k Q) -∗ WQ c bd (stIn a 1 (pt 0 (by decide)) k) Q) :=
  wp_start1 m a c ht (pt 0 (by decide))

theorem wp_startQ (ht : TabAt c (a.1 0)) {bd : Option (Variants.lift 𝒱₀).V} {Q : PUnit → sProp 𝕄} {k : PP F} :
    wIdle m c 1 ⊢ iprop((wBusy m a c (pt 1 (by decide)) (sl 1) -∗ WQ c bd k Q) -∗ WQ c bd (stIn a 1 (pt 1 (by decide)) k) Q) :=
  wp_start1 m a c ht (pt 1 (by decide))

theorem wp_waitP {bd : Option (Variants.lift 𝒱₀).V} {Q : PUnit → sProp 𝕄} {k : PP F} {O : CellTallies nD τ sig Unit} (hO : Above 0 O) :
    iprop(wBusy m a c (pt 0 (by decide)) 0 ∗ ow c O ∗ levAts L lv)
      ⊢ iprop((iprop((wGot m a c (pt 0 (by decide)) 0 ∗ wSem c 0 ∗ wSrc m c 0) ∗ ow c O) -∗ WQ c bd k Q) -∗ WQ c bd (wtIn a 1 (pt 0 (by decide)) k) Q) :=
  wp_wait1 m a c (pt 0 (by decide)) hO

theorem wp_bodyP (ht : TabAt c (a.1 0)) (o₀ : OBuf F) {n : ℕ} {Q : PUnit → sProp 𝕄} {k : PP F} :
    iprop(Ctx m κ ∗ tabPt c (a.1 0) ∗ wGot m a c (pt 0 (by decide)) 0 ∗ scPt2 c (sc2 m c) ∗ scPt3 c (sc3 m c) ∗ oPt c o₀ ∗ stage m c 0)
      ⊢ iprop((iprop(wGot m a c (pt 0 (by decide)) 0 ∗ Held m a c o₀ 1) -∗ WQ c (some (.inr n)) k Q)
        -∗ WQ c (some (.inr n)) (bodyAt a (pt 0 (by decide)) k) Q) := by
  have h0 : 0 < 32 := by decide
  have h := wp_bodyAt m κ a c ht (pt 0 h0) o₀ (n := n) (Q := Q) (k := k)
  rw [show (pt 0 h0).val = 0 from rfl, show sl 0 = 0 from rfl, show outAt m c o₀ 0 = o₀ from rfl, show stK 0 = 0 from by decide] at h
  unfold Held
  iintro ⟨HC, H⟩ Hk
  iapply (show iprop(Ctx m κ ∗ tabPt c (a.1 0) ∗ wGot m a c (pt 0 h0) 0 ∗ scPt2 c (sc2 m c) ∗ scPt3 c (sc3 m c) ∗ oPt c o₀ ∗ stage m c 0)
      ⊢ iprop((iprop(tabPt c (a.1 0) ∗ wGot m a c (pt 0 h0) 0 ∗ scPt2 c (sc2 m c) ∗ scPt3 c (sc3 m c) ∗ oPt c (outAt m c o₀ 1) ∗ stage m c (stK 1)) -∗ WQ c (some (.inr n)) k Q)
        -∗ WQ c (some (.inr n)) (bodyAt a (pt 0 h0) k) Q) from h) $$ [HC H]
  · isplitl [HC]; · iexact HC
    iexact H
  iintro ⟨Ht, Hg, H2, H3, Ho, HA⟩
  iapply Hk
  isplitl [Hg]; · iexact Hg
  isplitl [Ht]; · iexact Ht
  isplitl [H2]; · iexact H2
  isplitl [H3]; · iexact H3
  isplitl [Ho]; · iexact Ho
  iexact HA

theorem loop_all (ht : TabAt c (a.1 0)) {Q : PUnit → sProp 𝕄} :
    iprop(Ctx m κ ∗ ow c (O₀ c) ∗ Tok c ∗ rReach c ∗ Pre m a c)
      ⊢ iprop((iprop(ow c 0 ∗ Pos c ∗ Post m a c) -∗ Q ⟨⟩) -∗ WQ c (some (.inr 34)) ((cfg0 a).iter (nD := nD) (τ := τ) (Val := Elt F) (A := fun p => (pcfgs (F := F) p).Adm) (0 : Fin 1) a 0) Q) := by
  rw [iter_first]
  unfold Pre
  iintro ⟨#HC, Hw, HT, HR, Htab, A0, A2, A3, I0, I1, ⟨%o₀, Ho⟩, Hres, Hsem, Hc⟩ Hk
  iapply (wp_startP m a c ht) $$ I0
  iintro B0
  iapply (wp_goOn a c 0 (by decide) (n' := 33) (by decide))
  rw [iter_second]
  iapply (wp_start0 m a c (pt 0 _)) $$ A0
  iintro F0
  iapply (wp_start2 m a c (pt 0 _)) $$ A2
  iintro F2
  iapply (wp_start3 m a c (pt 0 _)) $$ A3
  iintro F3
  iapply (wp_startQ m a c ht) $$ I1
  iintro B1
  iapply (wp_wait0 m a c (pt 0 _) (above_launch c)) $$ [F0 Hw]
  · isplitl [F0]; · iexact F0
    isplitl [Hw]; · iexact Hw
    iapply (ctx_levs m κ); iexact HC
  iintro ⟨X, A0, S0, Hw⟩
  iapply (wp_waitP m a c (above_launch c)) $$ [B0 Hw]
  · isplitl [B0]; · iexact B0
    isplitl [Hw]; · iexact Hw
    iapply (ctx_levs m κ); iexact HC
  iintro ⟨⟨G, Sw, Rw⟩, Hw⟩
  iapply (wp_wait2 m a c (pt 0 _) (above_launch c)) $$ [F2 Hw]
  · isplitl [F2]; · iexact F2
    isplitl [Hw]; · iexact Hw
    iapply (ctx_levs m κ); iexact HC
  iintro ⟨P2, A2, S2, Hw⟩
  iapply (wp_wait3 m a c (pt 0 _) (above_launch c)) $$ [F3 Hw]
  · isplitl [F3]; · iexact F3
    isplitl [Hw]; · iexact Hw
    iapply (ctx_levs m κ); iexact HC
  iintro ⟨P3, A3, S3, Hw⟩
  iapply (wp_bodyP m κ a c ht o₀) $$ [Htab G P2 P3 Ho Hw HT HR Hc X]
  · isplitr; · iexact HC
    isplitl [Htab]; · iexact Htab
    isplitl [G]; · iexact G
    isplitl [P2]; · iexact P2
    isplitl [P3]; · iexact P3
    isplitl [Ho]; · iexact Ho
    iapply (mk_stage0 m c)
    isplitl [Hw]; · iexact Hw
    isplitl [HT]; · iexact HT
    isplitl [HR]; · iexact HR
    isplitl [Hc]; · iexact Hc
    iexact X
  iintro ⟨G, HH⟩
  iapply (wp_goOn a c 1 (by decide) (n' := 32) (by decide))
  iapply (loop_from m κ a c ht o₀ 30 1 (by decide) (by decide)) $$ [B1 G Sw Rw HH Hres Hsem]
  · isplitr; · iexact HC
    isplitl [B1]; · iexact B1
    isplitl [G Sw Rw]
    · iapply (wGot_idle m a c (pt 0 (by decide)) 0)
      isplitl [G]; · iexact G
      isplitl [Sw]; · iexact Sw
      iexact Rw
    isplitl [HH]; · iexact HH
    isplitl [Hres]; · iexact Hres
    iexact Hsem
  unfold Done Held
  iintro ⟨⟨Htab, P2, P3, Ho, HS⟩, I0, I1, Hres, Hsem⟩
  icases (show stage m c (stK 32) ⊢ _ from of_stage5 m c) $$ HS with ⟨Hw, HP, Hc, X⟩
  iapply Hk
  isplitl [Hw]; · iexact Hw
  isplitl [HP]; · iexact HP
  unfold Post
  iexists o₀
  isplitl [Htab]; · iexact Htab
  isplitl [A0 X S0]
  · isplitl [A0]; · iexact A0
    isplitl [X]
    · unfold any0; iexists _; iexact X
    iexact S0
  isplitl [A2 P2 S2]
  · isplitl [A2]; · iexact A2
    isplitl [P2]
    · unfold any2 scPt2; iexists _; iexact P2
    iexact S2
  isplitl [A3 P3 S3]
  · isplitl [A3]; · iexact A3
    isplitl [P3]
    · unfold any3 scPt3; iexists _; iexact P3
    iexact S3
  isplitl [I0]; · iexact I0
  isplitl [I1]; · iexact I1
  isplitl [Ho]; · iexists _; iexact Ho
  isplitl [Hres]; · iexact Hres
  isplitl [Hsem]; · iexact Hsem
  iexact Hc

end Cert.A2A

end
-- ==== Proof.Sems.lean ====
/-
  A device's scoped semaphores taken apart, and the exchange's cells opened before the first point and closed after the last.
-/
module

public import proofs.«01_k».proof.Proof.Enter

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## A device's scoped semaphores -/

def sendE : Fin 3 × Fin 4 ↪ DmaSem sig := ⟨fun x => sendS x.1 x.2, by decide⟩
def recvE : Fin 4 × Fin 4 ↪ DmaSem sig := ⟨fun x => recvS x.1 x.2, by decide⟩
def dmaE : DmaSem sig ↪ GSem nD τ sig := ⟨fun s => ((c : Thread nD τ), .dma s), fun s s' h => by
  have := (Prod.mk.inj h).2; injection this⟩

abbrev all3 (Φ : Fin 3 → Fin 4 → sProp 𝕄) : sProp 𝕄 := bigSep Finset.univ fun r => bigSep Finset.univ fun k => Φ r k
abbrev all4 (Φ : Fin 4 → Fin 4 → sProp 𝕄) : sProp 𝕄 := bigSep Finset.univ fun j => bigSep Finset.univ fun k => Φ j k

theorem scoped_iff (sm : SemLoc sig) : sm.isScoped .tc = true ↔ ∃ s, sm = .dma s := by revert sm; decide

theorem scopedCells_eq : scopedCells sig (c : Thread nD τ) = Finset.univ.map (dmaE c) := by
  ext ⟨⟨d, p⟩, sm⟩
  rw [mem_scopedCells, Finset.mem_map]
  constructor
  · rintro ⟨h1, h2, h3⟩
    have hp : p = .tc := by
      revert h2; cases p <;> simp [Proc.inScope]
    subst hp
    obtain ⟨s, rfl⟩ := (scoped_iff sm).mp h3
    have h1' : d = c := h1
    subst h1'
    exact ⟨s, Finset.mem_univ _, rfl⟩
  · rintro ⟨s, -, h⟩
    have h' : ((c : Thread nD τ), SemLoc.dma s) = ((d, p), sm) := h
    rw [← h']
    exact ⟨rfl, rfl, (scoped_iff _).mpr ⟨s, rfl⟩⟩

theorem dma_univ : (Finset.univ : Finset (DmaSem sig))
    = insert cc0_sem0_0 (insert cc0_sem1_0 (insert cc0_sem1_1 (insert cc0_sem2_0 (insert cc0_sem3_0 (insert cc0_sem4_0
        (Finset.univ.map sendE ∪ Finset.univ.map recvE)))))) := by decide

omit [FloatOps F] in
theorem sems_split : (scopedSems0 (c : Thread nD τ) : sProp 𝕄)
    = iprop(sem0 c ∗ wSem c 0 ∗ wSem c 1 ∗ sem2 c ∗ sem3 c ∗ outSem c
        ∗ all3 (fun r k => semVal (sendCell c r k) 0) ∗ all4 (fun j k => semVal (recvCell c j k) 0)) := by
  show bigSep (scopedCells sig (c : Thread nD τ)) (fun g => semVal g 0) = _
  rw [scopedCells_eq, bigSep_map, dma_univ, bigSep_insert (by decide), bigSep_insert (by decide), bigSep_insert (by decide),
    bigSep_insert (by decide), bigSep_insert (by decide), bigSep_insert (by decide), bigSep_union (by decide), bigSep_map, bigSep_map,
    bigSep_univ_prod, bigSep_univ_prod]
  rfl

/-! ## Opening and closing the exchange's cells -/

omit [FloatOps F] in
theorem open3 (κ : GSem nD τ sig → ℕ) :
    iprop(Ctx m κ ∗ all3 (fun r k => iprop(openTok ER (sendCell c r k) ∗ semVal (sendCell c r k) 0)))
      ⊢ (|={Set.univ}=> all3 fun r k => iprop(atPos ER (sendCell c r k) 0 ∅ 0 ∗ reached ER (sendCell c r k) 0) : sProp 𝕄) := by
  refine .trans ?_ (bigSep_fupd _ _)
  refine bigSep_with_persistent fun r _ => .trans ?_ (bigSep_fupd _ _)
  refine bigSep_with_persistent fun k _ => ?_
  iintro ⟨C, O, V⟩
  iapply (cell_open ER (rd m) (Set.mem_univ (κ (sendCell c r k))))
  isplitl [C]; · iapply (ctx_send m κ c r k); iexact C
  isplitl [O]; · iexact O
  iexact V

omit [FloatOps F] in
theorem open4 (κ : GSem nD τ sig → ℕ) :
    iprop(Ctx m κ ∗ all4 (fun j k => iprop(openTok ER (recvCell c j k) ∗ semVal (recvCell c j k) 0)))
      ⊢ (|={Set.univ}=> all4 fun j k => iprop(atPos ER (recvCell c j k) 0 ∅ 0 ∗ reached ER (recvCell c j k) 0) : sProp 𝕄) := by
  refine .trans ?_ (bigSep_fupd _ _)
  refine bigSep_with_persistent fun j _ => .trans ?_ (bigSep_fupd _ _)
  refine bigSep_with_persistent fun k _ => ?_
  iintro ⟨C, O, V⟩
  iapply (cell_open ER (rd m) (Set.mem_univ (κ (recvCell c j k))))
  isplitl [C]; · iapply (ctx_recv m κ c j k); iexact C
  isplitl [O]; · iexact O
  iexact V

omit [FloatOps F] in
theorem close3 (κ : GSem nD τ sig → ℕ) :
    iprop(Ctx m κ ∗ all3 (fun r k => atPos ER (sendCell c r k) 1 ∅ 0))
      ⊢ (|={Set.univ}=> all3 fun r k => semVal (sendCell c r k) 0 : sProp 𝕄) := by
  refine .trans ?_ (bigSep_fupd _ _)
  refine bigSep_with_persistent fun r _ => .trans ?_ (bigSep_fupd _ _)
  refine bigSep_with_persistent fun k _ => ?_
  iintro ⟨C, A⟩
  iapply (cell_close ER (rd m) (Set.mem_univ (κ (sendCell c r k))) id (duties_later m _))
  isplitl [C]; · iapply (ctx_send m κ c r k); iexact C
  iexact A

/-- The cells of the own slot are never paid: they close where they opened. -/
def endAt (c j : Dev nD) : ℕ := if j = c then 0 else 1

omit [FloatOps F] in
theorem close4 (κ : GSem nD τ sig → ℕ) :
    iprop(Ctx m κ ∗ all4 (fun j k => atPos ER (recvCell c j k) (endAt c j) ∅ 0))
      ⊢ (|={Set.univ}=> all4 fun j k => semVal (recvCell c j k) 0 : sProp 𝕄) := by
  refine .trans ?_ (bigSep_fupd _ _)
  refine bigSep_with_persistent fun j _ => .trans ?_ (bigSep_fupd _ _)
  refine bigSep_with_persistent fun k _ => ?_
  iintro ⟨C, A⟩
  iapply (cell_close ER (rd m) (Set.mem_univ (κ (recvCell c j k))) id (R := endAt c j) (by
    intro r hr
    rcases Nat.eq_zero_or_pos r with rfl | h
    · have : j = c := by
        by_contra h
        rw [endAt, if_neg h] at hr
        exact absurd hr (by decide)
      subst this
      exact duties_own m j k
    · exact duties_later m _ r h))
  isplitl [C]; · iapply (ctx_recv m κ c j k); iexact C
  iexact A

omit [FloatOps F] in
theorem close_bar (κ : GSem nD τ sig → ℕ) :
    iprop(Ctx m κ ∗ atPos ER (barCell c) 1 ∅ 0) ⊢ (|={Set.univ}=> semVal (barCell c) 0 : sProp 𝕄) := by
  iintro ⟨C, A⟩
  iapply (cell_close ER (rd m) (Set.mem_univ (κ (barCell c))) id (duties_later m _))
  isplitl [C]
  · icases (ctx_bar m κ c) $$ C with ⟨C, -⟩
    iexact C
  iexact A

end Cert.A2A

end
-- ==== Proof.Bufs.lean ====
/-
  A device's buffers taken apart: the scoped ones, and those outside the kernel that it works on.
-/
module

public import proofs.«01_k».proof.Proof.Enter
public import proofs.«01_k».proof.Proof.Gen.KernelIdeal.Regions

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## A device's scoped buffers -/

theorem scopedRefs_eq : scopedRefs sig (Proc.tc : Proc τ)
    = ([cc0_stg0_0, cc0_stg1_0, cc0_stg1_1, cc0_stg2_0, cc0_stg3_0, cc0_stg4_0, cc0_scratch0].map (Proc.devRef (τ := τ) .tc)).toFinset := by decide

omit [FloatOps F] in
theorem bufs_split : (scopedBufs (c : Thread nD τ) : sProp 𝕄)
    = iprop(any0 c ∗ (∃ f, wLoc c 0 ↦[Finset.univ]{fullShare} f) ∗ (∃ f, wLoc c 1 ↦[Finset.univ]{fullShare} f) ∗ any2 c ∗ any3 c ∗ (∃ f, oPt c f)
        ∗ (∃ f, cLoc c ↦[Finset.univ]{fullShare} f)) := by
  show bigSep (scopedRefs sig (Proc.tc : Proc τ)) (fun b => iprop(∃ f : Buf (Elt F) ((c, b) : Loc nD τ sig), ((c, b) : Loc nD τ sig) ↦[Finset.univ]{fullShare} f)) = _
  rw [scopedRefs_eq]
  simp only [List.map_cons, List.map_nil, List.toFinset_cons, List.toFinset_nil]
  rw [bigSep_insert (by decide), bigSep_insert (by decide), bigSep_insert (by decide), bigSep_insert (by decide), bigSep_insert (by decide),
    bigSep_insert (by decide), LawfulSingleton.insert_empty_eq, bigSep_singleton]
  rfl

/-! ## Its arguments, the table and the result among all its other buffers -/

abbrev inUse : List (Ref sig .tc) := [main_v7, main_arg0, main_arg1, main_arg2, main_arg3, main_v8]
abbrev others : Finset (DevRef τ sig) := Pipeline.ucRefs τ sig \ (inUse.map (Proc.devRef (τ := τ) .tc)).toFinset

omit [FloatOps F] in
theorem held_split (V : Valuation τ sig (Elt F)) : (StableHlo.held (c : Thread nD τ) (Pipeline.ucRefs τ sig) V : sProp 𝕄)
    = iprop(((((c : Thread nD τ).loc main_v7) ↦[Finset.univ]{fullShare} V main_v7)
        ∗ (((c : Thread nD τ).loc main_arg0) ↦[Finset.univ]{fullShare} V main_arg0)
        ∗ (((c : Thread nD τ).loc main_arg1) ↦[Finset.univ]{fullShare} V main_arg1)
        ∗ (((c : Thread nD τ).loc main_arg2) ↦[Finset.univ]{fullShare} V main_arg2)
        ∗ (((c : Thread nD τ).loc main_arg3) ↦[Finset.univ]{fullShare} V main_arg3)
        ∗ (((c : Thread nD τ).loc main_v8) ↦[Finset.univ]{fullShare} V main_v8))
        ∗ StableHlo.held (c : Thread nD τ) others V) := by
  unfold StableHlo.held
  rw [bigSep_sdiff_split (s := Pipeline.ucRefs τ sig) (t := (inUse.map (Proc.devRef (τ := τ) .tc)).toFinset) (by
    intro b hb
    rw [List.mem_toFinset, List.mem_map] at hb
    obtain ⟨r, hr, rfl⟩ := hb
    exact Finset.mem_filter.mpr ⟨StableHlo.devRef_mem_tcRefs r, by revert r; decide⟩)]
  refine congrArg (fun X => iprop(X ∗ _)) ?_
  simp only [inUse, List.map_cons, List.map_nil, List.toFinset_cons, List.toFinset_nil]
  rw [bigSep_insert (by decide), bigSep_insert (by decide), bigSep_insert (by decide), bigSep_insert (by decide), bigSep_insert (by decide),
    LawfulSingleton.insert_empty_eq, bigSep_singleton]
  rfl

omit [FloatOps F] in
theorem held_others (V : Valuation τ sig (Elt F)) (x : Buf (Elt F) ((c : Thread nD τ).loc main_v8)) :
    (StableHlo.held (c : Thread nD τ) others (Function.update V main_v8 x) : sProp 𝕄) = StableHlo.held (c : Thread nD τ) others V := by
  unfold StableHlo.held
  refine bigSep_congr fun b hb => ?_
  rw [Function.update_of_ne]
  rintro rfl
  exact (Finset.mem_sdiff.mp hb).2 (by decide)

end Cert.A2A

end
-- ==== Proof.Region.lean ====
/-
  The kernel on one device, from the table its grid reads and the protocol's holdings to the cells' last rounds.
-/
module

public import proofs.«01_k».proof.Proof.Sems
public import proofs.«01_k».proof.Proof.Bufs

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Families over the twelve send cells and the sixteen receive cells -/

omit [FloatOps F] in
theorem four_eq (P : Fin 4 → sProp 𝕄) : four P = bigSep Finset.univ P := by unfold four; rw [bigSep_four]
omit [FloatOps F] in
theorem all3_four (Φ : Fin 3 → Fin 4 → sProp 𝕄) : all3 Φ = iprop(four (Φ 0) ∗ four (Φ 1) ∗ four (Φ 2)) := by
  simp only [four_eq]; exact bigSep_three _
omit [FloatOps F] in
theorem all4_four (Φ : Fin 4 → Fin 4 → sProp 𝕄) : all4 Φ = iprop(four (Φ c) ∗ four (Φ (src 0 c)) ∗ four (Φ (src 1 c)) ∗ four (Φ (src 2 c))) := by
  simp only [four_eq]; exact bigSep_src c _
omit [FloatOps F] in
theorem all3_sep (Φ Ψ : Fin 3 → Fin 4 → sProp 𝕄) : all3 (fun r k => iprop(Φ r k ∗ Ψ r k)) = iprop(all3 Φ ∗ all3 Ψ) := by
  unfold all3; rw [← bigSep_sep']; exact bigSep_congr fun r _ => bigSep_sep' ..
omit [FloatOps F] in
theorem all4_sep (Φ Ψ : Fin 4 → Fin 4 → sProp 𝕄) : all4 (fun r k => iprop(Φ r k ∗ Ψ r k)) = iprop(all4 Φ ∗ all4 Ψ) := by
  unfold all4; rw [← bigSep_sep']; exact bigSep_congr fun r _ => bigSep_sep' ..
omit [FloatOps F] in
theorem four_sep (P Q : Fin 4 → sProp 𝕄) : four (fun k => iprop(P k ∗ Q k)) = iprop(four P ∗ four Q) := by
  rw [four_eq, four_eq, four_eq]; exact bigSep_sep' ..

/-! ## What a device holds of the protocol from the launch on -/

def Lin : sProp 𝕄 :=
  iprop(atPos ER (barCell c) 0 ∅ 0 ∗ cred (tallyAt (barCell c) () 3)
    ∗ dutyTok ER (barCell (peer 0 c)) 0 c ∗ dutyTok ER (barCell (peer 1 c)) 0 c ∗ dutyTok ER (barCell (peer 2 c)) 0 c
    ∗ all3 (fun r k => dutyTok ER (sendCell c r k) 0 0) ∗ all3 (fun r k => dutyTok ER (recvCell (peer r c) c k) 0 0)
    ∗ all3 (fun r k => cred (tallyAt (recvCell c (src r c) k) () N))
    ∗ all3 (fun r k => openTok ER (sendCell c r k)) ∗ all4 (fun j k => openTok ER (recvCell c j k)))

/-- The cells of the own slot, which nobody pays. -/
def Own : sProp 𝕄 := four fun k => atPos ER (recvCell c c k) 0 ∅ 0

theorem enter (κ : GSem nD τ sig → ℕ) :
    iprop(Ctx m κ ∗ Lin c ∗ all3 (fun r k => semVal (sendCell c r k) 0) ∗ all4 (fun j k => semVal (recvCell c j k) 0))
      ⊢ (|={Set.univ}=> iprop(Tok c ∗ rReach c ∗ Own c) : sProp 𝕄) := by
  unfold Lin
  iintro ⟨#HC, ⟨B, Cr, T0, T1, T2, DS, DR, CR, O3, O4⟩, V3, V4⟩
  imod (open3 m c κ) $$ [O3 V3] with H3
  · isplitr; · iexact HC
    iapply (Entails.of_eq (all3_sep _ _).symm)
    isplitl [O3]; · iexact O3
    iexact V3
  imod (open4 m c κ) $$ [O4 V4] with H4
  · isplitr; · iexact HC
    iapply (Entails.of_eq (all4_sep _ _).symm)
    isplitl [O4]; · iexact O4
    iexact V4
  icases (Entails.of_eq (all3_sep _ _)) $$ H3 with ⟨A3, R3⟩
  icases (Entails.of_eq (all4_sep _ _)) $$ H4 with ⟨A4, R4⟩
  icases (Entails.of_eq (all4_four c _)) $$ A4 with ⟨A, A0, A1, A2⟩
  icases (Entails.of_eq (all3_four _)) $$ CR with ⟨C0, C1, C2⟩
  icases (Entails.of_eq (all3_four _)) $$ A3 with ⟨P0, P1, P2⟩
  ihave HS := (show iprop(all3 (fun r k => dutyTok ER (sendCell c r k) 0 0) ∗ all3 (fun r k => reached ER (sendCell c r k) 0)
      ∗ all3 (fun r k => dutyTok ER (recvCell (peer r c) c k) 0 0)) ⊢ (all3 (sTok c) : sProp 𝕄) from
    Entails.of_eq (by unfold sTok; rw [← all3_sep, ← all3_sep])) $$ [DS R3 DR]
  · isplitl [DS]; · iexact DS
    isplitl [R3]; · iexact R3
    iexact DR
  icases (Entails.of_eq (all3_four _)) $$ HS with ⟨S0, S1, S2⟩
  imodintro
  isplitr [R4 A]
  · unfold Tok
    isplitl [B]; · iexact B
    isplitl [Cr]; · iexact Cr
    isplitl [T0]; · iexact T0
    isplitl [T1]; · iexact T1
    isplitl [T2]; · iexact T2
    isplitl [S0]; · iexact S0
    isplitl [S1]; · iexact S1
    isplitl [S2]; · iexact S2
    isplitl [A0 C0]
    · unfold rPend pend
      iapply (Entails.of_eq (four_sep _ _).symm)
      isplitl [A0]; · iexact A0
      iexact C0
    isplitl [A1 C1]
    · unfold rPend pend
      iapply (Entails.of_eq (four_sep _ _).symm)
      isplitl [A1]; · iexact A1
      iexact C1
    isplitl [A2 C2]
    · unfold rPend pend
      iapply (Entails.of_eq (four_sep _ _).symm)
      isplitl [A2]; · iexact A2
      iexact C2
    unfold sPos
    isplitl [P0]; · iexact P0
    isplitl [P1]; · iexact P1
    iexact P2
  unfold rReach Own
  isplitl [R4]; · iexact R4
  iexact A

omit [FloatOps F] in
theorem own_end (k : Fin 4) : (atPos ER (recvCell c c k) 0 ∅ 0 : sProp 𝕄) = atPos ER (recvCell c c k) (endAt c c) ∅ 0 := by
  unfold endAt; rw [if_pos rfl]
omit [FloatOps F] in
theorem src_end (r : Fin 3) (k : Fin 4) : (atPos ER (recvCell c (src r c) k) 1 ∅ 0 : sProp 𝕄) = atPos ER (recvCell c (src r c) k) (endAt c (src r c)) ∅ 0 := by
  unfold endAt; rw [if_neg (src_ne r c)]

theorem leave (κ : GSem nD τ sig → ℕ) :
    iprop(Ctx m κ ∗ Pos c ∗ Own c)
      ⊢ (|={Set.univ}=> iprop(semVal (barCell c) 0 ∗ all3 (fun r k => semVal (sendCell c r k) 0) ∗ all4 (fun j k => semVal (recvCell c j k) 0)) : sProp 𝕄) := by
  unfold Pos Own sPos
  iintro ⟨#HC, ⟨B, R0, R1, R2, P0, P1, P2⟩, A⟩
  imod (close_bar m c κ) $$ [B] with HB
  · isplitr; · iexact HC
    iexact B
  imod (close3 m c κ) $$ [P0 P1 P2] with H3
  · isplitr; · iexact HC
    iapply (Entails.of_eq (all3_four _).symm)
    isplitl [P0]; · iexact P0
    isplitl [P1]; · iexact P1
    iexact P2
  imod (close4 m c κ) $$ [A R0 R1 R2] with H4
  · isplitr; · iexact HC
    iapply (Entails.of_eq (all4_four c (fun j k => (atPos ER (recvCell c j k) (endAt c j) ∅ 0 : sProp 𝕄))).symm)
    isplitl [A]
    · iapply (Entails.of_eq (congrArg four (funext fun k => own_end c k))); iexact A
    isplitl [R0]
    · unfold rPos; iapply (Entails.of_eq (congrArg four (funext fun k => src_end c 0 k))); iexact R0
    isplitl [R1]
    · unfold rPos; iapply (Entails.of_eq (congrArg four (funext fun k => src_end c 1 k))); iexact R1
    unfold rPos; iapply (Entails.of_eq (congrArg four (funext fun k => src_end c 2 k))); iexact R2
  imodintro
  isplitl [HB]; · iexact HB
  isplitl [H3]; · iexact H3
  iexact H4

/-! ## The kernel from its table -/

variable (κ : GSem nD τ sig → ℕ) (a : Ad F)

theorem wp_kernel (ht : TabAt c (a.1 0)) {Q : PUnit → sProp 𝕄} :
    iprop(Ctx m κ ∗ ow c (O₀ c) ∗ Tok c ∗ rReach c ∗ Pre m a c)
      ⊢ iprop((iprop(ow c 0 ∗ Pos c ∗ Post m a c) -∗ Q ⟨⟩) -∗ WQ c (some (.inr 35)) (Pipeline.prun (nD := nD) (τ := τ) (pcfgs (F := F)) 0) Q) := by
  iintro ⟨HC, Hw, HT, HR, HP⟩ Hk
  unfold Pipeline.prun
  icases (show Pre m a c ⊢ iprop(Pipeline.prefHeld pre0 c (fun _ => fullShare) a.1 ∗ (Pipeline.prefHeld pre0 c (fun _ => fullShare) a.1 -∗ Pre m a c)) from by
    have e : (Pipeline.prefHeld pre0 c (fun _ => fullShare) a.1 : sProp 𝕄) = tabPt c (a.1 0) := by
      unfold Pipeline.prefHeld
      show bigSep (Finset.univ : Finset (Fin 1)) _ = _
      rw [show (Finset.univ : Finset (Fin 1)) = {0} from rfl, bigSep_singleton]
      rfl
    rw [e]; unfold Pre
    iintro ⟨H, HH⟩
    isplitl [H]; · iexact H
    iintro H
    isplitl [H]; · iexact H
    iexact HH) $$ HP with ⟨Hp, HP⟩
  iapply (Pipeline.Prefetch.wp_readAll (Variants.lift 𝒱₀) (some (.inr 35)) Set.univ pre0 c (fun _ => fullShare) a.1 _) $$ Hp
  iintro Hp
  iapply (wp_assume (Variants.lift 𝒱₀) (c : Thread nD τ) (some (.inr 35)) Set.univ a.2)
  unfold Pipeline.Cfg.runAt
  rw [if_neg (show ¬ _ = 0 from by show ¬ grid0.N = 0; rw [N_0]; decide), dif_neg (show ¬ _ = 1 from by show ¬ grid0.N = 1; rw [N_0]; decide)]
  iapply (wp_call (defs := Pipeline.defs (pcfgs (F := F)) defs₀) (Variants.lift 𝒱₀) (c : Thread nD τ) (some (.inr 35)) Set.univ (Sum.inr 34) (fun u hu => by cases hu; exact Sum.Lex.inr (by decide)))
  iapply (loop_all m κ a c ht) $$ [HC Hw HT HR HP Hp]
  · isplitl [HC]; · iexact HC
    isplitl [Hw]; · iexact Hw
    isplitl [HT]; · iexact HT
    isplitl [HR]; · iexact HR
    iapply HP; iexact Hp
  iintro H
  iapply (show Q ⟨⟩ ⊢ wp frame (wpE (Pipeline.defs (pcfgs (F := F)) defs₀) (Variants.lift 𝒱₀) (c : Thread nD τ) (some (.inr 35))) Set.univ (.ret ⟨⟩) Q from by
    rw [wp_ret]; exact fupd_intro)
  iapply Hk
  iexact H

end Cert.A2A

end
-- ==== Proof.Seg.lean ====
/-
  The kernel's call as a stretch of the host program: from all of a device's buffers to all of them with the result written.
-/
module

public import proofs.«01_k».proof.Proof.Region

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The buffers before and after the kernel -/

theorem V2_arg (r : Ref sig .tc) (h1 : r ∉ hostOps0_1_W) (h0 : r ∉ hostOps0_W) : V2 m c r = m ((c : Thread nD τ).loc r) :=
  (V2_of m c r h1).trans (V1_of m c r h0)

/-- The buffers after the kernel, the result buffer at x. -/
abbrev VE (x : Buf (Elt F) ((c : Thread nD τ).loc main_v8)) : Valuation τ sig (Elt F) := Function.update (V2 m c) main_v8 x

theorem VE_out (x : Buf (Elt F) ((c : Thread nD τ).loc main_v8)) : VE m c x main_v8 = x := Function.update_self ..
theorem VE_of (x : Buf (Elt F) ((c : Thread nD τ).loc main_v8)) (r : Ref sig .tc) (h : r ≠ main_v8) : VE m c x r = V2 m c r :=
  Function.update_of_ne (StableHlo.devRef_ne_of_ne h) _ _

theorem arg1_halves : ((((c : Thread nD τ).loc main_arg1) ↦[Finset.univ]{fullShare} m ((c : Thread nD τ).loc main_arg1)) : sProp 𝕄)
    ⊣⊢ iprop(wSrc m c 0 ∗ wSrc m c 1) := pointsTo_share (PosShare.mem_left_op_right fullShare)

variable (a : Ad F)

/-- From everything the device holds: what the kernel works on, and the rest. -/
theorem pre_of (ha : a.1 0 = V2 m c main_v7) :
    iprop(StableHlo.held (c : Thread nD τ) (Pipeline.ucRefs τ sig) (V2 m c) ∗ scopedBufs (c : Thread nD τ)
        ∗ sem0 c ∗ wSem c 0 ∗ wSem c 1 ∗ sem2 c ∗ sem3 c ∗ outSem c)
      ⊢ (iprop(Pre m a c ∗ StableHlo.held (c : Thread nD τ) others (V2 m c)) : sProp 𝕄) := by
  rw [held_split, bufs_split, V2_arg m c main_arg0 (by decide) (by decide), V2_arg m c main_arg1 (by decide) (by decide),
    V2_arg m c main_arg2 (by decide) (by decide), V2_arg m c main_arg3 (by decide) (by decide), ← ha]
  iintro ⟨⟨⟨T, A0, A1, A2, A3, R⟩, HO⟩, ⟨B0, W0, W1, B2, B3, BO, BC⟩, S0, Sa, Sb, S2, S3, SO⟩
  icases (arg1_halves m c).1 $$ A1 with ⟨H0, H1⟩
  isplitr [HO]
  · unfold Pre tabPt arg0 arg2 arg3 wIdle resPt
    isplitl [T]; · iexact T
    isplitl [A0 B0 S0]
    · isplitl [A0]; · iexact A0
      isplitl [B0]; · iexact B0
      iexact S0
    isplitl [A2 B2 S2]
    · isplitl [A2]; · iexact A2
      isplitl [B2]; · iexact B2
      iexact S2
    isplitl [A3 B3 S3]
    · isplitl [A3]; · iexact A3
      isplitl [B3]; · iexact B3
      iexact S3
    isplitl [W0 Sa H0]
    · isplitl [W0]; · iexact W0
      isplitl [Sa]; · iexact Sa
      iexact H0
    isplitl [W1 Sb H1]
    · isplitl [W1]; · iexact W1
      isplitl [Sb]; · iexact Sb
      iexact H1
    isplitl [BO]; · iexact BO
    isplitl [R]; · iexists _; iexact R
    isplitl [SO]; · iexact SO
    iexact BC
  iexact HO

theorem of_post (ha : a.1 0 = V2 m c main_v7) :
    iprop(Post m a c ∗ StableHlo.held (c : Thread nD τ) others (V2 m c))
      ⊢ (iprop((∃ o₀, StableHlo.held (c : Thread nD τ) (Pipeline.ucRefs τ sig) (VE m c (outAt m c o₀ 32))) ∗ scopedBufs (c : Thread nD τ)
        ∗ sem0 c ∗ wSem c 0 ∗ wSem c 1 ∗ sem2 c ∗ sem3 c ∗ outSem c) : sProp 𝕄) := by
  rw [bufs_split]
  unfold Post tabPt arg0 arg2 arg3 wIdle resPt
  rw [ha]
  iintro ⟨⟨%o₀, T, ⟨A0, B0, S0⟩, ⟨A2, B2, S2⟩, ⟨A3, B3, S3⟩, ⟨W0, Sa, H0⟩, ⟨W1, Sb, H1⟩, BO, R, SO, BC⟩, HO⟩
  ihave A1 := (arg1_halves m c).2 $$ [H0 H1]
  · isplitl [H0]; · iexact H0
    iexact H1
  isplitl [T A0 A1 A2 A3 R HO]
  · iexists o₀
    rw [held_split, held_others, VE_out, VE_of m c _ main_v7 (by decide), VE_of m c _ main_arg0 (by decide), VE_of m c _ main_arg1 (by decide), VE_of m c _ main_arg2 (by decide),
      VE_of m c _ main_arg3 (by decide), V2_arg m c main_arg0 (by decide) (by decide), V2_arg m c main_arg1 (by decide) (by decide),
      V2_arg m c main_arg2 (by decide) (by decide), V2_arg m c main_arg3 (by decide) (by decide)]
    isplitl [T A0 A1 A2 A3 R]
    · isplitl [T]; · iexact T
      isplitl [A0]; · iexact A0
      isplitl [A1]; · iexact A1
      isplitl [A2]; · iexact A2
      isplitl [A3]; · iexact A3
      iexact R
    iexact HO
  isplitl [B0 W0 W1 B2 B3 BO BC]
  · isplitl [B0]; · iexact B0
    isplitl [W0]; · iexact W0
    isplitl [W1]; · iexact W1
    isplitl [B2]; · iexact B2
    isplitl [B3]; · iexact B3
    isplitl [BO]; · iexact BO
    iexact BC
  isplitl [S0]; · iexact S0
  isplitl [Sa]; · iexact Sa
  isplitl [Sb]; · iexact Sb
  isplitl [S2]; · iexact S2
  isplitl [S3]; · iexact S3
  iexact SO

/-! ## The kernel as a stretch of @main -/

def Rest : sProp 𝕄 := iprop((∃ κ, Ctx m κ) ∗ Lin c ∗ ow c (O₀ c))
def Final : sProp 𝕄 :=
  iprop(((∃ o₀, StableHlo.held (c : Thread nD τ) (Pipeline.ucRefs τ sig) (VE m c (outAt m c o₀ 32))) ∗ semVal (barCell c) 0) ∗ ow c 0)

theorem wp_region (ht : TabAt c (a.1 0)) (ha : a.1 0 = V2 m c main_v7) {β : Type} (k : PUnit → Prog (TpuEff nD τ sig (Elt F) (Pipeline.Sig Λ₀ (Fin 1) fun p => (pcfgs (F := F) p).Adm) .tc) β)
    (K : β → sProp 𝕄) :
    iprop((iprop(boundary (c : Thread nD τ) ∗ Final m c) -∗ wp frame (wpE (Pipeline.defs (pcfgs (F := F)) defs₀) (Variants.lift 𝒱₀) (c : Thread nD τ) none) Set.univ (k ⟨⟩) K)
        ∗ boundary (c : Thread nD τ) ∗ StableHlo.held (c : Thread nD τ) (Pipeline.ucRefs τ sig) (V2 m c) ∗ Rest m c)
      ⊢ wp frame (wpE (Pipeline.defs (pcfgs (F := F)) defs₀) (Variants.lift 𝒱₀) (c : Thread nD τ) none) Set.univ
          (.op (.customCall (Pipeline.entry (0 : Fin 1)) ()) k) K := by
  unfold boundary Rest
  rw [sems_split]
  iintro ⟨Hk, ⟨Hb, ⟨S0, Sa, Sb, S2, S3, SO, V3, V4⟩, Hid⟩, Hh, ⟨%κ, #HC⟩, HL, Hw⟩
  iapply (fupd_wp frame (wpE (Pipeline.defs (pcfgs (F := F)) defs₀) (Variants.lift 𝒱₀) (c : Thread nD τ) none) Set.univ _ _)
  imod (enter m c κ) $$ [HL V3 V4] with ⟨HT, HR, HO⟩
  · isplitr; · iexact HC
    isplitl [HL]; · iexact HL
    isplitl [V3]; · iexact V3
    iexact V4
  imodintro
  iapply (wp_customCall (defs := Pipeline.defs (pcfgs (F := F)) defs₀) (Variants.lift 𝒱₀) (c : Thread nD τ) none Set.univ (Sum.inr 35) (fun u h => nomatch h)) $$ Hb
  iintro Hb
  rw [Pipeline.defs_tc_entry]
  icases (pre_of m c a ha) $$ [Hh Hb S0 Sa Sb S2 S3 SO] with ⟨HP, Hoth⟩
  · isplitl [Hh]; · iexact Hh
    isplitl [Hb]; · iexact Hb
    isplitl [S0]; · iexact S0
    isplitl [Sa]; · iexact Sa
    isplitl [Sb]; · iexact Sb
    isplitl [S2]; · iexact S2
    isplitl [S3]; · iexact S3
    iexact SO
  iapply (wp_fupd frame (wpE (Pipeline.defs (pcfgs (F := F)) defs₀) (Variants.lift 𝒱₀) (c : Thread nD τ) (some (.inr 35))) Set.univ _ _)
  iapply (wp_kernel m c κ a ht) $$ [Hw HT HR HP]
  · isplitr; · iexact HC
    isplitl [Hw]; · iexact Hw
    isplitl [HT]; · iexact HT
    isplitl [HR]; · iexact HR
    iexact HP
  iintro ⟨Hw, HPos, HPost⟩
  imod (leave m c κ) $$ [HPos HO] with ⟨HB, V3, V4⟩
  · isplitr; · iexact HC
    isplitl [HPos]; · iexact HPos
    iexact HO
  imodintro
  icases (of_post m c a ha) $$ [HPost Hoth] with ⟨Hh, Hb, S0, Sa, Sb, S2, S3, SO⟩
  · isplitl [HPost]; · iexact HPost
    iexact Hoth
  rw [kernelExitSpec_apply, sems_split]
  isplitl [S0 Sa Sb S2 S3 SO V3 V4]
  · isplitl [S0]; · iexact S0
    isplitl [Sa]; · iexact Sa
    isplitl [Sb]; · iexact Sb
    isplitl [S2]; · iexact S2
    isplitl [S3]; · iexact S3
    isplitl [SO]; · iexact SO
    isplitl [V3]; · iexact V3
    iexact V4
  iintro Hs
  isplitl [Hb]; · iexact Hb
  iintro Hb
  iapply Hk
  isplitl [Hb Hs Hid]
  · isplitl [Hb]; · iexact Hb
    isplitl [Hs]; · iexact Hs
    iexact Hid
  unfold Final
  isplitl [Hh HB]
  · isplitl [Hh]; · iexact Hh
    iexact HB
  iexact Hw

/-- The kernel's call, from the buffers the host operations leave to the buffers with its result. -/
def segK (adm : Dev nD → Ad F) (ht : ∀ c, TabAt c ((adm c).1 0)) (ha : ∀ c, (adm c).1 0 = V2 m c main_v7) :
    Pipeline.HostSeg (Ix := Unit) (Name := ℕ) (U := UU) (Lvl := ℕ) (pcfgs (F := F)) defs₀ 𝒱₀ L lv where
  prog := Prog.lift (.customCall (Pipeline.entry (0 : Fin 1)) ())
  pre c := iprop(StableHlo.held (c : Thread nD τ) (Pipeline.ucRefs τ sig) (V2 m c) ∗ Rest m c)
  post c := Final m c
  run c {β} k K := by
    iintro ⟨Hk, Hb, ⟨Hh, HR⟩, -⟩
    iapply (show _ ⊢ wp frame (wpE (Pipeline.defs (pcfgs (F := F)) defs₀) (Variants.lift 𝒱₀) (c : Thread nD τ) none) Set.univ
      (Prog.lift (.customCall (Pipeline.entry (0 : Fin 1)) ()) >>= k) K from wp_region m c (adm c) (ht c) (ha c) k K)
    isplitl [Hk]; · iexact Hk
    isplitl [Hb]; · iexact Hb
    isplitl [Hh]; · iexact Hh
    iexact HR

end Cert.A2A

end
-- ==== Proof.Creds.lean ====
/-
  What the devices owe each cell at launch, and the credit each device gets for it.
-/
module

public import proofs.«01_k».proof.Proof.Seg

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## What all devices together owe a cell -/

theorem recvE_inj {j k j' k' : Fin 4} (h : recvS j k = recvS j' k') : j = j' ∧ k = k' := by
  have := recvE.injective (a₁ := (j, k)) (a₂ := (j', k')) h
  exact ⟨congrArg Prod.fst this, congrArg Prod.snd this⟩

theorem recv_eq (c d j k j' k') : recvCell c j k = recvCell d j' k' ↔ c = d ∧ j = j' ∧ k = k' := by
  constructor
  · intro h
    have h1 : c = d := congrArg (fun g : GSem nD τ sig => g.1.1) h
    have h2 : SemLoc.dma (recvS j k) = SemLoc.dma (recvS j' k') := congrArg Prod.snd h
    injection h2 with h3
    exact ⟨h1, recvE_inj h3⟩
  · rintro ⟨rfl, rfl, rfl⟩; rfl

theorem bar_eq (c d : Dev nD) : barCell c = barCell d ↔ c = d :=
  ⟨fun h => congrArg (fun g : GSem nD τ sig => g.1.1) h, fun h => by rw [h]⟩
theorem bar_ne_recv (c d : Dev nD) (j k : Fin 4) : barCell c ≠ recvCell d j k := fun h => nomatch (congrArg Prod.snd h)

/-- How many of device d's last n transfers fill chunk k of slot j on device c. -/
def cnt (d c : Dev nD) (j k : Fin 4) : ℕ → ℕ
  | 0 => 0
  | n + 1 => cnt d c j k n + if c = peer ⟨(11 - n) / 4 % 3, Nat.mod_lt _ (by decide)⟩ d ∧ j = d ∧ k = ⟨(11 - n) % 4, Nat.mod_lt _ (by decide)⟩ then 1 else 0

theorem Oat_recv (d : Dev nD) (r : Fin 3) (k' j k : Fin 4) : Oat d r k' (recvCell c j k) () = N * if c = peer r d ∧ j = d ∧ k = k' then 1 else 0 := by
  unfold Oat
  rw [tallyAt_apply]
  by_cases h : recvCell c j k = recvCell (peer r d) d k'
  · rw [if_pos ⟨h, rfl⟩, if_pos ((recv_eq ..).mp h), Nat.mul_one]
  · rw [if_neg fun h' => h h'.1, if_neg fun h' => h ((recv_eq ..).mpr h'), Nat.mul_zero]
theorem Oat_bar (d : Dev nD) (r : Fin 3) (k : Fin 4) : Oat d r k (barCell c) () = 0 := by
  unfold Oat; rw [tallyAt_ne_cell (bar_ne_recv _ _ _ _)]; rfl
theorem Obar_recv (d : Dev nD) (r : Fin 3) (j k : Fin 4) : Obar d r (recvCell c j k) () = 0 := by
  unfold Obar; rw [tallyAt_ne_cell (bar_ne_recv _ _ _ _).symm]; rfl
theorem Obar_bar (d : Dev nD) (r : Fin 3) : Obar d r (barCell c) () = if c = peer r d then 1 else 0 := by
  unfold Obar
  rw [tallyAt_apply]
  by_cases h : c = peer r d
  · rw [if_pos ⟨(bar_eq ..).mpr h, rfl⟩, if_pos h]
  · rw [if_neg fun h' => h ((bar_eq ..).mp h'.1), if_neg h]

theorem send_recv (d : Dev nD) (j k : Fin 4) : ∀ n, Osend d n (recvCell c j k) () = N * cnt d c j k n
  | 0 => rfl
  | n + 1 => by
    show (Osend d n + Oat d ⟨(11 - n) / 4 % 3, _⟩ ⟨(11 - n) % 4, _⟩) (recvCell c j k) () = N * (_ + _)
    rw [Pi.add_apply, Finsupp.add_apply, send_recv d j k n, Oat_recv, Nat.mul_add]

theorem send_bar (d : Dev nD) : ∀ n, Osend d n (barCell c) () = 0
  | 0 => rfl
  | n + 1 => by
    show (Osend d n + Oat d ⟨(11 - n) / 4 % 3, _⟩ ⟨(11 - n) % 4, _⟩) (barCell c) () = 0
    rw [Pi.add_apply, Finsupp.add_apply, send_bar d n, Oat_bar]

theorem owed_recv (d : Dev nD) (j k : Fin 4) : O₀ d (recvCell c j k) () = N * cnt d c j k 12 := by
  unfold O₀
  rw [Pi.add_apply, Pi.add_apply, Pi.add_apply, Finsupp.add_apply, Finsupp.add_apply, Finsupp.add_apply, send_recv, Obar_recv, Obar_recv, Obar_recv]; rfl

theorem owed_bar (d : Dev nD) : O₀ d (barCell c) () = (if c = peer 0 d then 1 else 0) + (if c = peer 2 d then 1 else 0) + (if c = peer 1 d then 1 else 0) := by
  unfold O₀
  rw [Pi.add_apply, Pi.add_apply, Pi.add_apply, Finsupp.add_apply, Finsupp.add_apply, Finsupp.add_apply, send_bar, Obar_bar, Obar_bar, Obar_bar, Nat.zero_add]

theorem sum_recv (r : Fin 3) (k : Fin 4) : ∑ d : Dev nD, cnt d c (src r c) k 12 = 1 := by revert c r k; decide
theorem sum_bar : ∑ d : Dev nD, ((if c = peer 0 d then 1 else 0) + (if c = peer 2 d then 1 else 0) + (if c = peer 1 d then 1 else 0) : ℕ) = 3 := by revert c; decide

theorem launch_bar : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d, sum_bar]

theorem launch_recv (r : Fin 3) (k : Fin 4) :
    tallyOn (recvCell c (src r c) k) (launchCredit (Pipeline.owing O₀) 0 (recvCell c (src r c) k)) = (tallyAt (recvCell c (src r c) k) () N : CellTallies nD τ sig Unit) := by
  unfold tallyAt; refine congrArg _ (Finsupp.ext fun u => ?_); cases u
  rw [Pipeline.launchCredit_owing, Finsupp.single_eq_same, Finset.sum_congr rfl fun d _ => owed_recv c d (src r c) k, ← Finset.mul_sum, sum_recv, Nat.mul_one]

theorem src_inj (r r' : Fin 3) (h : src r c = src r' c) : r = r' := by revert c r r'; decide

def fillE : Fin 3 × Fin 4 ↪ SemLoc sig := ⟨fun x => .dma (recvS (src x.1 c) x.2), fun x y h => by
  injection h with h
  have := recvE_inj h
  exact Prod.ext (src_inj c _ _ this.1) this.2⟩

/-- A device's credit at launch: the three barrier units, and the twelve chunks that will come. -/
theorem creds : (Pipeline.launchCred O₀ c : sProp 𝕄)
    ⊢ iprop(cred (tallyAt (barCell c) () 3) ∗ all3 fun r k => cred (tallyAt (recvCell c (src r c) k) () N)) := by
  unfold Pipeline.launchCred
  rw [bigSep_univ_at _ (SemLoc.reg barS), launch_bar]
  refine sep_mono_right ?_
  refine (bigSep_subset (t := Finset.univ.map (fillE c)) fun s hs => ?_).trans ?_
  · obtain ⟨x, -, rfl⟩ := Finset.mem_map.mp hs
    exact Finset.mem_erase.mpr ⟨fun h => (nomatch h : SemLoc.dma (recvS (src x.1 c) x.2) = SemLoc.reg barS → False) h, Finset.mem_univ _⟩
  rw [bigSep_map, bigSep_univ_prod]
  refine bigSep_mono fun r _ => bigSep_mono fun k _ => ?_
  exact Entails.of_eq (congrArg cred (launch_recv c r k))

end Cert.A2A

end
-- ==== Proof.Deal.lean ====
/-
  The launch: the cells' invariants, and every device's part of what comes with them.
-/
module

public import proofs.«01_k».proof.Proof.Creds

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the duties as finite sets -/

theorem cell_inj {c d : Dev nD} {s s' : SemLoc sig} (h : (((c : Thread nD τ), s) : GSem nD τ sig) = ((d : Thread nD τ), s')) : c = d ∧ s = s' :=
  ⟨congrArg (fun g : GSem nD τ sig => g.1.1) h, congrArg Prod.snd h⟩

def barE : Dev nD ↪ GSem nD τ sig := ⟨fun c => barCell c, fun _ _ h => (cell_inj h).1⟩
def sendC : Dev nD × (Fin 3 × Fin 4) ↪ GSem nD τ sig := ⟨fun x => sendCell x.1 x.2.1 x.2.2, fun x y h => by
  have h' := (cell_inj h).2
  injection h' with h'
  exact Prod.ext (cell_inj h).1 (sendE.injective h')⟩
def recvC : Dev nD × (Fin 4 × Fin 4) ↪ GSem nD τ sig := ⟨fun x => recvCell x.1 x.2.1 x.2.2, fun x y h => by
  have h' := (cell_inj h).2
  injection h' with h'
  exact Prod.ext (cell_inj h).1 (recvE.injective h')⟩

def barS' : Finset (GSem nD τ sig) := Finset.univ.map barE
def sendS' : Finset (GSem nD τ sig) := Finset.univ.map sendC
def recvS' : Finset (GSem nD τ sig) := Finset.univ.map recvC

theorem send_ne_recv (r : Fin 3) (k j k' : Fin 4) : sendS r k ≠ recvS j k' := by revert r k j k'; decide

theorem disj_sr : Disjoint sendS' recvS' := by
  rw [Finset.disjoint_left]
  rintro g h₁ h₂
  obtain ⟨x, -, rfl⟩ := Finset.mem_map.mp h₁
  obtain ⟨y, -, h⟩ := Finset.mem_map.mp h₂
  have h' : SemLoc.dma (recvS y.2.1 y.2.2) = SemLoc.dma (sendS x.2.1 x.2.2) := (cell_inj h).2
  injection h' with h'
  exact send_ne_recv _ _ _ _ h'.symm
theorem disj_bar : Disjoint barS' (sendS' ∪ recvS') := by
  rw [Finset.disjoint_left]
  rintro g h₁ h₂
  obtain ⟨c, -, rfl⟩ := Finset.mem_map.mp h₁
  rcases Finset.mem_union.mp h₂ with h₂ | h₂
  · obtain ⟨y, -, h⟩ := Finset.mem_map.mp h₂
    exact nomatch (congrArg Prod.snd h : SemLoc.dma (sendS y.2.1 y.2.2) = SemLoc.reg barS)
  · obtain ⟨y, -, h⟩ := Finset.mem_map.mp h₂
    exact nomatch (congrArg Prod.snd h : SemLoc.dma (recvS y.2.1 y.2.2) = SemLoc.reg barS)

section
variable {M : Type} [URA M]
theorem both {s t : Finset (GSem nD τ sig)} (h : Disjoint s t) (Φ : GSem nD τ sig → sProp M) : bigSep (s ∪ t) Φ = iprop(bigSep s Φ ∗ bigSep t Φ) := bigSep_union h
theorem both3 {s t : Finset (GSem nD τ sig × ℕ × Fin 4)} (h : Disjoint s t) (Φ : GSem nD τ sig × ℕ × Fin 4 → sProp M) :
    bigSep (s ∪ t) Φ = iprop(bigSep s Φ ∗ bigSep t Φ) := bigSep_union h
theorem over_bar (Φ : GSem nD τ sig → sProp M) : bigSep barS' Φ = bigSep Finset.univ fun c : Dev nD => Φ (barCell c) := bigSep_map ..
theorem over_send (Φ : GSem nD τ sig → sProp M) :
    bigSep sendS' Φ = bigSep Finset.univ fun c : Dev nD => bigSep Finset.univ fun r : Fin 3 => bigSep Finset.univ fun k : Fin 4 => Φ (sendCell c r k) := by
  unfold sendS'; rw [bigSep_map, bigSep_univ_prod]; exact bigSep_congr fun c _ => bigSep_univ_prod _
theorem over_recv (Φ : GSem nD τ sig → sProp M) :
    bigSep recvS' Φ = bigSep Finset.univ fun c : Dev nD => bigSep Finset.univ fun j : Fin 4 => bigSep Finset.univ fun k : Fin 4 => Φ (recvCell c j k) := by
  unfold recvS'; rw [bigSep_map, bigSep_univ_prod]; exact bigSep_congr fun c _ => bigSep_univ_prod _
end

theorem swap {M : Type} [URA M] (Φ : Dev nD → Fin 4 → sProp M) :
    (bigSep Finset.univ fun c : Dev nD => bigSep Finset.univ fun j : Fin 4 => Φ c j) = bigSep Finset.univ fun j : Fin 4 => bigSep Finset.univ fun c : Dev nD => Φ c j := by
  rw [← bigSep_univ_prod (fun x : Dev nD × Fin 4 => Φ x.1 x.2), ← bigSep_univ_prod (fun x : Fin 4 × Dev nD => Φ x.2 x.1)]
  exact bigSep_univ_equiv (Equiv.prodComm _ _) _

/-- A barrier cell has a duty per device; each other cell one. -/
def dutyB : Dev nD × Dev nD ↪ GSem nD τ sig × ℕ × Fin 4 := ⟨fun x => (barCell x.1, 0, x.2), fun x y h => by
  obtain ⟨h1, h2⟩ := Prod.mk.inj h
  exact Prod.ext (cell_inj h1).1 (Prod.mk.inj h2).2⟩
def duty1 : GSem nD τ sig ↪ GSem nD τ sig × ℕ × Fin 4 := ⟨fun g => (g, 0, 0), fun _ _ h => (Prod.mk.inj h).1⟩

def duties : Finset (GSem nD τ sig × ℕ × Fin 4) := Finset.univ.map dutyB ∪ (sendS' ∪ recvS').map duty1

theorem disj_duties : Disjoint (Finset.univ.map dutyB) ((sendS' ∪ recvS').map duty1) := by
  rw [Finset.disjoint_left]
  rintro x h₁ h₂
  obtain ⟨y, -, rfl⟩ := Finset.mem_map.mp h₁
  obtain ⟨g, hg, h⟩ := Finset.mem_map.mp h₂
  have e : g = barCell y.1 := (Prod.mk.inj h).1
  exact Finset.disjoint_left.mp disj_bar (Finset.mem_map_of_mem barE (Finset.mem_univ y.1)) (by rw [← show g = barE y.1 from e]; exact hg)

/-! ## Each device gets the duties it will pay -/

omit [FloatOps F] in
theorem dropL (P Q : sProp 𝕄) : iprop(P ∗ Q) ⊢ Q := by
  iintro ⟨-, H⟩
  iexact H

abbrev tok (g : GSem nD τ sig) (d : Fin 4) : sProp 𝕄 := dutyTok ER g 0 d

def Dealt (c : Dev nD) : sProp 𝕄 :=
  iprop((tok (barCell (peer 0 c)) c ∗ tok (barCell (peer 1 c)) c ∗ tok (barCell (peer 2 c)) c)
    ∗ all3 (fun r k => tok (sendCell c r k) 0) ∗ all3 (fun r k => tok (recvCell (peer r c) c k) 0))

omit [FloatOps F] in
theorem deal_bar : (bigSep Finset.univ fun c : Dev nD => bigSep Finset.univ fun d : Dev nD => (tok (barCell c) d : sProp 𝕄))
    ⊢ bigSep Finset.univ fun c : Dev nD => iprop(tok (barCell (peer 0 c)) c ∗ tok (barCell (peer 1 c)) c ∗ tok (barCell (peer 2 c)) c) := by
  rw [swap]
  refine bigSep_mono fun d _ => ?_
  rw [bigSep_peer d fun c => (tok (barCell c) d : sProp 𝕄)]
  exact dropL _ _

omit [FloatOps F] in
theorem deal_recv : (bigSep Finset.univ fun c : Dev nD => bigSep Finset.univ fun j : Fin 4 => bigSep Finset.univ fun k : Fin 4 => (tok (recvCell c j k) 0 : sProp 𝕄))
    ⊢ bigSep Finset.univ fun c : Dev nD => all3 fun r k => tok (recvCell (peer r c) c k) 0 := by
  rw [swap]
  refine bigSep_mono fun d _ => ?_
  rw [bigSep_peer d fun c => bigSep Finset.univ fun k : Fin 4 => (tok (recvCell c d k) 0 : sProp 𝕄)]
  unfold all3
  rw [bigSep_three]
  exact dropL _ _

omit [FloatOps F] in
theorem deal : (bigSep duties fun x => (dutyTok ER x.1 x.2.1 x.2.2 : sProp 𝕄)) ⊢ bigSep Finset.univ fun c => Dealt c := by
  unfold duties Dealt
  rw [both3 disj_duties, bigSep_map, bigSep_map, bigSep_univ_prod, both disj_sr, over_send, over_recv,
    bigSep_sep' Finset.univ (fun c : Dev nD => iprop(tok (F := F) (barCell (peer 0 c)) c ∗ tok (barCell (peer 1 c)) c ∗ tok (barCell (peer 2 c)) c))
      (fun c => iprop(all3 (fun r k => tok (sendCell c r k) 0) ∗ all3 (fun r k => tok (recvCell (peer r c) c k) 0))),
    bigSep_sep' Finset.univ (fun c : Dev nD => all3 (fun r k => tok (F := F) (sendCell c r k) 0)) (fun c => all3 (fun r k => tok (recvCell (peer r c) c k) 0))]
  exact BI.sep_mono deal_bar (sep_mono_right deal_recv)

/-! ## What every device may consult -/

omit [FloatOps F] in
theorem ctx_intro (κ : GSem nD τ sig → ℕ) :
    iprop((bigSep (barS' ∪ (sendS' ∪ recvS')) fun g => cellInv ER (rd m) (κ g) g) ∗ (bigSep barS' fun g => reached ER g 0) ∗ levAts L lv)
      ⊢ (Ctx m κ : sProp 𝕄) := by
  unfold Ctx ctxAt
  rw [both disj_bar, both disj_sr, over_bar, over_bar, over_send, over_recv, bigSep_sep', bigSep_sep', bigSep_sep']
  iintro ⟨⟨HB, HS, HR⟩, Hr, HL⟩
  isplitr [HL]
  · isplitl [HB]; · iexact HB
    isplitl [Hr]; · iexact Hr
    isplitl [HS]; · iexact HS
    iexact HR
  iexact HL

/-! ## From the launch to every device's holdings -/

abbrev seed : URounds (GSem nD τ sig) (Fin 4) := launchOf barS' (sendS' ∪ recvS') duties

theorem launch : iprop((bigSep Finset.univ fun c : Dev nD => iprop(semVal (barCell c) 0 ∗ owes (c : Thread nD τ) (O₀ c) ∅ ∗ Pipeline.launchCred O₀ c))
        ∗ BI.own (ER (F := F) seed) ∗ levAts L lv)
      ⊢ (|={Set.univ}=> bigSep Finset.univ (Rest m) : sProp 𝕄) := by
  rw [bigSep_sep', bigSep_sep']
  iintro ⟨⟨Hv, HO, Hc⟩, Hu, HL⟩
  imod (Rounds.fund_launch ER (rd m) disj_bar (fun g _ h => h) duties) $$ [Hv Hu] with ⟨%κ, -, Hinv, Hr, Hat, Hopen, Htok⟩
  · isplitl [Hv]
    · iapply (Entails.of_eq (over_bar (fun g => (semVal g 0 : sProp 𝕄))).symm); iexact Hv
    · iexact Hu
  imodintro
  iapply (bigSep_with_persistent (R := Ctx m κ)
    (Φ := fun c => iprop((atPos ER (barCell c) 0 ∅ 0 ∗ (all3 (fun r k => openTok ER (sendCell c r k)) ∗ all4 (fun j k => openTok ER (recvCell c j k))) ∗ Dealt c)
      ∗ owes (c : Thread nD τ) (O₀ c) ∅ ∗ Pipeline.launchCred O₀ c)) fun c _ => ?_)
  · unfold Rest Lin ow Dealt
    iintro ⟨HC, ⟨Hat, ⟨H3, H4⟩, ⟨T0, T1, T2⟩, TS, TR⟩, HO, Hc⟩
    icases (creds c) $$ Hc with ⟨Hb, Hr⟩
    isplitl [HC]; · iexists κ; iexact HC
    isplitr [HO]
    · isplitl [Hat]; · iexact Hat
      isplitl [Hb]; · iexact Hb
      isplitl [T0]; · iexact T0
      isplitl [T1]; · iexact T1
      isplitl [T2]; · iexact T2
      isplitl [TS]; · iexact TS
      isplitl [TR]; · iexact TR
      isplitl [Hr]; · iexact Hr
      isplitl [H3]; · iexact H3
      iexact H4
    iexists ∅; iexact HO
  isplitl [Hinv Hr HL]
  · iapply (ctx_intro m κ)
    isplitl [Hinv]; · iexact Hinv
    isplitl [Hr]; · iexact Hr
    iexact HL
  rw [bigSep_sep', bigSep_sep', bigSep_sep', bigSep_sep', bigSep_sep']
  isplitl [Hat Hopen Htok]
  · isplitl [Hat]; · iapply (Entails.of_eq (over_bar (fun g => (atPos ER g 0 ∅ 0 : sProp 𝕄)))); iexact Hat
    isplitl [Hopen]
    · iapply (Entails.of_eq ((both disj_sr _).trans (congrArg₂ (fun a b => iprop(a ∗ b)) (over_send (fun g => (openTok ER g : sProp 𝕄))) (over_recv _))))
      iexact Hopen
    iapply (deal (F := F)); iexact Htok
  isplitl [HO]; · iexact HO
  iexact Hc

end Cert.A2A

end
-- ==== Proof.Table.lean ====
/-
  The table the grid reads, as the host program computes it.
-/
module

public import proofs.«01_k».proof.Proof.Seg

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (c : Dev nD)

/-- One lane of the remainder the host program takes, sign and zero cases included. -/
def rem1 (a b : BitVec 32) : BitVec 32 :=
  let y := Scalar.select (IntOp.cmpi .eq b 0#32) 1#32 b
  let r := IntOp.remsi .host a y
  Scalar.select (IntOp.andi (IntOp.cmpi .ne (IntOp.cmpi .slt r 0#32) (IntOp.cmpi .slt y 0#32)) (IntOp.cmpi .ne r 0#32)) (IntOp.addi r y) r

/-- One lane of what it is taken of. -/
def sum1 (c : Dev nD) (k : Fin 4) : BitVec 32 :=
  IntOp.addi (IntOp.remui .host (IntOp.divui .host (Dev.word c) 1#32) 4#32) (lit0 k)

theorem rem_sum (k : Fin 4) : rem1 (sum1 c k) 4#32 = wd (jAt c k) := by
  revert c k; decide

theorem after1 (X : Valuation τ sig (Elt F)) :
    (StableHlo.after hostOps0_1 X main_v7 : (⟨S4, .i32⟩ : BufTy).Contents (Elt F))
      = fun i => rem1 ((X main_v6 : (⟨S4, .i32⟩ : BufTy).Contents (Elt F)) i) (broadcastInDim S4 ![] bcast_S_S4 (X main_c_2 : (⟨S_, .i32⟩ : BufTy).Contents (Elt F)) i) := by
  unfold hostOps0_1
  after_results
  simp only [StableHlo.TRef.ofBuf_toBuf]
  rfl

theorem after0_v6 (X : Valuation τ sig (Elt F)) :
    (StableHlo.after (hostOps0 c) X main_v6 : (⟨S4, .i32⟩ : BufTy).Contents (Elt F)) = fun i => sum1 c (S4.rowMajor i) := by
  unfold hostOps0
  after_results
  rfl

theorem after0_c2 (X : Valuation τ sig (Elt F)) :
    (StableHlo.after (hostOps0 c) X main_c_2 : (⟨S_, .i32⟩ : BufTy).Contents (Elt F)) = fun _ => 4#32 := by
  unfold hostOps0
  after_results
  rfl

theorem row_ix (k : Fin 4) : S4.rowMajor (ix1 (n := 4) k) = k := by
  match k with
  | 0 => rfl
  | 1 => rfl
  | 2 => rfl
  | 3 => rfl

/-- The prefetched table holds, for each step, whose block the step reads. -/
theorem tab_V2 : TabAt c (V2 m c main_v7) := by
  intro kb
  refine (congrFun (after1 (V1 m c)) _).trans ?_
  rw [show (V1 m c main_v6 : (⟨S4, .i32⟩ : BufTy).Contents (Elt F)) = _ from after0_v6 c (V0 m c),
    show (V1 m c main_c_2 : (⟨S_, .i32⟩ : BufTy).Contents (Elt F)) = _ from after0_c2 c (V0 m c)]
  show rem1 (sum1 c (S4.rowMajor (ix1 (n := 4) kb))) 4#32 = _
  rw [row_ix]
  exact rem_sum c kb

theorem block_ok : ∀ (j : Dev nD) (n : Fin 8), ∃ h : (∀ a, ((![j.val, n.val] : Fin 2 → ℕ) a + 1) * S1024x1024.size a ≤ S4096x8192.size a),
    (Rect.block (s := S4096x8192) S1024x1024.size (![j.val, n.val] : Fin 2 → ℕ) h).WholeWords (EltTy.packing .fp8e5m2) := by decide

theorem index_of (pf : pre0.Contents (Elt F)) (h : TabAt c (pf 0)) (i : grid0.Coords) :
    cc0_transform_1 k0_off1_inb numel1_S1 pf i = ![(jAt c (i 0)).val, (i 1).val] := by
  refine funext fun (ax : Fin 2) => ?_
  match ax with
  | 0 =>
    have h' : pf.at 0 (Rect.unit (s := S4) (k0_off1 i) S1.size (k0_off1_inb i)) numel1_S1 = wd (jAt c (i 0)) := by
      refine Eq.trans ?_ (h (i 0))
      refine congrArg (pf 0) ?_
      refine funext fun (ax : Fin 1) => Fin.ext ?_
      match ax with
      | 0 =>
        show (BitVec.ofNat 32 (i 0).val).toNat + 1 * 0 = (i 0).val
        rw [BitVec.toNat_ofNat]
        have : (i 0).val < 4 := (i 0).isLt
        omega
    refine (congrArg BitVec.toNat h').trans ?_
    show (BitVec.ofNat 32 (jAt c (i 0)).val).toNat = _
    rw [BitVec.toNat_ofNat]
    have : (jAt c (i 0)).val < 4 := (jAt c (i 0)).isLt
    show _ = (jAt c (i 0)).val
    omega
  | 1 =>
    show (BitVec.ofNat 32 (i 1).val).toNat = (i 1).val
    rw [BitVec.toNat_ofNat]
    have : (i 1).val < 8 := (i 1).isLt
    omega

theorem ok_of_tab (pf : pre0.Contents (Elt F)) (h : TabAt c (pf 0)) : ok0 pf := by
  intro i
  rw [index_of c pf h i]
  obtain ⟨h', h''⟩ := block_ok (jAt c (i 0)) (i 1)
  exact ⟨h', .inr h''⟩

/-- Device c's table, with the fact that its blocks lie in the array. -/
def adm : Ad F := ⟨fun | 0 => V2 m c main_v7, ok_of_tab c _ (tab_V2 m c)⟩

end Cert.A2A

end
-- ==== Proof.Run.lean ====
/-
  The run of the whole program on the four devices, over any floats.
-/
module

public import proofs.«01_k».proof.Proof.Deal
public import proofs.«01_k».proof.Proof.Table

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- The tables the staging library is set up with; the proof does not use its cells. -/
abbrev pinned : (p : Fin 1) → (pcfgs (F := F) p).Adm := fun _ => adm m 0

/-- Data for the staging library's records: no record of it is used. -/
def dats : (p : Fin 1) → (c : Dev nD) → Pipeline.Dat τ (Elt F) Unit ℕ UU ℕ (Pipeline.pin (pcfgs (F := F)) (pinned m) p) c := fun _ c =>
  { A := fun _ => m _
    after := Pipeline.Dat.unnamed
    Φ := fun _ => iprop(emp)
    q := fun _ => fullShare
    owed := fun _ => 0 }

def u₀ : UU :=
  (initOf (Pipeline.cells (Pipeline.pin (pcfgs (F := F)) (pinned m)) (cellOf_inj (pinned m))) (Pipeline.launchToks (Pipeline.pin (pcfgs (F := F)) (pinned m)) (cellOf_inj (pinned m))),
    (seed, 1))

/-- A resource dealt to device 0 alone. -/
def onFirst (X : sProp 𝕄) (c : Dev nD) : sProp 𝕄 := if c = 0 then X else iprop(emp)

omit [FloatOps F] in
theorem onFirst_all (X : sProp 𝕄) : bigSep Finset.univ (onFirst X) ⊣⊢ X := by
  have e : bigSep Finset.univ (onFirst X) = iprop(X ∗ emp ∗ emp ∗ emp) := bigSep_four (onFirst X)
  rw [e]
  constructor
  · iintro ⟨H, -⟩; iexact H
  · iintro H
    isplitl [H]; · iexact H
    isplitr; · iempintro
    isplitr <;> iempintro

def G : Dev nD → sProp 𝕄 := onFirst (BI.own (ER seed))

omit [FloatOps F] in
theorem seed_own : (BI.own ((embR : Emb (URounds (GSem nD τ sig) (Fin 4) × Counters) 𝕄) (seed, 1)) : sProp 𝕄) ⊢ BI.own (ER seed) := by
  unfold ER
  exact (own_pair_emb _ _ _).trans sep_elim_left

/-! ## The segments -/

def segs (c : Dev nD) : List (Pipeline.Seg (pcfgs (F := F)) (pinned m) (dats m) () defs₀ 𝒱₀ L lv) :=
  [ .host (seg0 m 𝒱₀ L lv (fun _ => Rest m) c),
    .host (seg1 m 𝒱₀ L lv (fun _ => Rest m)),
    .host (segK m (adm m) (fun c => tab_V2 m c) (fun _ => rfl)) ]

theorem unscoped_eq : ∀ sm : SemLoc sig, sm.isScoped .tc = false → sm = .reg barS := by decide

omit [FloatOps F] in
theorem sems_eq (c : Dev nD) : (unscopedSems0 c : sProp 𝕄) = semVal (barCell c) 0 := by
  unfold unscopedSems0
  rw [show (Finset.univ.filter fun sm : SemLoc sig => ¬ sm.isScoped .tc = true) = {SemLoc.reg barS} from by decide, bigSep_singleton]

/-- What the launch deals is what the first stretch starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ Rest m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(StableHlo.held (c : Thread nD τ) (Pipeline.ucRefs τ sig) (V0 m c)
          ∗ (semVal (barCell c) 0 ∗ owes (c : Thread nD τ) (O₀ c) ∅ ∗ Pipeline.launchCred O₀ c) ∗ G c) : sProp 𝕄) := by
    rw [← Pipeline.unscopedBufs_held (Ix := Unit) (Name := ℕ) (U := UU) (Lvl := ℕ) c (V0 m c), sems_eq]
    iintro ⟨Hb, Hs, HO, HC, -, HG⟩
    isplitl [Hb]; · iexact Hb
    isplitr [HG]
    · isplitl [Hs]; · iexact Hs
      isplitl [HO]; · iexact HO
      iexact HC
    iexact HG
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c) : sProp 𝕄)
      ⊢ iprop((bigSep Finset.univ fun c : Dev nD => StableHlo.held (c : Thread nD τ) (Pipeline.ucRefs τ sig) (V0 m c))
          ∗ (bigSep Finset.univ fun c : Dev nD => iprop(semVal (barCell c) 0 ∗ owes (c : Thread nD τ) (O₀ c) ∅ ∗ Pipeline.launchCred O₀ c))
          ∗ bigSep Finset.univ (G (F := F))) := by
    rw [← bigSep_sep' Finset.univ _ (G (F := F)), ← bigSep_sep' Finset.univ (fun c : Dev nD => (StableHlo.held (c : Thread nD τ) (Pipeline.ucRefs τ sig) (V0 m c) : sProp 𝕄))]
    exact bigSep_mono fun c _ => hcore c
  iintro ⟨H, HL⟩
  icases hall $$ H with ⟨Hh, Hr, HG⟩
  imod (launch m) $$ [Hr HG HL] with HR
  · isplitl [Hr]; · iexact Hr
    isplitl [HG]; · iapply (onFirst_all (F := F) _).1; iexact HG
    iexact HL
  imodintro
  rw [bigSep_sep']
  isplitl [Hh]; · iexact Hh
  iexact HR

/-! ## The run -/

/-- What is known of device c's memory at the end. -/
def AtEnd (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ ∃ o₀, s.mem ((c : Thread nD τ).loc main_v8) = outAt m c o₀ 32

theorem at_end (c : Dev nD) (s : MemSt nD τ sig (Elt F)) (o₀ : OBuf F)
    (h : ∀ b ∈ Pipeline.ucRefs τ sig, s.mem (c, b) = VE m c (outAt m c o₀ 32) b) : AtEnd m c s := by
  have at_ (r : Ref sig .tc) (hr : Proc.devRef .tc r ∈ Pipeline.ucRefs τ sig) : s.mem ((c : Thread nD τ).loc r) = VE m c (outAt m c o₀ 32) r := h _ hr
  have arg (r : Ref sig .tc) (hr : Proc.devRef .tc r ∈ Pipeline.ucRefs τ sig) (h8 : r ≠ main_v8) (h1 : r ∉ hostOps0_1_W) (h0 : r ∉ hostOps0_W) :
      s.mem ((c : Thread nD τ).loc r) = m ((c : Thread nD τ).loc r) :=
    (at_ r hr).trans ((VE_of m c _ r h8).trans (V2_arg m c r h1 h0))
  have mem (r : Ref sig .tc) (hs : ¬ (Proc.devRef (τ := τ) .tc r).isScoped = true) : Proc.devRef .tc r ∈ Pipeline.ucRefs τ sig :=
    Finset.mem_filter.mpr ⟨StableHlo.devRef_mem_tcRefs r, hs⟩
  exact ⟨⟨arg _ (mem _ (by decide)) (by decide) (by decide) (by decide), arg _ (mem _ (by decide)) (by decide) (by decide) (by decide),
    arg _ (mem _ (by decide)) (by decide) (by decide) (by decide), arg _ (mem _ (by decide)) (by decide) (by decide) (by decide)⟩,
    o₀, (at_ main_v8 (mem _ (by decide))).trans (VE_out m c _)⟩

set_option backward.isDefEq.respectTransparency.types false in
/-- From any memory with its semaphores at zero every run of the program on the four devices ends, the arguments unchanged, each
    device's result the 32nd value of the accumulation, every semaphore at zero. -/
theorem run_main : θ_run defs (onTc (τ := τ) (main (F := F))) ⟨m, fun _ => 0, ρ⟩
    (fun r => (∀ c : Dev nD, AtEnd m c r.2) ∧ r.2.sem = fun _ => 0) :=
  Pipeline.θ_run_regions_kit_dev_sems (pcfgs (F := F)) (pinned m) (dats m) () (cellOf_inj (pinned m)) EP defs₀ 𝒱₀ L lv m ρ main (segs m)
    (fun c Q => by
      rewrite [main_chain c, Pipeline.Seg.run_eq_chain,
        show (segs m c).map Pipeline.Seg.prog = [StableHlo.seq (hostOps0 c), StableHlo.seq hostOps0_1, Prog.lift (.customCall (Pipeline.entry 0) ())] from rfl]
      dsimp (config := { failIfUnchanged := false }) only
      exact .rfl)
    (fun c => by simp only [segs, Pipeline.Seg.pipes_host, Pipeline.Seg.pipes_nil]; decide)
    (O₀ := O₀) (hL := L_of_ne) (G := G) (u₀ := u₀ m)
    (hu₀ := by
      unfold u₀ G
      iintro Hu
      icases (ownU_pair _ _) $$ Hu with ⟨HP, HX⟩
      imodintro
      isplitl [HP]; · iexact HP
      iapply (onFirst_all (F := F) _).2
      iapply (seed_own (F := F))
      iexact HX)
    (T₀ := fun c => iprop(StableHlo.held (c : Thread nD τ) (Pipeline.ucRefs τ sig) (V0 m c) ∗ Rest m c))
    (Tₙ := fun c => iprop((∃ o₀, StableHlo.held (c : Thread nD τ) (Pipeline.ucRefs τ sig) (VE m c (outAt m c o₀ 32))) ∗ semVal (barCell c) 0))
    (hch := fun c => ⟨.rfl, .rfl, .rfl, by
      show Final m c ⊢ _
      unfold Final ow
      exact .rfl⟩)
    (hinit := init m ρ)
    (QY := fun c s => AtEnd m c s ∧ s.sem (barCell c) = 0)
    (hfin := fun c s' => by
      unfold StableHlo.held
      iintro ⟨⟨⟨%o₀, Hh⟩, Hb⟩, HSI⟩
      icombine HSI Hb gives %hb
      icases (pointsTo_read_all (Pipeline.ucRefs τ sig) (fun b => ((c : Thread nD τ).1, b)) (VE m c (outAt m c o₀ 32)) s') $$ [Hh HSI] with ⟨%h, HSI⟩
      · isplitl [Hh] <;> iassumption
      imodintro
      isplitr
      · ipureintro
        exact ⟨at_end m c _ o₀ h, by simpa using hb⟩
      iexact HSI)
    (hQ := fun s h hs => ⟨fun c => (h c).1, sem_eq_zero hs fun c sm hsm => by
      obtain rfl := unscoped_eq sm hsm
      exact (h c).2⟩)

end Cert.A2A

end
-- ==== Proof.Same.lean ====
/-
  The printed kernel and its idealization are one text printed twice. Here their body tables and their main functions are
  equated, over any floats, so that the run proved of the one is a run of the other.
-/
module

public import proofs.«01_k».proof.Proof.Gen.Kernel.Skeleton
public import proofs.«01_k».proof.Proof.Gen.KernelIdeal.Skeleton

@[expose] public section

noncomputable section

namespace Cert.Same

open Idealize.ShloMosaic Idealize.SL.Sem

variable {F : FTy → Type} [FloatOps F]

instance : Cert.Kernel.Facts := Cert.Kernel.Gen.facts
instance : Cert.KernelIdeal.Facts := Cert.KernelIdeal.Gen.facts

set_option maxHeartbeats 4000000 in
theorem body_eq : @Kernel.cc0_body F _ _ = @KernelIdeal.cc0_body F _ _ := (rfl)

set_option maxHeartbeats 4000000 in
theorem pcfg_eq : Kernel.pcfg0 (F := F) = KernelIdeal.pcfg0 (F := F) := (rfl)

set_option maxHeartbeats 4000000 in
theorem table_eq : Kernel.defs₀ (F := F) = KernelIdeal.defs₀ (F := F) := by
  refine congrArg (Defs.onTc (Λ := KernelIdeal.Λ₀)) (funext fun l => funext fun x => ?_)
  match l, x with
  | (0 : Fin 1), (t, s) => exact rfl

set_option maxHeartbeats 4000000 in
theorem main_eq : Kernel.main (F := F) = KernelIdeal.main (F := F) := (rfl)

/-- Equal tables and equal programs have the same runs. -/
theorem run_of_eq {nD : ℕ} {τ : Topo} {sig : RefSig} {Val : EltTy → Type} {Λ : Labels} {d d' : Defs nD τ sig Val Λ}
    (hd : d = d') {p p' : Dev nD → Prog (TpuEff nD τ sig Val Λ .tc) PUnit} (hp : p = p') {s : MemSt nD τ sig Val} {Q : PUnit × MemSt nD τ sig Val → Prop}
    (h : θ_run d' (onTc (τ := τ) p') s Q) : θ_run d (onTc (τ := τ) p) s Q := by
  subst hd hp; exact h

theorem defs_eq : Kernel.defs (F := F) = KernelIdeal.defs (F := F) :=
  congrArg (Pipeline.defs (KernelIdeal.pcfgs (F := F))) table_eq

end Cert.Same

end
-- ==== Proof.Blocks.lean ====
/-
  One block of the result written, read back place by place; and the comm buffer's blocks, place by place.
-/
module

public import proofs.«01_k».proof.Proof.Moves
public import Idealize.ShloMosaic.Lib.ValueLayout

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (c : Dev nD)

/-! ## Writing one block of the result -/

theorem oR_emb (k : Fin 4) (n : Fin 8) (a : Fin 256) (b : Fin 1024) :
    (oR k n).emb (ix2 a b) = (ix2 (⟨256 * k.val + a.val, by omega⟩ : Fin 1024) (⟨1024 * n.val + b.val, by omega⟩ : Fin 8192) : S1024x8192.Idx) := by
  refine funext fun (ax : Fin 2) => Fin.ext ?_
  match ax with
  | 0 => show 256 * k.val + 1 * a.val = 256 * k.val + a.val; omega
  | 1 => show 1024 * n.val + 1 * b.val = 1024 * n.val + b.val; omega

theorem oB_emb (n : Fin 8) (a b : Fin 1024) :
    (oB n).emb (ix2 a b) = (ix2 a (⟨1024 * n.val + b.val, by omega⟩ : Fin 8192) : S1024x8192.Idx) := by
  refine funext fun (ax : Fin 2) => Fin.ext ?_
  match ax with
  | 0 => show 0 + 1 * a.val = a.val; omega
  | 1 => show 1024 * n.val + 1 * b.val = 1024 * n.val + b.val; omega

omit [FloatOps F] in
/-- A write through a rectangle, outside it. -/
theorem write_out (r : Rect S1024x8192) (f : OBuf F) (w : r.shape.Idx → Elt F .f32) (i : S1024x8192.Idx) (h : i ∉ r.set) :
    (oM.access r).write (Elt F) f w Finset.univ i = f i := by
  refine View.write_of_not_mem (v := (oM.access r)) f w Finset.univ ?_
  rw [show (oM.access r).setOn Finset.univ = r.set from View.set_slice_whole _ _]
  exact h

omit [FloatOps F] in
theorem write_in (r : Rect S1024x8192) (f : OBuf F) (w : r.shape.Idx → Elt F .f32) (x : r.shape.Idx) :
    (oM.access r).write (Elt F) f w Finset.univ (r.emb x) = w x :=
  write_sl cc0_stg4_0 r f w x

omit [FloatOps F] in
theorem oR_cases (k : Fin 4) (n : Fin 8) (r : Fin 1024) (q : Fin 8192) :
    (∃ (a : Fin 256) (b : Fin 1024), r.val = 256 * k.val + a.val ∧ q.val = 1024 * n.val + b.val ∧ (ix2 r q : S1024x8192.Idx) = (oR k n).emb (ix2 a b))
      ∨ ¬ (r.val / 256 = k.val ∧ q.val / 1024 = n.val) ∧ (ix2 r q : S1024x8192.Idx) ∉ (oR k n).set := by
  by_cases h : r.val / 256 = k.val ∧ q.val / 1024 = n.val
  · refine .inl ⟨⟨r.val - 256 * k.val, by omega⟩, ⟨q.val - 1024 * n.val, by omega⟩, ?_, ?_, ?_⟩
    · show r.val = 256 * k.val + (r.val - 256 * k.val); omega
    · show q.val = 1024 * n.val + (q.val - 1024 * n.val); omega
    · rw [oR_emb]
      refine congrArg₂ ix2 (Fin.ext ?_) (Fin.ext ?_)
      · show r.val = 256 * k.val + (r.val - 256 * k.val); omega
      · show q.val = 1024 * n.val + (q.val - 1024 * n.val); omega
  · refine .inr ⟨h, fun hm => h ?_⟩
    rw [Rect.mem_set_unit] at hm
    have h0 : 256 * k.val ≤ r.val ∧ r.val < 256 * k.val + 256 := hm (0 : Fin 2)
    have h1 : 1024 * n.val ≤ q.val ∧ q.val < 1024 * n.val + 1024 := hm (1 : Fin 2)
    omega

omit [FloatOps F] in
theorem oB_cases (n : Fin 8) (r : Fin 1024) (q : Fin 8192) :
    (∃ b : Fin 1024, q.val = 1024 * n.val + b.val ∧ (ix2 r q : S1024x8192.Idx) = (oB n).emb (ix2 r b))
      ∨ ¬ (q.val / 1024 = n.val) ∧ (ix2 r q : S1024x8192.Idx) ∉ (oB n).set := by
  by_cases h : q.val / 1024 = n.val
  · refine .inl ⟨⟨q.val - 1024 * n.val, by omega⟩, ?_, ?_⟩
    · show q.val = 1024 * n.val + (q.val - 1024 * n.val); omega
    · rw [oB_emb]
      refine congrArg₂ ix2 rfl (Fin.ext ?_)
      show q.val = 1024 * n.val + (q.val - 1024 * n.val); omega
  · refine .inr ⟨h, fun hm => h ?_⟩
    rw [Rect.mem_set_unit] at hm
    have h1 : 1024 * n.val ≤ q.val ∧ q.val < 1024 * n.val + 1024 := hm (1 : Fin 2)
    omega

/-! ## What the comm buffer holds, place by place -/

theorem cv_apply (j k : Fin 4) (a : Fin 256) (κ : Fin 1024) :
    cv m c j k (ix3 (0 : Fin 1) a κ) = xv m j (ix2 (⟨1024 * c.val + (256 * k.val + a.val), by have : c.val < 4 := c.isLt; omega⟩ : Fin 4096) κ) := by
  unfold cv
  show commBuf m c ((cR j k).emb (ix3 (0 : Fin 1) a κ)) = _
  have e : (cR j k).emb (ix3 (0 : Fin 1) a κ) = (ix3 j (⟨256 * k.val + a.val, by omega⟩ : Fin 1024) κ : S4x1024x1024.Idx) := by
    refine funext fun (ax : Fin 3) => Fin.ext ?_
    match ax with
    | 0 => show j.val + 1 * 0 = j.val; omega
    | 1 => show 256 * k.val + 1 * a.val = 256 * k.val + a.val; omega
    | 2 => show 0 + 1 * κ.val = κ.val; omega
  rw [e]
  rfl

theorem sv_apply (j : Fin 4) (r κ : Fin 1024) :
    sv m c j (ix3 (0 : Fin 1) r κ) = xv m j (ix2 (⟨1024 * c.val + r.val, by have : c.val < 4 := c.isLt; omega⟩ : Fin 4096) κ) := by
  unfold sv
  show commBuf m c ((cS j).emb (ix3 (0 : Fin 1) r κ)) = _
  have e : (cS j).emb (ix3 (0 : Fin 1) r κ) = (ix3 j r κ : S4x1024x1024.Idx) := by
    refine funext fun (ax : Fin 3) => Fin.ext ?_
    match ax with
    | 0 => show j.val + 1 * 0 = j.val; omega
    | 1 => show 0 + 1 * r.val = r.val; omega
    | 2 => show 0 + 1 * κ.val = κ.val; omega
  rw [e]
  rfl

end Cert.A2A

end
-- ==== Proof.Value.lean ====
/-
  The result of the whole run at the extended reals, place by place: the four devices' parts summed, scaled and cut off below at zero.
-/
module

public import proofs.«01_k».proof.Proof.Blocks
public import Idealize.ShloMosaic.Lib.ValueIdx
public import Idealize.ShloMosaic.Lib.MatmulPlain
public import Idealize.ShloMosaic.Lib.Pipeline.Value

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (c : Dev nD)

/-! ## One grid point, at the extended reals -/

/-- The new element from the old one and the product p. -/
def fin4 (kb : Fin 4) (s : EReal) (old p : EReal) : EReal := if kb = 0 then p else if kb = 3 then max ((old + p) * s) 0 else old + p

theorem dimsC : dot_S256x1024_S1024x1024_S256x1024_1_0_0_1_n_n = DotDims.plain 256 1024 1024 := rfl
theorem dimsB : dot_S1024x1024_S1024x1024_S1024x1024_1_0_0_1_n_n = DotDims.plain 1024 1024 1024 := rfl

theorem prodC (w : Vec Ideal S1024x1024 .fp8e5m2) (x : Vec Ideal S1x256x1024 .fp8e5m2) (a : Fin 256) (b : Fin 1024) :
    k0_pay5 (F := Ideal) (k0_pay15 w) x (ix2 a b) = (∑ κ : Fin 1024, (x (ix3 (0 : Fin 1) a κ) : EReal) * w (ix2 κ b) : EReal) := by
  unfold k0_pay5 k0_pay15
  rw [dimsC, shapeCast_self]
  refine (Ideal.matmul_plain_apply _ _ _ _ a b).trans ?_
  show (Ideal.ofBits .f32 0x00000000#32 + _ : EReal) = _
  rw [Ideal.ofBits_zero_f32, zero_add]
  refine Finset.sum_congr rfl fun κ _ => ?_
  rw [shapeCast_1ab_ab_apply]

theorem prodB (w : Vec Ideal S1024x1024 .fp8e5m2) (x : Vec Ideal S1x1024x1024 .fp8e5m2) (a b : Fin 1024) :
    k0_pay1 (F := Ideal) (k0_pay15 w) x (ix2 a b) = (∑ κ : Fin 1024, (x (ix3 (0 : Fin 1) a κ) : EReal) * w (ix2 κ b) : EReal) := by
  unfold k0_pay1 k0_pay15
  rw [dimsB, shapeCast_self]
  refine (Ideal.matmul_plain_apply _ _ _ _ a b).trans ?_
  show (Ideal.ofBits .f32 0x00000000#32 + _ : EReal) = _
  rw [Ideal.ofBits_zero_f32, zero_add]
  refine Finset.sum_congr rfl fun κ _ => ?_
  rw [shapeCast_1ab_ab_apply]

theorem accC_apply (kb : Fin 4) (s2 s3 : Elt Ideal .f32) (w : Vec Ideal S1024x1024 .fp8e5m2) (x : Vec Ideal S1x256x1024 .fp8e5m2) (old : Vec Ideal S256x1024 .f32)
    (a : Fin 256) (b : Fin 1024) :
    accC kb s2 s3 w x old (ix2 a b) = fin4 kb ((s2 : EReal) * s3) (old (ix2 a b)) (∑ κ : Fin 1024, (x (ix3 (0 : Fin 1) a κ) : EReal) * w (ix2 κ b)) := by
  unfold accC fin4
  rw [← prodC]
  by_cases h0 : kb = 0
  · rw [if_pos h0, if_pos h0]
  rw [if_neg h0, if_neg h0]
  by_cases h3 : kb = 3
  · rw [if_pos h3, if_pos h3]
    unfold k0_pay7
    rw [shapeCast_self]
    show max ((_ + _ : EReal) * _) (Ideal.ofBits .f32 0x00000000#32) = _
    rw [Ideal.ofBits_zero_f32]
    rfl
  · rw [if_neg h3, if_neg h3]
    unfold k0_pay6
    rw [shapeCast_self]
    rfl

theorem accB_apply (kb : Fin 4) (s2 s3 : Elt Ideal .f32) (w : Vec Ideal S1024x1024 .fp8e5m2) (x : Vec Ideal S1x1024x1024 .fp8e5m2) (old : Vec Ideal S1024x1024 .f32)
    (a b : Fin 1024) :
    accB kb s2 s3 w x old (ix2 a b) = fin4 kb ((s2 : EReal) * s3) (old (ix2 a b)) (∑ κ : Fin 1024, (x (ix3 (0 : Fin 1) a κ) : EReal) * w (ix2 κ b)) := by
  unfold accB fin4
  rw [← prodB]
  by_cases h0 : kb = 0
  · rw [if_pos h0, if_pos h0]
  rw [if_neg h0, if_neg h0]
  by_cases h3 : kb = 3
  · rw [if_pos h3, if_pos h3]
    unfold k0_pay3
    rw [shapeCast_self]
    show max ((_ + _ : EReal) * _) (Ideal.ofBits .f32 0x00000000#32) = _
    rw [Ideal.ofBits_zero_f32]
    rfl
  · rw [if_neg h3, if_neg h3]
    unfold k0_pay2
    rw [shapeCast_self]
    rfl

/-- Row r of device c's block of the product with device j's part of the sum only, at column q. -/
def part (j : Dev nD) (r : Fin 1024) (q : Fin 8192) : EReal :=
  ∑ κ : Fin 1024, (xv m j (ix2 (⟨1024 * c.val + r.val, by have : c.val < 4 := c.isLt; omega⟩ : Fin 4096) κ) : EReal)
    * m ((c : Thread nD τ).loc main_arg1) (ix2 (⟨1024 * j.val + κ.val, by have : j.val < 4 := j.isLt; omega⟩ : Fin 4096) q)

theorem wB_apply (kb : Fin 4) (n : Fin 8) (κ b : Fin 1024) (q : Fin 8192) (hq : q.val = 1024 * n.val + b.val) :
    wB m c kb n (ix2 κ b) = m ((c : Thread nD τ).loc main_arg1) (ix2 (⟨1024 * (jAt c kb).val + κ.val, by have : (jAt c kb).val < 4 := (jAt c kb).isLt; omega⟩ : Fin 4096) q) := by
  unfold wB
  refine congrArg (m ((c : Thread nD τ).loc main_arg1)) ?_
  refine congrArg₂ ix2 rfl (Fin.ext hq.symm)

theorem rowStep_apply (kb : Fin 4) (s2 s3 : Elt Ideal .f32) (k : Fin 4) (o : OBuf Ideal) (r : Fin 1024) (q : Fin 8192) :
    rowStep kb s2 s3 (wB m c kb 0) (cv m c (jAt c kb) k) k o (ix2 r q)
      = if r.val / 256 = k.val ∧ q.val / 1024 = 0 then fin4 kb ((s2 : EReal) * s3) (o (ix2 r q)) (part m c (jAt c kb) r q) else o (ix2 r q) := by
  unfold rowStep
  obtain ⟨a, b, hr, hq, e⟩ | ⟨hn, hm⟩ := oR_cases k 0 r q
  · rw [if_pos ⟨by omega, by rw [hq]; show (1024 * 0 + b.val) / 1024 = 0; omega⟩]
    rw [show (ix2 r q : S1024x8192.Idx) = _ from e, write_in, accC_apply, ← e]
    refine congrArg₂ (fin4 kb _) (congrArg o e.symm) ?_
    refine Finset.sum_congr rfl fun κ _ => ?_
    rw [cv_apply, wB_apply m c kb 0 κ b q hq]
    refine congrArg₂ (fun x y : EReal => x * y) (congrArg (xv m (jAt c kb)) (congrArg₂ ix2 (Fin.ext ?_) rfl)) rfl
    show 1024 * c.val + (256 * k.val + a.val) = 1024 * c.val + r.val
    omega
  · rw [if_neg (show ¬ (r.val / 256 = k.val ∧ q.val / 1024 = 0) from hn), write_out _ _ _ _ hm]

theorem blkStep_apply (kb : Fin 4) (n : Fin 8) (s2 s3 : Elt Ideal .f32) (o : OBuf Ideal) (r : Fin 1024) (q : Fin 8192) :
    blkStep kb n s2 s3 (wB m c kb n) (sv m c (jAt c kb)) o (ix2 r q)
      = if q.val / 1024 = n.val then fin4 kb ((s2 : EReal) * s3) (o (ix2 r q)) (part m c (jAt c kb) r q) else o (ix2 r q) := by
  unfold blkStep
  obtain ⟨b, hq, e⟩ | ⟨hn, hm⟩ := oB_cases n r q
  · rw [if_pos (by omega)]
    rw [show (ix2 r q : S1024x8192.Idx) = _ from e, write_in, accB_apply, ← e]
    refine congrArg₂ (fin4 kb _) (congrArg o e.symm) ?_
    refine Finset.sum_congr rfl fun κ _ => ?_
    rw [sv_apply, wB_apply m c kb n κ b q hq]
  · rw [if_neg hn, write_out _ _ _ _ hm]

theorem point_apply (kb : Fin 4) (n : Fin 8) (s2 s3 : Elt Ideal .f32) (o : OBuf Ideal) (r : Fin 1024) (q : Fin 8192) :
    pointStep m c kb n s2 s3 (wB m c kb n) o (ix2 r q)
      = if q.val / 1024 = n.val then fin4 kb ((s2 : EReal) * s3) (o (ix2 r q)) (part m c (jAt c kb) r q) else o (ix2 r q) := by
  unfold pointStep
  by_cases h : n = 0
  · subst h
    rw [if_pos rfl]
    simp only [rowStep_apply]
    have hr : r.val < 1024 := r.isLt
    by_cases hq : q.val / 1024 = 0
    · rw [if_pos (show q.val / 1024 = (0 : Fin 8).val from hq)]
      have h4 : r.val / 256 = 0 ∨ r.val / 256 = 1 ∨ r.val / 256 = 2 ∨ r.val / 256 = 3 := by omega
      rcases h4 with h4 | h4 | h4 | h4 <;> simp [h4, hq]
    · rw [if_neg (show ¬ q.val / 1024 = (0 : Fin 8).val from hq)]
      simp [hq]
  · rw [if_neg h, blkStep_apply]

/-! ## All the points -/

theorem eight {α : Type} (f : ℕ → α) (b n : ℕ) (g : α → α) (h : ∀ i < 8, f (b + i + 1) = if n = i then g (f (b + i)) else f (b + i)) :
    ∀ i ≤ 8, f (b + i) = if n < i then g (f b) else f b
  | 0, _ => by rw [if_neg (Nat.not_lt_zero n)]; rfl
  | i + 1, hi => by
    have ih := eight f b n g h i (by omega)
    rw [show b + (i + 1) = b + i + 1 from rfl, h i (by omega)]
    by_cases hn : n = i
    · rw [if_pos hn, if_pos (by omega), ih, if_neg (by omega)]
    · rw [if_neg hn, ih]
      by_cases hl : n < i
      · rw [if_pos hl, if_pos (by omega)]
      · rw [if_neg hl, if_neg (by omega)]

theorem round_apply (o₀ : OBuf Ideal) (kb : Fin 4) (r : Fin 1024) (q : Fin 8192) :
    outAt m c o₀ (8 * kb.val + 8) (ix2 r q) = fin4 kb ((sc2 m c : EReal) * sc3 m c) (outAt m c o₀ (8 * kb.val) (ix2 r q)) (part m c (jAt c kb) r q) := by
  have hq : q.val < 8192 := q.isLt
  have h := eight (fun t => (outAt m c o₀ t (ix2 r q) : EReal)) (8 * kb.val) (q.val / 1024)
    (fun old => fin4 kb ((sc2 m c : EReal) * sc3 m c) old (part m c (jAt c kb) r q)) (fun i hi => by
      have hk : (⟨(8 * kb.val + i) / 8 % 4, Nat.mod_lt _ (by decide)⟩ : Fin 4) = kb := Fin.ext (by show (8 * kb.val + i) / 8 % 4 = kb.val; omega)
      have hn : (8 * kb.val + i) % 8 = i := by omega
      show pointStep m c _ _ _ _ _ _ (ix2 r q) = _
      rw [hk, point_apply]
      show (if q.val / 1024 = (8 * kb.val + i) % 8 then _ else _) = _
      rw [hn]) 8 le_rfl
  rw [if_pos (by omega)] at h
  exact h

/-- Every device appears once in the order a device takes them in. -/
theorem jAt_bij (c : Dev nD) : Function.Bijective (jAt c : Fin 4 → Fin 4) := by revert c; decide

theorem out_apply (o₀ : OBuf Ideal) (r : Fin 1024) (q : Fin 8192) :
    (outAt m c o₀ 32 (ix2 r q) : EReal) = max ((∑ j : Fin 4, part m c j r q) * ((sc2 m c : EReal) * sc3 m c)) 0 := by
  have h3 := round_apply m c o₀ 3 r q
  have h2 := round_apply m c o₀ 2 r q
  have h1 := round_apply m c o₀ 1 r q
  have h0 := round_apply m c o₀ 0 r q
  have hb := jAt_bij c
  refine h3.trans ?_
  rw [show 8 * (3 : Fin 4).val = 8 * (2 : Fin 4).val + 8 from rfl, h2, show 8 * (2 : Fin 4).val = 8 * (1 : Fin 4).val + 8 from rfl, h1,
    show 8 * (1 : Fin 4).val = 8 * (0 : Fin 4).val + 8 from rfl, h0]
  show max ((((part m c (jAt c 0) r q + part m c (jAt c 1) r q) + part m c (jAt c 2) r q) + part m c (jAt c 3) r q) * _) 0 = _
  rw [← hb.sum_comp (fun j : Fin 4 => part m c j r q), Fin.sum_univ_four]

end Cert.A2A

end
-- ==== Proof.Reference.lean ====
/-
  The reference's run, read: its result array is one function of the arguments, the reference's own payload.
-/
module

public import proofs.«01_k».proof.Proof.Gen.ReferenceIdeal.Value
public import Idealize.ShloMosaic.Lib.ValueIdx
public import Idealize.ShloMosaic.Lib.MatmulPlain

@[expose] public section

noncomputable section

namespace Cert.ReferenceIdeal.Read

open Cert.ReferenceIdeal Cert.ReferenceIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => match a with | 0 => rfl | 1 => rfl

/-- What the body stores, of what its four operands hold. -/
theorem out_eq (c : Dev nD) (a0 : Memref sig .tc .vmem S4096x4096 .fp8e5m2) (h0 : a0.IsWhole) (a1 : Memref sig .tc .vmem S4096x8192 .fp8e5m2) (h1 : a1.IsWhole)
    (a2 : Memref sig .tc .smem S1 .f32) (h2 : a2.IsWhole) (a3 : Memref sig .tc .smem S1 .f32) (h3 : a3.IsWhole)
    (a4 : Memref sig .tc .vmem S4096x8192 .f32) (h4 : a4.IsWhole)
    (x0 : Vec F S4096x4096 .fp8e5m2) (x1 : Vec F S4096x8192 .fp8e5m2) (x2 : Vec F S1 .f32) (x3 : Vec F S1 .f32) :
    out0_A_4 c a0 h0 a1 h1 a2 h2 a3 h3 a4 h4 x0 x1 x2 x3 = k0_pay1 x0 x1 (x2 (ix1 (n := 1) 0)) (x3 (ix1 (n := 1) 0)) := by
  unfold out0_A_4
  rw [View.read_writes_eq_canon _ _ _ (cover0_A_4 c a0 h0 a1 h1 a2 h2 a3 h3 a4 h4 x0 x1 x2 x3)]
  unfold kernelRun0_A
  dsimp only
  rw [View.canon_unit_zero hz2]
  simp only [View.readAt_eq_ld, h0.read_unread, h1.read_unread, h2.read_unread, h3.read_unread, View.ld_unit_zero (S := S4096x4096) hz2, View.ld_unit_zero (S := S4096x8192) hz2]
  sl_unfold_words
  refine congrArg₂ (k0_pay1 x0 x1) ?_ ?_
  · rw [View.readAt_eq_ld, h2.read_unread]
    exact congrArg x2 (funext fun a : Fin 1 => match a with | 0 => Subsingleton.elim (α := Fin 1) _ _)
  · rw [View.readAt_eq_ld, h3.read_unread]
    exact congrArg x3 (funext fun a : Fin 1 => match a with | 0 => Subsingleton.elim (α := Fin 1) _ _)

/-- The result array. -/
abbrev result (c : Dev nD) : Buf (Elt F) ((c : Thread nD τ).loc main_v0) :=
  k0_pay1 (m ((c : Thread nD τ).loc main_arg0)) (m ((c : Thread nD τ).loc main_arg1)) (m ((c : Thread nD τ).loc main_arg2) (ix1 (n := 1) 0)) (m ((c : Thread nD τ).loc main_arg3) (ix1 (n := 1) 0))

theorem blk0 (c : Dev nD) (t : Fin cfg0.N) : iblk m c 0 t = m ((c : Thread nD τ).loc main_arg0) := by
  have hz' : (fun a => win0_0.index t a * main_arg0.ty.shape.size a) = fun _ => 0 := funext fun a => match a with | 0 => Nat.zero_mul _ | 1 => Nat.zero_mul _
  exact Memref.read_access_unit_zero (Elt F) main_arg0 hz' (fun a => by rw [congrFun hz' a]; simp) (m ((c : Thread nD τ).loc main_arg0))
theorem blk1 (c : Dev nD) (t : Fin cfg0.N) : iblk m c 1 t = m ((c : Thread nD τ).loc main_arg1) := by
  have hz' : (fun a => win0_1.index t a * main_arg1.ty.shape.size a) = fun _ => 0 := funext fun a => match a with | 0 => Nat.zero_mul _ | 1 => Nat.zero_mul _
  exact Memref.read_access_unit_zero (Elt F) main_arg1 hz' (fun a => by rw [congrFun hz' a]; simp) (m ((c : Thread nD τ).loc main_arg1))
theorem blk2 (c : Dev nD) (t : Fin cfg0.N) : iblk m c 2 t = m ((c : Thread nD τ).loc main_arg2) := by
  have hz' : (fun a => win0_2.index t a * main_arg2.ty.shape.size a) = fun _ => 0 := funext fun a => match a with | 0 => Nat.zero_mul _
  exact Memref.read_access_unit_zero (Elt F) main_arg2 hz' (fun a => by rw [congrFun hz' a]; simp) (m ((c : Thread nD τ).loc main_arg2))
theorem blk3 (c : Dev nD) (t : Fin cfg0.N) : iblk m c 3 t = m ((c : Thread nD τ).loc main_arg3) := by
  have hz' : (fun a => win0_3.index t a * main_arg3.ty.shape.size a) = fun _ => 0 := funext fun a => match a with | 0 => Nat.zero_mul _
  exact Memref.read_access_unit_zero (Elt F) main_arg3 hz' (fun a => by rw [congrFun hz' a]; simp) (m ((c : Thread nD τ).loc main_arg3))

theorem flushed_eq (c : Dev nD) (t : Fin cfg0.N) (hf : (cfg0.win 4).flush t = true) :
    (dats m 0 c).flushed 4 t = ((cfg0.win 4).blk t).view.read (Elt F) (result m c) := by
  rw [Value.flushed4_A, out_eq, blk0, blk1, blk2, blk3]
  have hz' : (fun a => win0_4.index t a * main_v0.ty.shape.size a) = fun _ => 0 := funext fun a => match a with | 0 => Nat.zero_mul _ | 1 => Nat.zero_mul _
  exact (Memref.read_access_unit_zero (Elt F) main_v0 hz' (fun a => by rw [congrFun hz' a]; simp) (result m c)).symm

theorem final (c : Dev nD) : (dats m 0 c).arrAt 4 cfg0.N = result m c := by
  have hN : 0 < cfg0.N := by decide
  refine (dats m 0 c).arrAt_eq_of_cover 4 (result m c) (flushed_eq m c) fun i => ⟨⟨0, hN⟩, flush0_4 _, ?_⟩
  show i ∈ ((View.whole main_v0).slice (win0_4.rect ⟨0, hN⟩)).set
  rw [View.set_slice_whole, Rect.mem_set_unit]
  intro a
  have b0 : (i 0 : Nat) < 4096 := (i 0).isLt
  have b1 : (i 1 : Nat) < 8192 := (i 1).isLt
  match a with
  | ⟨0, _⟩ => show 0 * 4096 ≤ (i 0 : Nat) ∧ (i 0 : Nat) < 0 * 4096 + 4096; omega
  | ⟨1, _⟩ => show 0 * 8192 ≤ (i 1 : Nat) ∧ (i 1 : Nat) < 0 * 8192 + 8192; omega

theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-! ## At the extended reals -/

theorem dims : dot_S4096x4096_S4096x8192_S4096x8192_1_0_0_1_n_n = DotDims.plain 4096 4096 8192 := rfl

/-- The payload at one place: the textbook formula. -/
theorem pay_apply (x : Vec Ideal S4096x4096 .fp8e5m2) (w : Vec Ideal S4096x8192 .fp8e5m2) (a b : Elt Ideal .f32) (r : Fin 4096) (q : Fin 8192) :
    k0_pay1 (F := Ideal) x w a b (ix2 r q) = max ((∑ κ : Fin 4096, (x (ix2 r κ) : EReal) * w (ix2 κ q)) * ((a : EReal) * b)) (0 : EReal) := by
  unfold k0_pay1
  rw [dims]
  show max ((FloatOps.matmul (F := Ideal) (DotDims.plain 4096 4096 8192) none _ _ _ (ix2 r q) : EReal) * _) _ = _
  rw [Ideal.matmul_plain_apply]
  show max ((Ideal.ofBits .f32 0x00000000#32 + _ : EReal) * _) (Ideal.ofBits .f32 0x00000000#32) = _
  rw [Ideal.ofBits_zero_f32, zero_add]
  rfl

end Cert.ReferenceIdeal.Read

end
-- ==== Proof.Agree.lean ====
/-
  The kernel's result is its device's block of the reference's: the reference's sum over all 4096 places is the
  sum of the four devices' parts.
-/
module

public import proofs.«01_k».proof.Proof.Value
public import proofs.«01_k».proof.Proof.Reference

@[expose] public section

noncomputable section

namespace Cert.Agree

open Idealize.ShloMosaic Idealize.ShloMosaic.TcCoe Idealize.ShloMosaic.ValueIdx Idealize.SL.Sem
open Cert.A2A (part)

/-- A sum over 4096 places, in four runs of 1024. -/
theorem sum_runs (f : Fin 4096 → EReal) : (∑ κ : Fin 4096, f κ) = ∑ j : Fin 4, ∑ κ : Fin 1024, f ⟨1024 * j.val + κ.val, by omega⟩ := by
  rw [← Fintype.sum_prod_type' (f := fun (j : Fin 4) (κ : Fin 1024) => f ⟨1024 * j.val + κ.val, by omega⟩)]
  refine (Equiv.sum_comp (finProdFinEquiv (m := 4) (n := 1024)) (f : Fin (4 * 1024) → EReal)).symm.trans ?_
  refine Finset.sum_congr rfl fun p _ => congrArg f (Fin.ext ?_)
  show p.2.val + 1024 * p.1.val = 1024 * p.1.val + p.2.val
  omega

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs start from the same arguments, the first cut by columns over the devices. -/
def Inputs : Prop := ∀ c : Dev Cert.KernelIdeal.nD,
  m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
  ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
  ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
  ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)

variable {m m'}

/-- A device's column block, read at a place. -/
theorem x_apply (h : Inputs m m') (j : Dev Cert.KernelIdeal.nD) (R : Fin 4096) (κ : Fin 1024) :
    Cert.A2A.xv m j (ix2 R κ) = m' (((0 : Dev Cert.ReferenceIdeal.nD).tc : Thread Cert.ReferenceIdeal.nD Cert.ReferenceIdeal.τ).loc Cert.ReferenceIdeal.main_arg0) (ix2 R (⟨1024 * j.val + κ.val, by have : j.val < 4 := j.isLt; omega⟩ : Fin 4096)) := by
  refine (congrFun (h j).1 (ix2 R κ)).trans ?_
  refine congrArg (m' (((0 : Dev Cert.ReferenceIdeal.nD).tc : Thread Cert.ReferenceIdeal.nD Cert.ReferenceIdeal.τ).loc Cert.ReferenceIdeal.main_arg0)) ?_
  refine funext fun (ax : Fin 2) => Fin.ext ?_
  match ax with
  | 0 => rfl
  | 1 => show j.val * 1024 + κ.val = 1024 * j.val + κ.val; omega

/-- The kernel's result on device c. -/
theorem block_eq (h : Inputs m m') (c : Dev Cert.KernelIdeal.nD) (o₀ : Cert.A2A.OBuf Ideal) :
    Cert.A2A.outAt m c o₀ 32 = Layout.block ⟨2, ![1024, 8192]⟩ ⟨2, ![4096, 8192]⟩ 0 4 c (Cert.ReferenceIdeal.Read.result m' 0) := by
  refine funext fun (i : (⟨2, ![1024, 8192]⟩ : Shape).Idx) => ?_
  have hc : c.val < 4 := c.isLt
  have hr : (i 0).val < 1024 := (i 0).isLt
  have hi : i = ix2 (i 0) (i 1) := funext fun (ax : Fin 2) => match ax with | 0 => rfl | 1 => rfl
  have hv : Layout.block ⟨2, ![1024, 8192]⟩ ⟨2, ![4096, 8192]⟩ 0 4 c (Cert.ReferenceIdeal.Read.result m' 0) (by decide) i
      = Cert.ReferenceIdeal.Read.result m' 0 (ix2 (⟨1024 * c.val + (i 0).val, by omega⟩ : Fin 4096) (i 1)) := by
    refine congrArg (Cert.ReferenceIdeal.Read.result m' 0) (funext fun (ax : Fin 2) => Fin.ext ?_)
    match ax with
    | 0 => show c.val * 1024 + (i 0).val = 1024 * c.val + (i 0).val; omega
    | 1 => rfl
  rw [hv]
  refine (congrArg (Cert.A2A.outAt m c o₀ 32) hi).trans ((Cert.A2A.out_apply m c o₀ (i 0) (i 1)).trans ?_)
  refine Eq.trans ?_ (Cert.ReferenceIdeal.Read.pay_apply _ _ _ _ _ (i 1)).symm
  rw [sum_runs]
  refine congrArg₂ (fun x y : EReal => max (x * y) 0) ?_ ?_
  · refine Finset.sum_congr rfl fun j _ => Finset.sum_congr rfl fun κ _ => ?_
    rw [x_apply h]
    exact congrArg (fun y : EReal => _ * y) (congrFun (h c).2.1 _)
  · exact congrArg₂ (fun x y : EReal => x * y) (congrFun (h c).2.2.1 _) (congrFun (h c).2.2.2 _)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  Cert.Same.run_of_eq (nD := Cert.Kernel.nD) (τ := Cert.Kernel.τ) (sig := Cert.Kernel.sig) Cert.Same.defs_eq Cert.Same.main_eq
    ((θ_run Cert.KernelIdeal.defs _ _).mono (fun _ h => ⟨fun c => (h.1 c).1, h.2⟩) (Cert.A2A.run_main (F := Bits) m ρ))

theorem frame_ideal : Cert.quiescent_KernelIdeal := fun m ρ _ =>
  (θ_run Cert.KernelIdeal.defs _ _).mono (fun _ h => ⟨fun c => (h.1 c).1, h.2⟩) (Cert.A2A.run_main (F := Ideal) m ρ)

theorem values : Cert.algebraic_KernelIdeal_ReferenceIdeal := fun m ρ m' ρ' _ h =>
  ⟨Cert.ReferenceIdeal.Read.result m' 0,
    (θ_run Cert.KernelIdeal.defs _ _).mono (fun _ hr c => by
      obtain ⟨ha, o₀, ho⟩ := hr.1 c
      exact ⟨ho.trans (Cert.Agree.block_eq h c o₀), ha⟩) (Cert.A2A.run_main (F := Ideal) m ρ),
    (θ_run Cert.ReferenceIdeal.defs _ _).mono (fun _ hr => hr 0) (Cert.ReferenceIdeal.Read.run m' ρ')⟩

theorem claim : Cert.Claim := ⟨Cert.Kernel.Gen.facts, Cert.KernelIdeal.Gen.facts, Cert.ReferenceIdeal.Gen.facts, frame_kernel, frame_ideal,
  fun m ρ _ => Cert.ReferenceIdeal.Gen.frame m ρ, trivial, values⟩

end Cert.Proof

end
